-- ==== Defs.lean ====
def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvIdeal_fox_dkv_finite [hPre_fox_dkv_finite : Cert.Pre_fox_dkv_finite.Facts] (m : (ℓ : Loc Cert.DkvIdeal.nD Cert.DkvIdeal.τ Cert.DkvIdeal.sig) → Buf (Elt Ideal) ℓ) : Prop :=
  ∀ c : Dev Cert.DkvIdeal.nD,
    (Cert.Pre_fox_dkv_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3)) (m ((c.tc : Thread Cert.DkvIdeal.nD Cert.DkvIdeal.τ).loc Cert.DkvIdeal.main_arg4))) = (fun _ => 1#1)

def Pre_DkvRefIdeal (m : (ℓ : Loc Cert.DkvRefIdeal.nD Cert.DkvRefIdeal.τ Cert.DkvRefIdeal.sig) → Buf (Elt Ideal) ℓ) : Prop :=
  True

def Pre_DkvRefIdeal_fox_dkv_finite [hPre_fox_dkv_finite : Cert.Pre_fox_dkv_finite.Facts] (m : (ℓ : Loc Cert.DkvRefIdeal.nD Cert.DkvRefIdeal.τ Cert.DkvRefIdeal.sig) → Buf (Elt Ideal) ℓ) : Prop :=
  ∀ c : Dev Cert.DkvRefIdeal.nD,
    (Cert.Pre_fox_dkv_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3)) (m ((c.tc : Thread Cert.DkvRefIdeal.nD Cert.DkvRefIdeal.τ).loc Cert.DkvRefIdeal.main_arg4))) = (fun _ => 1#1)

def Pre_DkvSavedIdeal (m : (ℓ : Loc Cert.DkvSavedIdeal.nD Cert.DkvSavedIdeal.τ Cert.DkvSavedIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_fox_fwd_finite [hPre_fox_fwd_finite : Cert.Pre_fox_fwd_finite.Facts] (m : (ℓ : Loc Cert.AttIdeal.nD Cert.AttIdeal.τ Cert.AttIdeal.sig) → Buf (Elt Ideal) ℓ) : Prop :=
  ∀ c : Dev Cert.AttIdeal.nD,
    (Cert.Pre_fox_fwd_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_fox_fwd_finite [hPre_fox_fwd_finite : Cert.Pre_fox_fwd_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_fox_fwd_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3))) = (fun _ => 1#1)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1)
      ∧ r.2.mem ((c.tc : Thread Cert.Dkv.nD Cert.Dkv.τ).loc Cert.Dkv.main_arg2) = m ((c.tc : Thread Cert.Dkv.nD Cert.Dkv.τ).loc Cert.Dkv.main_arg2)
      ∧ r.2.mem ((c.tc : Thread Cert.Dkv.nD Cert.Dkv.τ).loc Cert.Dkv.main_arg3) = m ((c.tc : Thread Cert.Dkv.nD Cert.Dkv.τ).loc Cert.Dkv.main_arg3)
      ∧ r.2.mem ((c.tc : Thread Cert.Dkv.nD Cert.Dkv.τ).loc Cert.Dkv.main_arg4) = m ((c.tc : Thread Cert.Dkv.nD Cert.Dkv.τ).loc Cert.Dkv.main_arg4))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3)
      ∧ r.2.mem ((c.tc : Thread Cert.DkvIdeal.nD Cert.DkvIdeal.τ).loc Cert.DkvIdeal.main_arg4) = m ((c.tc : Thread Cert.DkvIdeal.nD Cert.DkvIdeal.τ).loc Cert.DkvIdeal.main_arg4))
      ∧ r.2.sem = fun _ => 0)

def quiescent_DkvIdeal_pre_fox_dkv_finite [hDkvIdeal : Cert.DkvIdeal.Facts] [hPre_fox_dkv_finite : Cert.Pre_fox_dkv_finite.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal_fox_dkv_finite m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3)
      ∧ r.2.mem ((c.tc : Thread Cert.DkvIdeal.nD Cert.DkvIdeal.τ).loc Cert.DkvIdeal.main_arg4) = m ((c.tc : Thread Cert.DkvIdeal.nD Cert.DkvIdeal.τ).loc Cert.DkvIdeal.main_arg4))
      ∧ r.2.sem = fun _ => 0)

def quiescent_DkvRefIdeal [hDkvRefIdeal : Cert.DkvRefIdeal.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3)
      ∧ r.2.mem ((c.tc : Thread Cert.DkvRefIdeal.nD Cert.DkvRefIdeal.τ).loc Cert.DkvRefIdeal.main_arg4) = m ((c.tc : Thread Cert.DkvRefIdeal.nD Cert.DkvRefIdeal.τ).loc Cert.DkvRefIdeal.main_arg4))
      ∧ r.2.sem = fun _ => 0)

def quiescent_DkvRefIdeal_pre_fox_dkv_finite [hDkvRefIdeal : Cert.DkvRefIdeal.Facts] [hPre_fox_dkv_finite : Cert.Pre_fox_dkv_finite.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal_fox_dkv_finite m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3)
      ∧ r.2.mem ((c.tc : Thread Cert.DkvRefIdeal.nD Cert.DkvRefIdeal.τ).loc Cert.DkvRefIdeal.main_arg4) = m ((c.tc : Thread Cert.DkvRefIdeal.nD Cert.DkvRefIdeal.τ).loc Cert.DkvRefIdeal.main_arg4))
      ∧ r.2.sem = fun _ => 0)

def quiescent_DkvSavedIdeal [hDkvSavedIdeal : Cert.DkvSavedIdeal.Facts] : Prop :=
  ∀ (m : (ℓ : Loc Cert.DkvSavedIdeal.nD Cert.DkvSavedIdeal.τ Cert.DkvSavedIdeal.sig) → Buf (Elt Ideal) ℓ) (g : Dev Cert.DkvSavedIdeal.nD → PrngReg), Pre_DkvSavedIdeal m →
    θ_run (Cert.DkvSavedIdeal.defs (F := Ideal)) (onTc (τ := Cert.DkvSavedIdeal.τ) (Cert.DkvSavedIdeal.main (F := Ideal))) ⟨m, fun _ => 0, g⟩ (fun r => (∀ c : Dev Cert.DkvSavedIdeal.nD,
      r.2.mem ((c.tc : Thread Cert.DkvSavedIdeal.nD Cert.DkvSavedIdeal.τ).loc Cert.DkvSavedIdeal.main_arg0) = m ((c.tc : Thread Cert.DkvSavedIdeal.nD Cert.DkvSavedIdeal.τ).loc Cert.DkvSavedIdeal.main_arg0)
      ∧ r.2.mem ((c.tc : Thread Cert.DkvSavedIdeal.nD Cert.DkvSavedIdeal.τ).loc Cert.DkvSavedIdeal.main_arg1) = m ((c.tc : Thread Cert.DkvSavedIdeal.nD Cert.DkvSavedIdeal.τ).loc Cert.DkvSavedIdeal.main_arg1)
      ∧ r.2.mem ((c.tc : Thread Cert.DkvSavedIdeal.nD Cert.DkvSavedIdeal.τ).loc Cert.DkvSavedIdeal.main_arg2) = m ((c.tc : Thread Cert.DkvSavedIdeal.nD Cert.DkvSavedIdeal.τ).loc Cert.DkvSavedIdeal.main_arg2)
      ∧ r.2.mem ((c.tc : Thread Cert.DkvSavedIdeal.nD Cert.DkvSavedIdeal.τ).loc Cert.DkvSavedIdeal.main_arg3) = m ((c.tc : Thread Cert.DkvSavedIdeal.nD Cert.DkvSavedIdeal.τ).loc Cert.DkvSavedIdeal.main_arg3)
      ∧ r.2.mem ((c.tc : Thread Cert.DkvSavedIdeal.nD Cert.DkvSavedIdeal.τ).loc Cert.DkvSavedIdeal.main_arg4) = m ((c.tc : Thread Cert.DkvSavedIdeal.nD Cert.DkvSavedIdeal.τ).loc Cert.DkvSavedIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttIdeal_pre_fox_fwd_finite [hAttIdeal : Cert.AttIdeal.Facts] [hPre_fox_fwd_finite : Cert.Pre_fox_fwd_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_fox_fwd_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_AttRefIdeal_pre_fox_fwd_finite [hAttRefIdeal : Cert.AttRefIdeal.Facts] [hPre_fox_fwd_finite : Cert.Pre_fox_fwd_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_fox_fwd_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def preserves_Dkv_DkvIdeal : Prop :=
  IdealRules.named_const.Statement Cert.DkvIdeal.κ "scale2" .f32 0x3E0293EE#32 (((11863283 / 134217728) * (Real.log 2)⁻¹ : ℝ) : EReal)
  ∧ IdealRules.named_const.Statement Cert.DkvIdeal.κ "mask" .f32 0xF149F2CA#32 ⊥

def algebraic_DkvIdeal_DkvRefIdeal_pre_fox_dkv_finite [hDkvIdeal : Cert.DkvIdeal.Facts] [hDkvRefIdeal : Cert.DkvRefIdeal.Facts] [hPre_fox_dkv_finite : Cert.Pre_fox_dkv_finite.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.DkvRefIdeal.nD Cert.DkvRefIdeal.τ Cert.DkvRefIdeal.sig) → Buf (Elt Ideal) ℓ) (g' : Dev Cert.DkvRefIdeal.nD → PrngReg), Pre_DkvIdeal_fox_dkv_finite m →
    (∀ c : Dev Cert.DkvIdeal.nD,
      m' ((c.tc : Thread Cert.DkvRefIdeal.nD Cert.DkvRefIdeal.τ).loc Cert.DkvRefIdeal.main_arg0) = m ((c.tc : Thread Cert.DkvIdeal.nD Cert.DkvIdeal.τ).loc Cert.DkvIdeal.main_arg0)
      ∧ m' ((c.tc : Thread Cert.DkvRefIdeal.nD Cert.DkvRefIdeal.τ).loc Cert.DkvRefIdeal.main_arg1) = m ((c.tc : Thread Cert.DkvIdeal.nD Cert.DkvIdeal.τ).loc Cert.DkvIdeal.main_arg1)
      ∧ m' ((c.tc : Thread Cert.DkvRefIdeal.nD Cert.DkvRefIdeal.τ).loc Cert.DkvRefIdeal.main_arg2) = m ((c.tc : Thread Cert.DkvIdeal.nD Cert.DkvIdeal.τ).loc Cert.DkvIdeal.main_arg2)
      ∧ m' ((c.tc : Thread Cert.DkvRefIdeal.nD Cert.DkvRefIdeal.τ).loc Cert.DkvRefIdeal.main_arg3) = m ((c.tc : Thread Cert.DkvIdeal.nD Cert.DkvIdeal.τ).loc Cert.DkvIdeal.main_arg3)
      ∧ m' ((c.tc : Thread Cert.DkvRefIdeal.nD Cert.DkvRefIdeal.τ).loc Cert.DkvRefIdeal.main_arg4) = m ((c.tc : Thread Cert.DkvIdeal.nD Cert.DkvIdeal.τ).loc Cert.DkvIdeal.main_arg4)) →
    ∃ (v0 : (c : Dev Cert.DkvIdeal.nD) → Buf (Elt Ideal) ((c.tc : Thread Cert.DkvIdeal.nD Cert.DkvIdeal.τ).loc Cert.DkvIdeal.main_v51_0)) (v1 : (c : Dev Cert.DkvIdeal.nD) → Buf (Elt Ideal) ((c.tc : Thread Cert.DkvIdeal.nD Cert.DkvIdeal.τ).loc Cert.DkvIdeal.main_v51_1)) (v2 : (c : Dev Cert.DkvIdeal.nD) → Buf (Elt Ideal) ((c.tc : Thread Cert.DkvIdeal.nD Cert.DkvIdeal.τ).loc Cert.DkvIdeal.main_v51_2)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v51_0) = v0 c
          ∧ r.2.mem ((c.tc : Thread Cert.DkvIdeal.nD Cert.DkvIdeal.τ).loc Cert.DkvIdeal.main_v51_1) = v1 c
          ∧ r.2.mem ((c.tc : Thread Cert.DkvIdeal.nD Cert.DkvIdeal.τ).loc Cert.DkvIdeal.main_v51_2) = v2 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
          ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
          ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3)
          ∧ r.2.mem ((c.tc : Thread Cert.DkvIdeal.nD Cert.DkvIdeal.τ).loc Cert.DkvIdeal.main_arg4) = m ((c.tc : Thread Cert.DkvIdeal.nD Cert.DkvIdeal.τ).loc Cert.DkvIdeal.main_arg4))
      ∧ θ_run (Cert.DkvRefIdeal.defs (F := Ideal)) (onTc (τ := Cert.DkvRefIdeal.τ) (Cert.DkvRefIdeal.main (F := Ideal))) ⟨m', fun _ => 0, g'⟩ (fun r => ∀ c : Dev Cert.DkvRefIdeal.nD,
          r.2.mem ((c.tc : Thread Cert.DkvRefIdeal.nD Cert.DkvRefIdeal.τ).loc Cert.DkvRefIdeal.main_v84) = v0 c
          ∧ r.2.mem ((c.tc : Thread Cert.DkvRefIdeal.nD Cert.DkvRefIdeal.τ).loc Cert.DkvRefIdeal.main_v85) = v1 c
          ∧ r.2.mem ((c.tc : Thread Cert.DkvRefIdeal.nD Cert.DkvRefIdeal.τ).loc Cert.DkvRefIdeal.main_v86) = v2 c
          ∧ r.2.mem ((c.tc : Thread Cert.DkvRefIdeal.nD Cert.DkvRefIdeal.τ).loc Cert.DkvRefIdeal.main_arg0) = m' ((c.tc : Thread Cert.DkvRefIdeal.nD Cert.DkvRefIdeal.τ).loc Cert.DkvRefIdeal.main_arg0)
          ∧ r.2.mem ((c.tc : Thread Cert.DkvRefIdeal.nD Cert.DkvRefIdeal.τ).loc Cert.DkvRefIdeal.main_arg1) = m' ((c.tc : Thread Cert.DkvRefIdeal.nD Cert.DkvRefIdeal.τ).loc Cert.DkvRefIdeal.main_arg1)
          ∧ r.2.mem ((c.tc : Thread Cert.DkvRefIdeal.nD Cert.DkvRefIdeal.τ).loc Cert.DkvRefIdeal.main_arg2) = m' ((c.tc : Thread Cert.DkvRefIdeal.nD Cert.DkvRefIdeal.τ).loc Cert.DkvRefIdeal.main_arg2)
          ∧ r.2.mem ((c.tc : Thread Cert.DkvRefIdeal.nD Cert.DkvRefIdeal.τ).loc Cert.DkvRefIdeal.main_arg3) = m' ((c.tc : Thread Cert.DkvRefIdeal.nD Cert.DkvRefIdeal.τ).loc Cert.DkvRefIdeal.main_arg3)
          ∧ r.2.mem ((c.tc : Thread Cert.DkvRefIdeal.nD Cert.DkvRefIdeal.τ).loc Cert.DkvRefIdeal.main_arg4) = m' ((c.tc : Thread Cert.DkvRefIdeal.nD Cert.DkvRefIdeal.τ).loc Cert.DkvRefIdeal.main_arg4))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v25_0)) (v1 : (c : Dev Cert.FfnIdeal.nD) → Buf (Elt Ideal) ((c.tc : Thread Cert.FfnIdeal.nD Cert.FfnIdeal.τ).loc Cert.FfnIdeal.main_v25_1)) (v2 : (c : Dev Cert.FfnIdeal.nD) → Buf (Elt Ideal) ((c.tc : Thread Cert.FfnIdeal.nD Cert.FfnIdeal.τ).loc Cert.FfnIdeal.main_v25_2)) (v3 : (c : Dev Cert.FfnIdeal.nD) → Buf (Elt Ideal) ((c.tc : Thread Cert.FfnIdeal.nD Cert.FfnIdeal.τ).loc Cert.FfnIdeal.main_v25_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v25_0) = v0 c
          ∧ r.2.mem ((c.tc : Thread Cert.FfnIdeal.nD Cert.FfnIdeal.τ).loc Cert.FfnIdeal.main_v25_1) = v1 c
          ∧ r.2.mem ((c.tc : Thread Cert.FfnIdeal.nD Cert.FfnIdeal.τ).loc Cert.FfnIdeal.main_v25_2) = v2 c
          ∧ r.2.mem ((c.tc : Thread Cert.FfnIdeal.nD Cert.FfnIdeal.τ).loc Cert.FfnIdeal.main_v25_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_v45) = v1 c
          ∧ r.2.mem ((c.tc : Thread Cert.FfnRefIdeal.nD Cert.FfnRefIdeal.τ).loc Cert.FfnRefIdeal.main_v42) = v2 c
          ∧ r.2.mem ((c.tc : Thread Cert.FfnRefIdeal.nD Cert.FfnRefIdeal.τ).loc Cert.FfnRefIdeal.main_v49) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_v0_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v33) = v0 c
          ∧ r.2.mem ((c.tc : Thread Cert.FwdRefIdeal.nD Cert.FwdRefIdeal.τ).loc Cert.FwdRefIdeal.main_v34) = v1 c
          ∧ r.2.mem ((c.tc : Thread Cert.FwdRefIdeal.nD Cert.FwdRefIdeal.τ).loc Cert.FwdRefIdeal.main_v35) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Att_AttIdeal : Prop :=
  IdealRules.named_const.Statement Cert.AttIdeal.κ "mask" .f32 0xF149F2CA#32 ⊥
  ∧ IdealRules.named_const.Statement Cert.AttIdeal.κ "scale2" .f32 0x3E0293EE#32 (((11863283 / 134217728) * (Real.log 2)⁻¹ : ℝ) : EReal)

def algebraic_AttIdeal_AttRefIdeal_pre_fox_fwd_finite [hAttIdeal : Cert.AttIdeal.Facts] [hAttRefIdeal : Cert.AttRefIdeal.Facts] [hPre_fox_fwd_finite : Cert.Pre_fox_fwd_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_fox_fwd_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)) →
    ∃ (v0 : (c : Dev Cert.AttIdeal.nD) → Buf (Elt Ideal) ((c.tc : Thread Cert.AttIdeal.nD Cert.AttIdeal.τ).loc Cert.AttIdeal.main_v4_0)) (v1 : (c : Dev Cert.AttIdeal.nD) → Buf (Elt Ideal) ((c.tc : Thread Cert.AttIdeal.nD Cert.AttIdeal.τ).loc Cert.AttIdeal.main_v4_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v4_0) = v0 c
          ∧ r.2.mem ((c.tc : Thread Cert.AttIdeal.nD Cert.AttIdeal.τ).loc Cert.AttIdeal.main_v4_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v37) = v0 c
          ∧ r.2.mem ((c.tc : Thread Cert.AttRefIdeal.nD Cert.AttRefIdeal.τ).loc Cert.AttRefIdeal.main_v44) = v1 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3))

def Claim : Prop :=
  ∃ (hDkv : Cert.Dkv.Facts) (hDkvIdeal : Cert.DkvIdeal.Facts) (hDkvRefIdeal : Cert.DkvRefIdeal.Facts) (hDkvSavedIdeal : Cert.DkvSavedIdeal.Facts) (hFfn : Cert.Ffn.Facts) (hFfnIdeal : Cert.FfnIdeal.Facts) (hFfnRefIdeal : Cert.FfnRefIdeal.Facts) (hFwd : Cert.Fwd.Facts) (hFwdIdeal : Cert.FwdIdeal.Facts) (hFwdRefIdeal : Cert.FwdRefIdeal.Facts) (hAtt : Cert.Att.Facts) (hAttIdeal : Cert.AttIdeal.Facts) (hAttRefIdeal : Cert.AttRefIdeal.Facts) (hPre_fox_dkv_finite : Cert.Pre_fox_dkv_finite.Facts) (hPre_ffn_finite : Cert.Pre_ffn_finite.Facts) (hPre_fox_fwd_finite : Cert.Pre_fox_fwd_finite.Facts),
    quiescent_Dkv (hDkv := hDkv)
    ∧ quiescent_DkvIdeal (hDkvIdeal := hDkvIdeal)
    ∧ quiescent_DkvIdeal_pre_fox_dkv_finite (hDkvIdeal := hDkvIdeal) (hPre_fox_dkv_finite := hPre_fox_dkv_finite)
    ∧ quiescent_DkvRefIdeal (hDkvRefIdeal := hDkvRefIdeal)
    ∧ quiescent_DkvRefIdeal_pre_fox_dkv_finite (hDkvRefIdeal := hDkvRefIdeal) (hPre_fox_dkv_finite := hPre_fox_dkv_finite)
    ∧ quiescent_DkvSavedIdeal (hDkvSavedIdeal := hDkvSavedIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Fwd (hFwd := hFwd)
    ∧ quiescent_FwdIdeal (hFwdIdeal := hFwdIdeal)
    ∧ quiescent_FwdRefIdeal (hFwdRefIdeal := hFwdRefIdeal)
    ∧ quiescent_Att (hAtt := hAtt)
    ∧ quiescent_AttIdeal (hAttIdeal := hAttIdeal)
    ∧ quiescent_AttIdeal_pre_fox_fwd_finite (hAttIdeal := hAttIdeal) (hPre_fox_fwd_finite := hPre_fox_fwd_finite)
    ∧ quiescent_AttRefIdeal (hAttRefIdeal := hAttRefIdeal)
    ∧ quiescent_AttRefIdeal_pre_fox_fwd_finite (hAttRefIdeal := hAttRefIdeal) (hPre_fox_fwd_finite := hPre_fox_fwd_finite)
    ∧ preserves_Dkv_DkvIdeal
    ∧ algebraic_DkvIdeal_DkvRefIdeal_pre_fox_dkv_finite (hDkvIdeal := hDkvIdeal) (hDkvRefIdeal := hDkvRefIdeal) (hPre_fox_dkv_finite := hPre_fox_dkv_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Fwd_FwdIdeal
    ∧ algebraic_FwdIdeal_FwdRefIdeal (hFwdIdeal := hFwdIdeal) (hFwdRefIdeal := hFwdRefIdeal)
    ∧ preserves_Att_AttIdeal
    ∧ algebraic_AttIdeal_AttRefIdeal_pre_fox_fwd_finite (hAttIdeal := hAttIdeal) (hAttRefIdeal := hAttRefIdeal) (hPre_fox_fwd_finite := hPre_fox_fwd_finite)
-- ==== Pre_ffn_finite.lean ====
abbrev S8192x1024 : Shape := ⟨2, ![8192, 1024]⟩
abbrev S1x1024 : Shape := ⟨2, ![1, 1024]⟩
abbrev S8x4x1024x704 : Shape := ⟨4, ![8, 4, 1024, 704]⟩
abbrev S4x2816x1024 : Shape := ⟨3, ![4, 2816, 1024]⟩
abbrev S_ : Shape := ⟨0, ![]⟩
abbrev S4x1x1024x704 : Shape := ⟨4, ![4, 1, 1024, 704]⟩
abbrev S4x1024x704 : Shape := ⟨3, ![4, 1024, 704]⟩
abbrev S2816x1024 : Shape := ⟨2, ![2816, 1024]⟩
abbrev S1x2816x1024 : Shape := ⟨3, ![1, 2816, 1024]⟩
abbrev S11008x1024 : Shape := ⟨2, ![11008, 1024]⟩

class Facts : Prop where
  bcast_S_S8192x1024 : S_.BroadcastsInDim S8192x1024 (![] : Fin 0 → Fin S8192x1024.rank)
  bcast_S1x1024_S8192x1024_0_1 : S1x1024.BroadcastsInDim S8192x1024 (![0, 1] : Fin 2 → Fin S8192x1024.rank)
  slices_S8x4x1024x704_S4x1x1024x704_4_0_0_0 : S8x4x1024x704.Slices ![4, 0, 0, 0] S4x1x1024x704
  shapeCasts_S4x1x1024x704_S4x1024x704 : S4x1x1024x704.ShapeCasts S4x1024x704
  bitsLt_bf16_f32 : FTy.bits .bf16 < FTy.bits .f32
  shapeCasts_S4x1024x704_S2816x1024 : S4x1024x704.ShapeCasts S2816x1024
  bcast_S_S2816x1024 : S_.BroadcastsInDim S2816x1024 (![] : Fin 0 → Fin S2816x1024.rank)
  slices_S4x2816x1024_S1x2816x1024_0_0_0 : S4x2816x1024.Slices ![0, 0, 0] S1x2816x1024
  shapeCasts_S1x2816x1024_S2816x1024 : S1x2816x1024.ShapeCasts S2816x1024
  concatenates_S8192x1024_S2816x1024_S11008x1024_d0 : Shape.Concatenates [S8192x1024, S2816x1024] S11008x1024 0

variable [Facts]

def fn_part1 {F : FTy → Type} [FloatOps F] (main_v7 : IVec S8192x1024 1) (main_v14 : IVec S2816x1024 1) (main_v18 : FVec F S2816x1024 .f32) (main_v19 : FVec F S2816x1024 .f32) : IVec S11008x1024 1 :=
  let main_v20 : IVec S2816x1024 1 := cmpf .olt main_v18 main_v19
  let main_v21 : IVec S2816x1024 1 := andi main_v14 main_v20
  let main_v22 : IVec S11008x1024 1 := (fun a b => concatenate S11008x1024 0 [⟨S8192x1024, a⟩, ⟨S2816x1024, b⟩] concatenates_S8192x1024_S2816x1024_S11008x1024_d0) main_v7 main_v21
  main_v22

def fn {F : FTy → Type} [FloatOps F] (main_arg0 : FVec F S8192x1024 .f32) (main_arg1 : FVec F S8192x1024 .f32) (main_arg2 : FVec F S1x1024 .f32) (main_arg3 : FVec F S8x4x1024x704 .bf16) (main_arg4 : FVec F S4x2816x1024 .bf16) : IVec S11008x1024 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := broadcastInDim S8192x1024 ![0, 1] bcast_S1x1024_S8192x1024_0_1 main_arg2
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : IVec S8192x1024 1 := andi main_v2 main_v6
  let main_v8 : FVec F S4x1x1024x704 .bf16 := (extractStridedSlice S4x1x1024x704 ![4, 0, 0, 0] · slices_S8x4x1024x704_S4x1x1024x704_4_0_0_0) main_arg3
  let main_v9 : FVec F S4x1024x704 .bf16 := shapeCast S4x1024x704 main_v8 shapeCasts_S4x1x1024x704_S4x1024x704
  let main_v10 : FVec F S4x1024x704 .f32 := (extf .f32 · bitsLt_bf16_f32) main_v9
  let main_v11 : FVec F S2816x1024 .f32 := shapeCast S2816x1024 main_v10 shapeCasts_S4x1024x704_S2816x1024
  let main_v12 : FVec F S2816x1024 .f32 := Host.absf main_v11
  let main_cst_1 : FVec F S_ .f32 := constant S_ .f32 0x7F800000#32
  let main_v13 : FVec F S2816x1024 .f32 := broadcastInDim S2816x1024 ![] bcast_S_S2816x1024 main_cst_1
  let main_v14 : IVec S2816x1024 1 := cmpf .olt main_v12 main_v13
  let main_v15 : FVec F S1x2816x1024 .bf16 := (extractStridedSlice S1x2816x1024 ![0, 0, 0] · slices_S4x2816x1024_S1x2816x1024_0_0_0) main_arg4
  let main_v16 : FVec F S2816x1024 .bf16 := shapeCast S2816x1024 main_v15 shapeCasts_S1x2816x1024_S2816x1024
  let main_v17 : FVec F S2816x1024 .f32 := (extf .f32 · bitsLt_bf16_f32) main_v16
  let main_v18 : FVec F S2816x1024 .f32 := Host.absf main_v17
  let main_cst_2 : FVec F S_ .f32 := constant S_ .f32 0x7F800000#32
  let main_v19 : FVec F S2816x1024 .f32 := broadcastInDim S2816x1024 ![] bcast_S_S2816x1024 main_cst_2
  fn_part1 (F := F) main_v7 main_v14 main_v18 main_v19
-- ==== Pre_fox_dkv_finite.lean ====
abbrev S8192x1024 : Shape := ⟨2, ![8192, 1024]⟩
abbrev S8192x768 : Shape := ⟨2, ![8192, 768]⟩
abbrev S6x8192 : Shape := ⟨2, ![6, 8192]⟩
abbrev S8192x6 : Shape := ⟨2, ![8192, 6]⟩
abbrev S8192x6x1 : Shape := ⟨3, ![8192, 6, 1]⟩
abbrev S8192x6x128 : Shape := ⟨3, ![8192, 6, 128]⟩
abbrev S_ : Shape := ⟨0, ![]⟩

class Facts : Prop where
  slices_S8192x1024_S8192x768_0_0 : S8192x1024.Slices ![0, 0] S8192x768
  transposes_S6x8192_S8192x6_1_0 : S6x8192.Transposes [1, 0] S8192x6
  bcast_S8192x6_S8192x6x1_0_1 : S8192x6.BroadcastsInDim S8192x6x1 (![0, 1] : Fin 2 → Fin S8192x6x1.rank)
  bcast_S8192x6x1_S8192x6x128_0_1_2 : S8192x6x1.BroadcastsInDim S8192x6x128 (![0, 1, 2] : Fin 3 → Fin S8192x6x128.rank)
  shapeCasts_S8192x6x128_S8192x768 : S8192x6x128.ShapeCasts S8192x768
  bcast_S_S8192x768 : S_.BroadcastsInDim S8192x768 (![] : Fin 0 → Fin S8192x768.rank)
  bitsLt_bf16_f32 : FTy.bits .bf16 < FTy.bits .f32

variable [Facts]

def fn_part1 {F : FTy → Type} [FloatOps F] (main_v1 : FVec F S8192x768 .f32) (main_v18 : IVec S8192x768 1) (main_v20 : FVec F S8192x768 .f32) : IVec S8192x768 1 :=
  let main_cst_2 : FVec F S_ .f32 := constant S_ .f32 0x7F800000#32
  let main_v21 : FVec F S8192x768 .f32 := broadcastInDim S8192x768 ![] bcast_S_S8192x768 main_cst_2
  let main_v22 : IVec S8192x768 1 := cmpf .olt main_v20 main_v21
  let main_v23 : IVec S8192x768 1 := andi main_v18 main_v22
  let main_v24 : FVec F S8192x768 .f32 := Host.absf main_v1
  let main_cst_3 : FVec F S_ .f32 := constant S_ .f32 0x7F800000#32
  let main_v25 : FVec F S8192x768 .f32 := broadcastInDim S8192x768 ![] bcast_S_S8192x768 main_cst_3
  let main_v26 : IVec S8192x768 1 := cmpf .olt main_v24 main_v25
  let main_v27 : IVec S8192x768 1 := andi main_v23 main_v26
  main_v27

def fn {F : FTy → Type} [FloatOps F] (main_arg0 : FVec F S8192x1024 .bf16) (main_arg1 : FVec F S8192x768 .bf16) (main_arg2 : FVec F S8192x768 .bf16) (main_arg3 : FVec F S6x8192 .f32) (main_arg4 : FVec F S8192x1024 .f32) : IVec S8192x768 1 :=
  let main_v0 : FVec F S8192x768 .bf16 := (extractStridedSlice S8192x768 ![0, 0] · slices_S8192x1024_S8192x768_0_0) main_arg0
  let main_v1 : FVec F S8192x768 .f32 := (extractStridedSlice S8192x768 ![0, 0] · slices_S8192x1024_S8192x768_0_0) main_arg4
  let main_v2 : FVec F S8192x6 .f32 := (transpose S8192x6 [1, 0] · transposes_S6x8192_S8192x6_1_0) main_arg3
  let main_v3 : FVec F S8192x6x1 .f32 := broadcastInDim S8192x6x1 ![0, 1] bcast_S8192x6_S8192x6x1_0_1 main_v2
  let main_v4 : FVec F S8192x6x128 .f32 := broadcastInDim S8192x6x128 ![0, 1, 2] bcast_S8192x6x1_S8192x6x128_0_1_2 main_v3
  let main_v5 : FVec F S8192x768 .f32 := shapeCast S8192x768 main_v4 shapeCasts_S8192x6x128_S8192x768
  let main_v6 : FVec F S8192x768 .f32 := Host.absf main_v5
  let main_cst : FVec F S_ .f32 := constant S_ .f32 0x7F800000#32
  let main_v7 : FVec F S8192x768 .f32 := broadcastInDim S8192x768 ![] bcast_S_S8192x768 main_cst
  let main_v8 : IVec S8192x768 1 := cmpf .olt main_v6 main_v7
  let main_v9 : FVec F S8192x768 .f32 := (extf .f32 · bitsLt_bf16_f32) main_v0
  let main_v10 : FVec F S8192x768 .f32 := Host.absf main_v9
  let main_cst_0 : FVec F S_ .f32 := constant S_ .f32 0x7F800000#32
  let main_v11 : FVec F S8192x768 .f32 := broadcastInDim S8192x768 ![] bcast_S_S8192x768 main_cst_0
  let main_v12 : IVec S8192x768 1 := cmpf .olt main_v10 main_v11
  let main_v13 : IVec S8192x768 1 := andi main_v8 main_v12
  let main_v14 : FVec F S8192x768 .f32 := (extf .f32 · bitsLt_bf16_f32) main_arg1
  let main_v15 : FVec F S8192x768 .f32 := Host.absf main_v14
  let main_cst_1 : FVec F S_ .f32 := constant S_ .f32 0x7F800000#32
  let main_v16 : FVec F S8192x768 .f32 := broadcastInDim S8192x768 ![] bcast_S_S8192x768 main_cst_1
  let main_v17 : IVec S8192x768 1 := cmpf .olt main_v15 main_v16
  let main_v18 : IVec S8192x768 1 := andi main_v13 main_v17
  let main_v19 : FVec F S8192x768 .f32 := (extf .f32 · bitsLt_bf16_f32) main_arg2
  let main_v20 : FVec F S8192x768 .f32 := Host.absf main_v19
  fn_part1 (F := F) main_v1 main_v18 main_v20
-- ==== Pre_fox_fwd_finite.lean ====
abbrev S8192x1024 : Shape := ⟨2, ![8192, 1024]⟩
abbrev S8192x768 : Shape := ⟨2, ![8192, 768]⟩
abbrev S6x8192 : Shape := ⟨2, ![6, 8192]⟩
abbrev S8192x6 : Shape := ⟨2, ![8192, 6]⟩
abbrev S8192x6x1 : Shape := ⟨3, ![8192, 6, 1]⟩
abbrev S8192x6x128 : Shape := ⟨3, ![8192, 6, 128]⟩
abbrev S_ : Shape := ⟨0, ![]⟩

class Facts : Prop where
  transposes_S6x8192_S8192x6_1_0 : S6x8192.Transposes [1, 0] S8192x6
  bcast_S8192x6_S8192x6x1_0_1 : S8192x6.BroadcastsInDim S8192x6x1 (![0, 1] : Fin 2 → Fin S8192x6x1.rank)
  bcast_S8192x6x1_S8192x6x128_0_1_2 : S8192x6x1.BroadcastsInDim S8192x6x128 (![0, 1, 2] : Fin 3 → Fin S8192x6x128.rank)
  shapeCasts_S8192x6x128_S8192x768 : S8192x6x128.ShapeCasts S8192x768
  bcast_S_S8192x768 : S_.BroadcastsInDim S8192x768 (![] : Fin 0 → Fin S8192x768.rank)
  slices_S8192x1024_S8192x768_0_0 : S8192x1024.Slices ![0, 0] S8192x768
  bitsLt_bf16_f32 : FTy.bits .bf16 < FTy.bits .f32

variable [Facts]

def fn {F : FTy → Type} [FloatOps F] (main_arg0 : FVec F S8192x1024 .bf16) (main_arg1 : FVec F S8192x768 .bf16) (main_arg2 : FVec F S8192x768 .bf16) (main_arg3 : FVec F S6x8192 .f32) : IVec S8192x768 1 :=
  let main_v0 : FVec F S8192x6 .f32 := (transpose S8192x6 [1, 0] · transposes_S6x8192_S8192x6_1_0) main_arg3
  let main_v1 : FVec F S8192x6x1 .f32 := broadcastInDim S8192x6x1 ![0, 1] bcast_S8192x6_S8192x6x1_0_1 main_v0
  let main_v2 : FVec F S8192x6x128 .f32 := broadcastInDim S8192x6x128 ![0, 1, 2] bcast_S8192x6x1_S8192x6x128_0_1_2 main_v1
  let main_v3 : FVec F S8192x768 .f32 := shapeCast S8192x768 main_v2 shapeCasts_S8192x6x128_S8192x768
  let main_v4 : FVec F S8192x768 .f32 := Host.absf main_v3
  let main_cst : FVec F S_ .f32 := constant S_ .f32 0x7F800000#32
  let main_v5 : FVec F S8192x768 .f32 := broadcastInDim S8192x768 ![] bcast_S_S8192x768 main_cst
  let main_v6 : IVec S8192x768 1 := cmpf .olt main_v4 main_v5
  let main_v7 : FVec F S8192x768 .bf16 := (extractStridedSlice S8192x768 ![0, 0] · slices_S8192x1024_S8192x768_0_0) main_arg0
  let main_v8 : FVec F S8192x768 .f32 := (extf .f32 · bitsLt_bf16_f32) main_v7
  let main_v9 : FVec F S8192x768 .f32 := Host.absf main_v8
  let main_cst_0 : FVec F S_ .f32 := constant S_ .f32 0x7F800000#32
  let main_v10 : FVec F S8192x768 .f32 := broadcastInDim S8192x768 ![] bcast_S_S8192x768 main_cst_0
  let main_v11 : IVec S8192x768 1 := cmpf .olt main_v9 main_v10
  let main_v12 : IVec S8192x768 1 := andi main_v6 main_v11
  let main_v13 : FVec F S8192x768 .f32 := (extf .f32 · bitsLt_bf16_f32) main_arg1
  let main_v14 : FVec F S8192x768 .f32 := Host.absf main_v13
  let main_cst_1 : FVec F S_ .f32 := constant S_ .f32 0x7F800000#32
  let main_v15 : FVec F S8192x768 .f32 := broadcastInDim S8192x768 ![] bcast_S_S8192x768 main_cst_1
  let main_v16 : IVec S8192x768 1 := cmpf .olt main_v14 main_v15
  let main_v17 : IVec S8192x768 1 := andi main_v12 main_v16
  main_v17
-- ==== Dkv.lean ====
abbrev S8192x1024 : Shape := ⟨2, ![8192, 1024]⟩
abbrev S8192x768 : Shape := ⟨2, ![8192, 768]⟩
abbrev S6x8192 : Shape := ⟨2, ![6, 8192]⟩
abbrev S_ : Shape := ⟨0, ![]⟩
abbrev S6x1x8192 : Shape := ⟨3, ![6, 1, 8192]⟩
abbrev S8192x6x128 : Shape := ⟨3, ![8192, 6, 128]⟩
abbrev S6x8192x8192 : Shape := ⟨3, ![6, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x8192x1 : Shape := ⟨3, ![6, 8192, 1]⟩
abbrev S6x128x8192 : Shape := ⟨3, ![6, 128, 8192]⟩
abbrev S8192x6 : Shape := ⟨2, ![8192, 6]⟩
abbrev S1024x384 : Shape := ⟨2, ![1024, 384]⟩
abbrev S3x1x1024 : Shape := ⟨3, ![3, 1, 1024]⟩
abbrev S3x1024x1 : Shape := ⟨3, ![3, 1024, 1]⟩
abbrev S1024x128 : Shape := ⟨2, ![1024, 128]⟩
abbrev S1024x1024 : Shape := ⟨2, ![1024, 1024]⟩
abbrev S1x1x1024 : Shape := ⟨3, ![1, 1, 1024]⟩
abbrev S1x1024 : Shape := ⟨2, ![1, 1024]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 66
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x768, .bf16⟩
  | .hbm, ⟨3, _⟩ => ⟨S6x8192, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S6x8192, .f32⟩
  | .hbm, ⟨8, _⟩ => ⟨S6x8192, .f32⟩
  | .hbm, ⟨9, _⟩ => ⟨S6x1x8192, .f32⟩
  | .hbm, ⟨10, _⟩ => ⟨S8192x768, .bf16⟩
  | .hbm, ⟨11, _⟩ => ⟨S8192x768, .f32⟩
  | .hbm, ⟨12, _⟩ => ⟨S8192x6x128, .f32⟩
  | .hbm, ⟨13, _⟩ => ⟨S8192x768, .f32⟩
  | .hbm, ⟨14, _⟩ => ⟨S8192x6x128, .f32⟩
  | .hbm, ⟨15, _⟩ => ⟨S8192x768, .f32⟩
  | .hbm, ⟨16, _⟩ => ⟨S8192x6x128, .f32⟩
  | .hbm, ⟨17, _⟩ => ⟨S6x8192x8192, .f32⟩
  | .hbm, ⟨18, _⟩ => ⟨S_, .f32⟩
  | .hbm, ⟨19, _⟩ => ⟨S6x8192x8192, .f32⟩
  | .hbm, ⟨20, _⟩ => ⟨S6x8192x8192, .f32⟩
  | .hbm, ⟨21, _⟩ => ⟨S6x1x8192, .f32⟩
  | .hbm, ⟨22, _⟩ => ⟨S6x8192x8192, .f32⟩
  | .hbm, ⟨23, _⟩ => ⟨S6x8192x8192, .f32⟩
  | .hbm, ⟨24, _⟩ => ⟨S8192, .i32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S6x8192x8192, .i1⟩
  | .hbm, ⟨31, _⟩ => ⟨S_, .f32⟩
  | .hbm, ⟨32, _⟩ => ⟨S6x8192x8192, .f32⟩
  | .hbm, ⟨33, _⟩ => ⟨S6x8192x8192, .f32⟩
  | .hbm, ⟨34, _⟩ => ⟨S_, .f32⟩
  | .hbm, ⟨35, _⟩ => ⟨S6x8192, .f32⟩
  | .hbm, ⟨36, _⟩ => ⟨S6x8192x1, .f32⟩
  | .hbm, ⟨37, _⟩ => ⟨S6x8192x8192, .f32⟩
  | .hbm, ⟨38, _⟩ => ⟨S6x8192x8192, .f32⟩
  | .hbm, ⟨39, _⟩ => ⟨S6x8192x8192, .f32⟩
  | .hbm, ⟨40, _⟩ => ⟨S_, .f32⟩
  | .hbm, ⟨41, _⟩ => ⟨S6x8192, .f32⟩
  | .hbm, ⟨42, _⟩ => ⟨S6x8192x1, .f32⟩
  | .hbm, ⟨43, _⟩ => ⟨S6x8192x8192, .f32⟩
  | .hbm, ⟨44, _⟩ => ⟨S6x8192x8192, .f32⟩
  | .hbm, ⟨45, _⟩ => ⟨S6x128x8192, .f32⟩
  | .hbm, ⟨46, _⟩ => ⟨S8192x6x128, .f32⟩
  | .hbm, ⟨47, _⟩ => ⟨S8192x768, .f32⟩
  | .hbm, ⟨48, _⟩ => ⟨S8192x768, .bf16⟩
  | .hbm, ⟨49, _⟩ => ⟨S6x8192x1, .f32⟩
  | .hbm, ⟨50, _⟩ => ⟨S6x8192x1, .f32⟩
  | .hbm, ⟨51, _⟩ => ⟨S_, .f32⟩
  | .hbm, ⟨52, _⟩ => ⟨S_, .f32⟩
  | .hbm, ⟨53, _⟩ => ⟨S6x8192x1, .f32⟩
  | .hbm, ⟨54, _⟩ => ⟨S6x8192x1, .f32⟩
  | .hbm, ⟨55, _⟩ => ⟨S8192x768, .f32⟩
  | .hbm, ⟨56, _⟩ => ⟨S8192x768, .f32⟩
  | .hbm, ⟨57, _⟩ => ⟨S8192x768, .f32⟩
  | .hbm, ⟨58, _⟩ => ⟨S8192x6x128, .f32⟩
  | .hbm, ⟨59, _⟩ => ⟨S_, .f32⟩
  | .hbm, ⟨60, _⟩ => ⟨S8192x6, .f32⟩
  | .hbm, ⟨61, _⟩ => ⟨S6x8192, .f32⟩
  | .hbm, ⟨62, _⟩ => ⟨S6x8192x1, .f32⟩
  | .hbm, ⟨63, _⟩ => ⟨S8192x768, .f32⟩
  | .hbm, ⟨64, _⟩ => ⟨S8192x768, .f32⟩
  | .hbm, ⟨65, _⟩ => ⟨S6x1x8192, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S3x1x1024, .f32⟩
  | .local _ .vmem, ⟨7, _⟩ => ⟨S3x1x1024, .f32⟩
  | .local _ .vmem, ⟨8, _⟩ => ⟨S3x1024x1, .f32⟩
  | .local _ .vmem, ⟨9, _⟩ => ⟨S3x1024x1, .f32⟩
  | .local _ .vmem, ⟨10, _⟩ => ⟨S3x1024x1, .f32⟩
  | .local _ .vmem, ⟨11, _⟩ => ⟨S3x1024x1, .f32⟩
  | .local _ .vmem, ⟨12, _⟩ => ⟨S1024x384, .f32⟩
  | .local _ .vmem, ⟨13, _⟩ => ⟨S1024x384, .f32⟩
  | .local _ .vmem, ⟨14, _⟩ => ⟨S1024x384, .f32⟩
  | .local _ .vmem, ⟨15, _⟩ => ⟨S1024x384, .f32⟩
  | .local _ .vmem, ⟨16, _⟩ => ⟨S1024x384, .f32⟩
  | .local _ .vmem, ⟨17, _⟩ => ⟨S1024x384, .f32⟩
  | .local _ .vmem, ⟨18, _⟩ => ⟨S3x1x1024, .f32⟩
  | .local _ .vmem, ⟨19, _⟩ => ⟨S3x1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51_0 : Ref sig .tc := ⟨.hbm, 63, rfl⟩
abbrev main_v51_1 : Ref sig .tc := ⟨.hbm, 64, rfl⟩
abbrev main_v51_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let arg2 : BitVec 32 := BitVec.ofNat 32 (i 2).val
  let v3 : BitVec 1 := Scalar.cmpi .slt arg1 arg2
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let arg2 : BitVec 32 := BitVec.ofNat 32 (i 2).val
  let v6 : BitVec 1 := Scalar.cmpi .eq arg1 arg2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S3x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S3x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S3x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== DkvIdeal.lean ====
variable {F : FTy → Type} [FloatOps F] [Named F]
def κ : String → Option EReal := fun
  | "mask" => some ⊥
  | "scale2" => some (((11863283 / 134217728) * (Real.log 2)⁻¹ : ℝ) : EReal)
  | _ => none
-- ==== DkvRefIdeal.lean ====
abbrev S8192x1024 : Shape := ⟨2, ![8192, 1024]⟩
abbrev S8192x768 : Shape := ⟨2, ![8192, 768]⟩
abbrev S6x8192 : Shape := ⟨2, ![6, 8192]⟩
abbrev S8192x6x128 : Shape := ⟨3, ![8192, 6, 128]⟩
abbrev S6x8192x8192 : Shape := ⟨3, ![6, 8192, 8192]⟩
abbrev S_ : Shape := ⟨0, ![]⟩
abbrev S6x8192x1 : Shape := ⟨3, ![6, 8192, 1]⟩
abbrev S6x1x8192 : Shape := ⟨3, ![6, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x128x8192 : Shape := ⟨3, ![6, 128, 8192]⟩
abbrev S6x8192x128 : Shape := ⟨3, ![6, 8192, 128]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x768, .bf16⟩
  | .hbm, ⟨3, _⟩ => ⟨S6x8192, .f32⟩
  | .hbm, ⟨4, _⟩ => ⟨S8192x1024, .f32⟩
  | .hbm, ⟨5, _⟩ => ⟨S8192x768, .bf16⟩
  | .hbm, ⟨6, _⟩ => ⟨S8192x768, .f32⟩
  | .hbm, ⟨7, _⟩ => ⟨S8192x6x128, .f32⟩
  | .hbm, ⟨8, _⟩ => ⟨S8192x768, .f32⟩
  | .hbm, ⟨9, _⟩ => ⟨S8192x6x128, .f32⟩
  | .hbm, ⟨10, _⟩ => ⟨S8192x768, .f32⟩
  | .hbm, ⟨11, _⟩ => ⟨S8192x6x128, .f32⟩
  | .hbm, ⟨12, _⟩ => ⟨S8192x768, .f32⟩
  | .hbm, ⟨13, _⟩ => ⟨S8192x6x128, .f32⟩
  | .hbm, ⟨14, _⟩ => ⟨S6x8192x8192, .f32⟩
  | .hbm, ⟨15, _⟩ => ⟨S_, .f32⟩
  | .hbm, ⟨16, _⟩ => ⟨S6x8192x8192, .f32⟩
  | .hbm, ⟨17, _⟩ => ⟨S6x8192x8192, .f32⟩
  | .hbm, ⟨18, _⟩ => ⟨S6x8192x1, .f32⟩
  | .hbm, ⟨19, _⟩ => ⟨S6x8192x8192, .f32⟩
  | .hbm, ⟨20, _⟩ => ⟨S6x8192x8192, .f32⟩
  | .hbm, ⟨21, _⟩ => ⟨S6x1x8192, .f32⟩
  | .hbm, ⟨22, _⟩ => ⟨S6x8192x8192, .f32⟩
  | .hbm, ⟨23, _⟩ => ⟨S6x8192x8192, .f32⟩
  | .hbm, ⟨24, _⟩ => ⟨S8192, .i32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S6x8192x8192, .i1⟩
  | .hbm, ⟨31, _⟩ => ⟨S_, .f32⟩
  | .hbm, ⟨32, _⟩ => ⟨S6x8192x8192, .f32⟩
  | .hbm, ⟨33, _⟩ => ⟨S6x8192x8192, .f32⟩
  | .hbm, ⟨34, _⟩ => ⟨S_, .f32⟩
  | .hbm, ⟨35, _⟩ => ⟨S6x8192x8192, .f32⟩
  | .hbm, ⟨36, _⟩ => ⟨S_, .f32⟩
  | .hbm, ⟨37, _⟩ => ⟨S6x8192, .f32⟩
  | .hbm, ⟨38, _⟩ => ⟨S6x8192x1, .f32⟩
  | .hbm, ⟨39, _⟩ => ⟨S6x8192x8192, .f32⟩
  | .hbm, ⟨40, _⟩ => ⟨S6x8192x8192, .i1⟩
  | .hbm, ⟨41, _⟩ => ⟨S6x8192x8192, .f32⟩
  | .hbm, ⟨42, _⟩ => ⟨S_, .f32⟩
  | .hbm, ⟨43, _⟩ => ⟨S6x8192, .f32⟩
  | .hbm, ⟨44, _⟩ => ⟨S_, .f32⟩
  | .hbm, ⟨45, _⟩ => ⟨S6x8192, .f32⟩
  | .hbm, ⟨46, _⟩ => ⟨S6x8192, .f32⟩
  | .hbm, ⟨47, _⟩ => ⟨S_, .f32⟩
  | .hbm, ⟨48, _⟩ => ⟨S6x8192, .f32⟩
  | .hbm, ⟨49, _⟩ => ⟨S6x8192, .i1⟩
  | .hbm, ⟨50, _⟩ => ⟨S_, .f32⟩
  | .hbm, ⟨51, _⟩ => ⟨S6x8192, .f32⟩
  | .hbm, ⟨52, _⟩ => ⟨S6x8192, .i1⟩
  | .hbm, ⟨53, _⟩ => ⟨S_, .f32⟩
  | .hbm, ⟨54, _⟩ => ⟨S6x8192, .f32⟩
  | .hbm, ⟨55, _⟩ => ⟨S_, .f32⟩
  | .hbm, ⟨56, _⟩ => ⟨S6x8192, .f32⟩
  | .hbm, ⟨57, _⟩ => ⟨S_, .f32⟩
  | .hbm, ⟨58, _⟩ => ⟨S6x8192, .f32⟩
  | .hbm, ⟨59, _⟩ => ⟨S6x8192, .f32⟩
  | .hbm, ⟨60, _⟩ => ⟨S6x8192, .f32⟩
  | .hbm, ⟨61, _⟩ => ⟨S6x8192x1, .f32⟩
  | .hbm, ⟨62, _⟩ => ⟨S6x8192x8192, .f32⟩
  | .hbm, ⟨63, _⟩ => ⟨S6x8192x8192, .f32⟩
  | .hbm, ⟨64, _⟩ => ⟨S6x8192x8192, .f32⟩
  | .hbm, ⟨65, _⟩ => ⟨S_, .f32⟩
  | .hbm, ⟨66, _⟩ => ⟨S6x8192, .f32⟩
  | .hbm, ⟨67, _⟩ => ⟨S6x8192x1, .f32⟩
  | .hbm, ⟨68, _⟩ => ⟨S6x8192x8192, .f32⟩
  | .hbm, ⟨69, _⟩ => ⟨S6x8192x8192, .f32⟩
  | .hbm, ⟨70, _⟩ => ⟨S6x8192x1, .f32⟩
  | .hbm, ⟨71, _⟩ => ⟨S_, .f32⟩
  | .hbm, ⟨72, _⟩ => ⟨S6x8192x1, .f32⟩
  | .hbm, ⟨73, _⟩ => ⟨S6x8192x1, .f32⟩
  | .hbm, ⟨74, _⟩ => ⟨S6x128x8192, .f32⟩
  | .hbm, ⟨75, _⟩ => ⟨S8192x6x128, .f32⟩
  | .hbm, ⟨76, _⟩ => ⟨S6x128x8192, .f32⟩
  | .hbm, ⟨77, _⟩ => ⟨S6x8192x8192, .f32⟩
  | .hbm, ⟨78, _⟩ => ⟨S6x128x8192, .f32⟩
  | .hbm, ⟨79, _⟩ => ⟨S8192x6x128, .f32⟩
  | .hbm, ⟨80, _⟩ => ⟨S6x8192x8192, .f32⟩
  | .hbm, ⟨81, _⟩ => ⟨S6x8192x8192, .f32⟩
  | .hbm, ⟨82, _⟩ => ⟨S6x8192x8192, .f32⟩
  | .hbm, ⟨83, _⟩ => ⟨S_, .f32⟩
  | .hbm, ⟨84, _⟩ => ⟨S6x8192, .f32⟩
  | .hbm, ⟨85, _⟩ => ⟨S6x8192x1, .f32⟩
  | .hbm, ⟨86, _⟩ => ⟨S6x8192x1, .f32⟩
  | .hbm, ⟨87, _⟩ => ⟨S6x8192x8192, .f32⟩
  | .hbm, ⟨88, _⟩ => ⟨S6x8192x8192, .f32⟩
  | .hbm, ⟨89, _⟩ => ⟨S_, .f32⟩
  | .hbm, ⟨90, _⟩ => ⟨S6x8192, .f32⟩
  | .hbm, ⟨91, _⟩ => ⟨S6x8192x8192, .f32⟩
  | .hbm, ⟨92, _⟩ => ⟨S6x8192x8192, .f32⟩
  | .hbm, ⟨93, _⟩ => ⟨S6x8192x8192, .f32⟩
  | .hbm, ⟨94, _⟩ => ⟨S_, .f32⟩
  | .hbm, ⟨95, _⟩ => ⟨S6x8192x8192, .f32⟩
  | .hbm, ⟨96, _⟩ => ⟨S6x8192x8192, .f32⟩
  | .hbm, ⟨97, _⟩ => ⟨S6x8192x8192, .f32⟩
  | .hbm, ⟨98, _⟩ => ⟨S_, .f32⟩
  | .hbm, ⟨99, _⟩ => ⟨S6x8192, .f32⟩
  | .hbm, ⟨100, _⟩ => ⟨S6x1x8192, .f32⟩
  | .hbm, ⟨101, _⟩ => ⟨S_, .f32⟩
  | .hbm, ⟨102, _⟩ => ⟨S6x8192, .f32⟩
  | .hbm, ⟨103, _⟩ => ⟨S_, .f32⟩
  | .hbm, ⟨104, _⟩ => ⟨S6x8192x8192, .f32⟩
  | .hbm, ⟨105, _⟩ => ⟨S6x8192x8192, .f32⟩
  | .hbm, ⟨106, _⟩ => ⟨S6x8192x128, .f32⟩
  | .hbm, ⟨107, _⟩ => ⟨S8192x6x128, .f32⟩
  | .hbm, ⟨108, _⟩ => ⟨S8192x768, .f32⟩
  | .hbm, ⟨109, _⟩ => ⟨S8192x768, .f32⟩
  | .hbm, ⟨110, _⟩ => ⟨S6x1x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_14 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_15 : Ref sig .tc := ⟨.hbm, 98, rfl⟩
abbrev main_v77 : Ref sig .tc := ⟨.hbm, 99, rfl⟩
abbrev main_v78 : Ref sig .tc := ⟨.hbm, 100, rfl⟩
abbrev main_cst_16 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== DkvSavedIdeal.lean ====
abbrev S8192x1024 : Shape := ⟨2, ![8192, 1024]⟩
abbrev S8192x768 : Shape := ⟨2, ![8192, 768]⟩
abbrev S6x8192 : Shape := ⟨2, ![6, 8192]⟩
abbrev S_ : Shape := ⟨0, ![]⟩
abbrev S6x1x8192 : Shape := ⟨3, ![6, 1, 8192]⟩
abbrev S8192x6x128 : Shape := ⟨3, ![8192, 6, 128]⟩
abbrev S6x8192x8192 : Shape := ⟨3, ![6, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x8192x1 : Shape := ⟨3, ![6, 8192, 1]⟩
abbrev S6x128x8192 : Shape := ⟨3, ![6, 128, 8192]⟩
abbrev S8192x6 : Shape := ⟨2, ![8192, 6]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x768, .bf16⟩
  | .hbm, ⟨3, _⟩ => ⟨S6x8192, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S6x8192, .f32⟩
  | .hbm, ⟨8, _⟩ => ⟨S6x8192, .f32⟩
  | .hbm, ⟨9, _⟩ => ⟨S6x1x8192, .f32⟩
  | .hbm, ⟨10, _⟩ => ⟨S8192x768, .bf16⟩
  | .hbm, ⟨11, _⟩ => ⟨S8192x768, .f32⟩
  | .hbm, ⟨12, _⟩ => ⟨S8192x6x128, .f32⟩
  | .hbm, ⟨13, _⟩ => ⟨S8192x768, .f32⟩
  | .hbm, ⟨14, _⟩ => ⟨S8192x6x128, .f32⟩
  | .hbm, ⟨15, _⟩ => ⟨S8192x768, .f32⟩
  | .hbm, ⟨16, _⟩ => ⟨S8192x6x128, .f32⟩
  | .hbm, ⟨17, _⟩ => ⟨S6x8192x8192, .f32⟩
  | .hbm, ⟨18, _⟩ => ⟨S_, .f32⟩
  | .hbm, ⟨19, _⟩ => ⟨S6x8192x8192, .f32⟩
  | .hbm, ⟨20, _⟩ => ⟨S6x8192x8192, .f32⟩
  | .hbm, ⟨21, _⟩ => ⟨S6x1x8192, .f32⟩
  | .hbm, ⟨22, _⟩ => ⟨S6x8192x8192, .f32⟩
  | .hbm, ⟨23, _⟩ => ⟨S6x8192x8192, .f32⟩
  | .hbm, ⟨24, _⟩ => ⟨S8192, .i32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S6x8192x8192, .i1⟩
  | .hbm, ⟨31, _⟩ => ⟨S_, .f32⟩
  | .hbm, ⟨32, _⟩ => ⟨S6x8192x8192, .f32⟩
  | .hbm, ⟨33, _⟩ => ⟨S6x8192x8192, .f32⟩
  | .hbm, ⟨34, _⟩ => ⟨S_, .f32⟩
  | .hbm, ⟨35, _⟩ => ⟨S6x8192, .f32⟩
  | .hbm, ⟨36, _⟩ => ⟨S6x8192x1, .f32⟩
  | .hbm, ⟨37, _⟩ => ⟨S6x8192x8192, .f32⟩
  | .hbm, ⟨38, _⟩ => ⟨S6x8192x8192, .f32⟩
  | .hbm, ⟨39, _⟩ => ⟨S6x8192x8192, .f32⟩
  | .hbm, ⟨40, _⟩ => ⟨S_, .f32⟩
  | .hbm, ⟨41, _⟩ => ⟨S6x8192, .f32⟩
  | .hbm, ⟨42, _⟩ => ⟨S6x8192x1, .f32⟩
  | .hbm, ⟨43, _⟩ => ⟨S6x8192x8192, .f32⟩
  | .hbm, ⟨44, _⟩ => ⟨S6x8192x8192, .f32⟩
  | .hbm, ⟨45, _⟩ => ⟨S6x128x8192, .f32⟩
  | .hbm, ⟨46, _⟩ => ⟨S8192x6x128, .f32⟩
  | .hbm, ⟨47, _⟩ => ⟨S8192x768, .f32⟩
  | .hbm, ⟨48, _⟩ => ⟨S8192x768, .bf16⟩
  | .hbm, ⟨49, _⟩ => ⟨S6x8192x1, .f32⟩
  | .hbm, ⟨50, _⟩ => ⟨S6x8192x1, .f32⟩
  | .hbm, ⟨51, _⟩ => ⟨S_, .f32⟩
  | .hbm, ⟨52, _⟩ => ⟨S_, .f32⟩
  | .hbm, ⟨53, _⟩ => ⟨S6x8192x1, .f32⟩
  | .hbm, ⟨54, _⟩ => ⟨S6x8192x1, .f32⟩
  | .hbm, ⟨55, _⟩ => ⟨S8192x768, .f32⟩
  | .hbm, ⟨56, _⟩ => ⟨S8192x768, .f32⟩
  | .hbm, ⟨57, _⟩ => ⟨S8192x768, .f32⟩
  | .hbm, ⟨58, _⟩ => ⟨S8192x6x128, .f32⟩
  | .hbm, ⟨59, _⟩ => ⟨S_, .f32⟩
  | .hbm, ⟨60, _⟩ => ⟨S8192x6, .f32⟩
  | .hbm, ⟨61, _⟩ => ⟨S6x8192, .f32⟩
  | .hbm, ⟨62, _⟩ => ⟨S6x8192x1, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S8x4x1024x704 : Shape := ⟨4, ![8, 4, 1024, 704]⟩
abbrev S4x2816x1024 : Shape := ⟨3, ![4, 2816, 1024]⟩
abbrev S_ : Shape := ⟨0, ![]⟩
abbrev S8192 : Shape := ⟨1, ![8192]⟩
abbrev S8192x1 : Shape := ⟨2, ![8192, 1]⟩
abbrev S8x1x1024x704 : Shape := ⟨4, ![8, 1, 1024, 704]⟩
abbrev S8x1024x704 : Shape := ⟨3, ![8, 1024, 704]⟩
abbrev S4x1024x704 : Shape := ⟨3, ![4, 1024, 704]⟩
abbrev S4x704x8192 : Shape := ⟨3, ![4, 704, 8192]⟩
abbrev S4x8192x704 : Shape := ⟨3, ![4, 8192, 704]⟩
abbrev S4x8192x1024 : Shape := ⟨3, ![4, 8192, 1024]⟩
abbrev S2816x1024 : Shape := ⟨2, ![2816, 1024]⟩
abbrev S512x1024 : Shape := ⟨2, ![512, 1024]⟩
abbrev S1x512x704 : Shape := ⟨3, ![1, 512, 704]⟩
abbrev S1x1x1024x704 : Shape := ⟨4, ![1, 1, 1024, 704]⟩
abbrev S1x704x1024 : Shape := ⟨3, ![1, 704, 1024]⟩
abbrev S1x512x1024 : Shape := ⟨3, ![1, 512, 1024]⟩
abbrev S1x1024x704 : Shape := ⟨3, ![1, 1024, 704]⟩
abbrev S704x1024 : Shape := ⟨2, ![704, 1024]⟩
abbrev S1024x704 : Shape := ⟨2, ![1024, 704]⟩
abbrev S512 : Shape := ⟨1, ![512]⟩
abbrev S512x1 : Shape := ⟨2, ![512, 1]⟩
abbrev S512x704 : Shape := ⟨2, ![512, 704]⟩

abbrev nBuf : Space → Nat
  | .hbm => 37
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8x4x1024x704, .bf16⟩
  | .hbm, ⟨4, _⟩ => ⟨S4x2816x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8x1x1024x704, .bf16⟩
  | .hbm, ⟨23, _⟩ => ⟨S8x1024x704, .bf16⟩
  | .hbm, ⟨24, _⟩ => ⟨S8x1024x704, .f32⟩
  | .hbm, ⟨25, _⟩ => ⟨S4x1024x704, .f32⟩
  | .hbm, ⟨26, _⟩ => ⟨S4x704x8192, .f32⟩
  | .hbm, ⟨27, _⟩ => ⟨S4x8192x704, .f32⟩
  | .hbm, ⟨28, _⟩ => ⟨S4x8192x704, .bf16⟩
  | .hbm, ⟨29, _⟩ => ⟨S4x1024x704, .f32⟩
  | .hbm, ⟨30, _⟩ => ⟨S4x704x8192, .f32⟩
  | .hbm, ⟨31, _⟩ => ⟨S4x8192x704, .f32⟩
  | .hbm, ⟨32, _⟩ => ⟨S4x8192x704, .bf16⟩
  | .hbm, ⟨33, _⟩ => ⟨S4x8192x1024, .bf16⟩
  | .hbm, ⟨34, _⟩ => ⟨S4x1024x704, .f32⟩
  | .hbm, ⟨35, _⟩ => ⟨S4x1024x704, .f32⟩
  | .hbm, ⟨36, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x1x1024x704, .bf16⟩
  | .local _ .vmem, ⟨10, _⟩ => ⟨S1x1x1024x704, .bf16⟩
  | .local _ .vmem, ⟨11, _⟩ => ⟨S1x1x1024x704, .bf16⟩
  | .local _ .vmem, ⟨12, _⟩ => ⟨S1x1x1024x704, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x704, .f32⟩
  | .local _ .vmem, ⟨18, _⟩ => ⟨S1x1024x704, .f32⟩
  | .local _ .vmem, ⟨19, _⟩ => ⟨S1x1024x704, .f32⟩
  | .local _ .vmem, ⟨20, _⟩ => ⟨S1x1024x704, .f32⟩
  | .local _ .vmem, ⟨21, _⟩ => ⟨S704x1024, .f32⟩
  | .local _ .vmem, ⟨22, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S704x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S8192x1024 : Shape := ⟨2, ![8192, 1024]⟩
abbrev S1x1024 : Shape := ⟨2, ![1, 1024]⟩
abbrev S8x4x1024x704 : Shape := ⟨4, ![8, 4, 1024, 704]⟩
abbrev S4x2816x1024 : Shape := ⟨3, ![4, 2816, 1024]⟩
abbrev S_ : Shape := ⟨0, ![]⟩
abbrev S8192 : Shape := ⟨1, ![8192]⟩
abbrev S8192x1 : Shape := ⟨2, ![8192, 1]⟩
abbrev S4x1x1024x704 : Shape := ⟨4, ![4, 1, 1024, 704]⟩
abbrev S4x1024x704 : Shape := ⟨3, ![4, 1024, 704]⟩
abbrev S1x2816x1024 : Shape := ⟨3, ![1, 2816, 1024]⟩
abbrev S2816x1024 : Shape := ⟨2, ![2816, 1024]⟩
abbrev S4x704x1024 : Shape := ⟨3, ![4, 704, 1024]⟩
abbrev S4x8192x1024 : Shape := ⟨3, ![4, 8192, 1024]⟩
abbrev S4x8192x704 : Shape := ⟨3, ![4, 8192, 704]⟩
abbrev S1024x4x704 : Shape := ⟨3, ![1024, 4, 704]⟩
abbrev S8192x4x704 : Shape := ⟨3, ![8192, 4, 704]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8x4x1024x704, .bf16⟩
  | .hbm, ⟨4, _⟩ => ⟨S4x2816x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S4x1x1024x704, .bf16⟩
  | .hbm, ⟨23, _⟩ => ⟨S4x1024x704, .bf16⟩
  | .hbm, ⟨24, _⟩ => ⟨S4x1024x704, .f32⟩
  | .hbm, ⟨25, _⟩ => ⟨S4x1x1024x704, .bf16⟩
  | .hbm, ⟨26, _⟩ => ⟨S4x1024x704, .bf16⟩
  | .hbm, ⟨27, _⟩ => ⟨S4x1024x704, .f32⟩
  | .hbm, ⟨28, _⟩ => ⟨S1x2816x1024, .bf16⟩
  | .hbm, ⟨29, _⟩ => ⟨S2816x1024, .bf16⟩
  | .hbm, ⟨30, _⟩ => ⟨S2816x1024, .f32⟩
  | .hbm, ⟨31, _⟩ => ⟨S4x704x1024, .f32⟩
  | .hbm, ⟨32, _⟩ => ⟨S4x8192x1024, .f32⟩
  | .hbm, ⟨33, _⟩ => ⟨S4x8192x704, .f32⟩
  | .hbm, ⟨34, _⟩ => ⟨S4x8192x704, .f32⟩
  | .hbm, ⟨35, _⟩ => ⟨S4x8192x704, .f32⟩
  | .hbm, ⟨36, _⟩ => ⟨S4x8192x704, .f32⟩
  | .hbm, ⟨37, _⟩ => ⟨S_, .f32⟩
  | .hbm, ⟨38, _⟩ => ⟨S4x8192x704, .f32⟩
  | .hbm, ⟨39, _⟩ => ⟨S4x8192x704, .f32⟩
  | .hbm, ⟨40, _⟩ => ⟨S_, .f32⟩
  | .hbm, ⟨41, _⟩ => ⟨S4x8192x704, .f32⟩
  | .hbm, ⟨42, _⟩ => ⟨S4x8192x704, .f32⟩
  | .hbm, ⟨43, _⟩ => ⟨S_, .f32⟩
  | .hbm, ⟨44, _⟩ => ⟨S4x8192x704, .f32⟩
  | .hbm, ⟨45, _⟩ => ⟨S4x8192x704, .f32⟩
  | .hbm, ⟨46, _⟩ => ⟨S4x8192x704, .f32⟩
  | .hbm, ⟨47, _⟩ => ⟨S4x8192x704, .f32⟩
  | .hbm, ⟨48, _⟩ => ⟨S4x8192x704, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S1024x4x704, .f32⟩
  | .hbm, ⟨57, _⟩ => ⟨S4x704x1024, .f32⟩
  | .hbm, ⟨58, _⟩ => ⟨S8192x4x704, .f32⟩
  | .hbm, ⟨59, _⟩ => ⟨S4x8192x704, .f32⟩
  | .hbm, ⟨60, _⟩ => ⟨S4x8192x704, .f32⟩
  | .hbm, ⟨61, _⟩ => ⟨S4x8192x704, .f32⟩
  | .hbm, ⟨62, _⟩ => ⟨S4x8192x704, .f32⟩
  | .hbm, ⟨63, _⟩ => ⟨S4x8192x704, .f32⟩
  | .hbm, ⟨64, _⟩ => ⟨S4x8192x704, .f32⟩
  | .hbm, ⟨65, _⟩ => ⟨S4x8192x704, .f32⟩
  | .hbm, ⟨66, _⟩ => ⟨S4x704x1024, .f32⟩
  | .hbm, ⟨67, _⟩ => ⟨S4x1024x704, .f32⟩
  | .hbm, ⟨68, _⟩ => ⟨S4x8192x1024, .f32⟩
  | .hbm, ⟨69, _⟩ => ⟨S4x704x1024, .f32⟩
  | .hbm, ⟨70, _⟩ => ⟨S4x1024x704, .f32⟩
  | .hbm, ⟨71, _⟩ => ⟨S4x8192x1024, .f32⟩
  | .hbm, ⟨72, _⟩ => ⟨S4x8192x1024, .f32⟩
  | .hbm, ⟨73, _⟩ => ⟨S4x8192x1024, .bf16⟩
  | .hbm, ⟨74, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v27_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v27_1 : Ref sig .tc := ⟨.hbm, 46, rfl⟩
abbrev main_v27_0 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Fwd.lean ====
abbrev S8192x1024 : Shape := ⟨2, ![8192, 1024]⟩
abbrev S1x1024 : Shape := ⟨2, ![1, 1024]⟩
abbrev S8x4x1024x704 : Shape := ⟨4, ![8, 4, 1024, 704]⟩
abbrev S4x2816x1024 : Shape := ⟨3, ![4, 2816, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x4x1024x704, .bf16⟩
  | .hbm, ⟨3, _⟩ => ⟨S4x2816x1024, .bf16⟩
  | .hbm, ⟨4, _⟩ => ⟨S8192x1024, .f32⟩
  | .hbm, ⟨5, _⟩ => ⟨S4x8192x704, .bf16⟩
  | .hbm, ⟨6, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_28 : BitVec 32 := 0#32
  let v38 : BitVec 1 := Scalar.cmpi .ne v37 c0_i32_28
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FwdRefIdeal.lean ====
abbrev S8192x1024 : Shape := ⟨2, ![8192, 1024]⟩
abbrev S1x1024 : Shape := ⟨2, ![1, 1024]⟩
abbrev S8x4x1024x704 : Shape := ⟨4, ![8, 4, 1024, 704]⟩
abbrev S4x2816x1024 : Shape := ⟨3, ![4, 2816, 1024]⟩
abbrev S_ : Shape := ⟨0, ![]⟩
abbrev S8192 : Shape := ⟨1, ![8192]⟩
abbrev S8192x1 : Shape := ⟨2, ![8192, 1]⟩
abbrev S4x1x1024x704 : Shape := ⟨4, ![4, 1, 1024, 704]⟩
abbrev S4x1024x704 : Shape := ⟨3, ![4, 1024, 704]⟩
abbrev S1x2816x1024 : Shape := ⟨3, ![1, 2816, 1024]⟩
abbrev S2816x1024 : Shape := ⟨2, ![2816, 1024]⟩
abbrev S4x704x1024 : Shape := ⟨3, ![4, 704, 1024]⟩
abbrev S4x704x8192 : Shape := ⟨3, ![4, 704, 8192]⟩
abbrev S4x8192x704 : Shape := ⟨3, ![4, 8192, 704]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x4x1024x704, .bf16⟩
  | .hbm, ⟨3, _⟩ => ⟨S4x2816x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S4x1x1024x704, .bf16⟩
  | .hbm, ⟨22, _⟩ => ⟨S4x1024x704, .bf16⟩
  | .hbm, ⟨23, _⟩ => ⟨S4x1024x704, .f32⟩
  | .hbm, ⟨24, _⟩ => ⟨S4x1x1024x704, .bf16⟩
  | .hbm, ⟨25, _⟩ => ⟨S4x1024x704, .bf16⟩
  | .hbm, ⟨26, _⟩ => ⟨S4x1024x704, .f32⟩
  | .hbm, ⟨27, _⟩ => ⟨S1x2816x1024, .bf16⟩
  | .hbm, ⟨28, _⟩ => ⟨S2816x1024, .bf16⟩
  | .hbm, ⟨29, _⟩ => ⟨S2816x1024, .f32⟩
  | .hbm, ⟨30, _⟩ => ⟨S4x704x1024, .f32⟩
  | .hbm, ⟨31, _⟩ => ⟨S4x704x8192, .f32⟩
  | .hbm, ⟨32, _⟩ => ⟨S4x8192x704, .f32⟩
  | .hbm, ⟨33, _⟩ => ⟨S4x704x8192, .f32⟩
  | .hbm, ⟨34, _⟩ => ⟨S4x8192x704, .f32⟩
  | .hbm, ⟨35, _⟩ => ⟨S4x8192x704, .f32⟩
  | .hbm, ⟨36, _⟩ => ⟨S4x8192x704, .f32⟩
  | .hbm, ⟨37, _⟩ => ⟨S_, .f32⟩
  | .hbm, ⟨38, _⟩ => ⟨S4x8192x704, .f32⟩
  | .hbm, ⟨39, _⟩ => ⟨S4x8192x704, .f32⟩
  | .hbm, ⟨40, _⟩ => ⟨S_, .f32⟩
  | .hbm, ⟨41, _⟩ => ⟨S4x8192x704, .f32⟩
  | .hbm, ⟨42, _⟩ => ⟨S4x8192x704, .f32⟩
  | .hbm, ⟨43, _⟩ => ⟨S4x8192x704, .f32⟩
  | .hbm, ⟨44, _⟩ => ⟨S4x8192x704, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S4x8192x704, .bf16⟩
  | .hbm, ⟨51, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Att.lean ====
abbrev S8192x1024 : Shape := ⟨2, ![8192, 1024]⟩
abbrev S8192x768 : Shape := ⟨2, ![8192, 768]⟩
abbrev S6x8192 : Shape := ⟨2, ![6, 8192]⟩
abbrev S_ : Shape := ⟨0, ![]⟩
abbrev S6x1x8192 : Shape := ⟨3, ![6, 1, 8192]⟩
abbrev S6x8192x1 : Shape := ⟨3, ![6, 8192, 1]⟩
abbrev S1024x384 : Shape := ⟨2, ![1024, 384]⟩
abbrev S3x1x1024 : Shape := ⟨3, ![3, 1, 1024]⟩
abbrev S3x1024x1 : Shape := ⟨3, ![3, 1024, 1]⟩
abbrev S1024x128 : Shape := ⟨2, ![1024, 128]⟩
abbrev S1024x1024 : Shape := ⟨2, ![1024, 1024]⟩
abbrev S1x1x1024 : Shape := ⟨3, ![1, 1, 1024]⟩
abbrev S1x1024 : Shape := ⟨2, ![1, 1024]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x768, .bf16⟩
  | .hbm, ⟨3, _⟩ => ⟨S6x8192, .f32⟩
  | .hbm, ⟨4, _⟩ => ⟨S_, .f32⟩
  | .hbm, ⟨5, _⟩ => ⟨S_, .f32⟩
  | .hbm, ⟨6, _⟩ => ⟨S6x8192, .f32⟩
  | .hbm, ⟨7, _⟩ => ⟨S6x8192, .f32⟩
  | .hbm, ⟨8, _⟩ => ⟨S6x1x8192, .f32⟩
  | .hbm, ⟨9, _⟩ => ⟨S8192x768, .bf16⟩
  | .hbm, ⟨10, _⟩ => ⟨S6x8192x1, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .bf16⟩
  | .local _ .vmem, ⟨6, _⟩ => ⟨S3x1x1024, .f32⟩
  | .local _ .vmem, ⟨7, _⟩ => ⟨S3x1x1024, .f32⟩
  | .local _ .vmem, ⟨8, _⟩ => ⟨S1024x384, .bf16⟩
  | .local _ .vmem, ⟨9, _⟩ => ⟨S1024x384, .bf16⟩
  | .local _ .vmem, ⟨10, _⟩ => ⟨S3x1024x1, .f32⟩
  | .local _ .vmem, ⟨11, _⟩ => ⟨S3x1024x1, .f32⟩
  | .local _ .vmem, ⟨12, _⟩ => ⟨S3x1024x1, .f32⟩
  | .local _ .vmem, ⟨13, _⟩ => ⟨S3x1024x1, .f32⟩
  | .local _ .vmem, ⟨14, _⟩ => ⟨S1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  ![v0.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S3x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AttIdeal.lean ====
variable {F : FTy → Type} [FloatOps F] [Named F]
def κ : String → Option EReal := fun
  | "mask" => some ⊥
  | "scale2" => some (((11863283 / 134217728) * (Real.log 2)⁻¹ : ℝ) : EReal)
  | _ => none
-- ==== AttRefIdeal.lean ====
abbrev S8192x1024 : Shape := ⟨2, ![8192, 1024]⟩
abbrev S8192x768 : Shape := ⟨2, ![8192, 768]⟩
abbrev S6x8192 : Shape := ⟨2, ![6, 8192]⟩
abbrev S8192x6x128 : Shape := ⟨3, ![8192, 6, 128]⟩
abbrev S6x8192x8192 : Shape := ⟨3, ![6, 8192, 8192]⟩
abbrev S_ : Shape := ⟨0, ![]⟩
abbrev S6x8192x1 : Shape := ⟨3, ![6, 8192, 1]⟩
abbrev S6x1x8192 : Shape := ⟨3, ![6, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x128x8192 : Shape := ⟨3, ![6, 128, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x768, .bf16⟩
  | .hbm, ⟨3, _⟩ => ⟨S6x8192, .f32⟩
  | .hbm, ⟨4, _⟩ => ⟨S8192x768, .bf16⟩
  | .hbm, ⟨5, _⟩ => ⟨S8192x768, .f32⟩
  | .hbm, ⟨6, _⟩ => ⟨S8192x6x128, .f32⟩
  | .hbm, ⟨7, _⟩ => ⟨S8192x768, .f32⟩
  | .hbm, ⟨8, _⟩ => ⟨S8192x6x128, .f32⟩
  | .hbm, ⟨9, _⟩ => ⟨S8192x768, .f32⟩
  | .hbm, ⟨10, _⟩ => ⟨S8192x6x128, .f32⟩
  | .hbm, ⟨11, _⟩ => ⟨S6x8192x8192, .f32⟩
  | .hbm, ⟨12, _⟩ => ⟨S_, .f32⟩
  | .hbm, ⟨13, _⟩ => ⟨S6x8192x8192, .f32⟩
  | .hbm, ⟨14, _⟩ => ⟨S6x8192x8192, .f32⟩
  | .hbm, ⟨15, _⟩ => ⟨S6x8192x1, .f32⟩
  | .hbm, ⟨16, _⟩ => ⟨S6x8192x8192, .f32⟩
  | .hbm, ⟨17, _⟩ => ⟨S6x8192x8192, .f32⟩
  | .hbm, ⟨18, _⟩ => ⟨S6x1x8192, .f32⟩
  | .hbm, ⟨19, _⟩ => ⟨S6x8192x8192, .f32⟩
  | .hbm, ⟨20, _⟩ => ⟨S6x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S6x8192x8192, .i1⟩
  | .hbm, ⟨28, _⟩ => ⟨S_, .f32⟩
  | .hbm, ⟨29, _⟩ => ⟨S6x8192x8192, .f32⟩
  | .hbm, ⟨30, _⟩ => ⟨S6x8192x8192, .f32⟩
  | .hbm, ⟨31, _⟩ => ⟨S_, .f32⟩
  | .hbm, ⟨32, _⟩ => ⟨S6x8192, .f32⟩
  | .hbm, ⟨33, _⟩ => ⟨S6x8192x1, .f32⟩
  | .hbm, ⟨34, _⟩ => ⟨S6x8192x8192, .f32⟩
  | .hbm, ⟨35, _⟩ => ⟨S6x8192x8192, .f32⟩
  | .hbm, ⟨36, _⟩ => ⟨S6x8192x8192, .f32⟩
  | .hbm, ⟨37, _⟩ => ⟨S_, .f32⟩
  | .hbm, ⟨38, _⟩ => ⟨S6x8192, .f32⟩
  | .hbm, ⟨39, _⟩ => ⟨S6x8192x1, .f32⟩
  | .hbm, ⟨40, _⟩ => ⟨S6x8192x8192, .f32⟩
  | .hbm, ⟨41, _⟩ => ⟨S6x8192x8192, .f32⟩
  | .hbm, ⟨42, _⟩ => ⟨S6x128x8192, .f32⟩
  | .hbm, ⟨43, _⟩ => ⟨S8192x6x128, .f32⟩
  | .hbm, ⟨44, _⟩ => ⟨S8192x768, .f32⟩
  | .hbm, ⟨45, _⟩ => ⟨S8192x768, .bf16⟩
  | .hbm, ⟨46, _⟩ => ⟨S6x8192x1, .f32⟩
  | .hbm, ⟨47, _⟩ => ⟨S6x8192x1, .f32⟩
  | .hbm, ⟨48, _⟩ => ⟨S6x8192x1, .f32⟩
  | .hbm, ⟨49, _⟩ => ⟨S6x8192x1, .f32⟩
  | .hbm, ⟨50, _⟩ => ⟨S_, .f32⟩
  | .hbm, ⟨51, _⟩ => ⟨S_, .f32⟩
  | .hbm, ⟨52, _⟩ => ⟨S6x8192x1, .f32⟩
  | .hbm, ⟨53, _⟩ => ⟨S6x8192x1, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Proof.DkvTile.lean ====
/-
  WHAT ONE TILE OF THE dk/dv KERNEL LEAVES IN ITS THREE OUTPUT BLOCKS.

  The grid walks, for each group of three heads and each block `j` of 1024 columns (keys), the blocks `i` of 1024 rows
  (queries). `x0`, `x1`, `x2` are the blocks of q, k and v, `x3` the columns' gates in base 2, `x4` the rows' logarithms of the
  sums in base 2, `x5` the rows' sums of output times cotangent, `x6` the block of the output's cotangent. A tile below the
  diagonal adds its products to what the blocks hold; the diagonal tile does so with the columns past the row masked; the first
  row block starts from zero. Each theorem `out_κ_W` reads output `W` of case `κ` at head `h` of the block.
-/
module

public import proofs.«01_k».proof.Proof.Gen.DkvIdeal.Value
public import Idealize.ShloMosaic.Lib.Pointwise

@[expose] public section

set_option maxRecDepth 16384

noncomputable section

namespace Cert.DkvIdeal.Tile

open Cert.DkvIdeal Cert.DkvIdeal.Gen Idealize.ShloMosaic Idealize.ShloMosaic.TcCoe Idealize.ShloMosaic.Tactic
open scoped BigOperators

/-! ## Stores of a head's columns, read back at an index -/

section Stores
variable {Val : EltTy → Type} {e : EltTy} [∀ e, Nonempty (Val e)]

/-- A store of 128 columns from column `o`, read at column `k`. -/
theorem canon_cols (o : ℕ) (inb : ∀ a, (![0, o] : Fin 2 → ℕ) a + (![1024, 128] : Fin 2 → ℕ) a ≤ S1024x384.size a)
    (w : (⟨2, ![1024, 128]⟩ : Shape).Idx → Val e) (L : List (View.Piece Val S1024x384 e)) (r : Fin 1024) (k : Fin 384) :
    View.canon ((⟨Rect.unit ![0, o] ![1024, 128] inb, w⟩ : View.Piece Val S1024x384 e) :: L) (ix2 r k)
      = if h : o ≤ k.val ∧ k.val < o + 128 then w (ix2 r (⟨k.val - o, by omega⟩ : Fin 128)) else View.canon L (ix2 r k) := by
  split
  · rename_i h
    have e : (ix2 r k : S1024x384.Idx)
        = (Rect.unit (s := S1024x384) ![0, o] ![1024, 128] inb).emb (ix2 r (⟨k.val - o, by omega⟩ : Fin 128)) := by
      funext a; apply Fin.ext; rw [Rect.emb_apply]
      fin_cases a
      · show r.val = 0 + 1 * r.val; omega
      · show k.val = o + 1 * (k.val - o); omega
    rw [e, View.canon_cons_emb]
  · rename_i h
    refine View.canon_cons_of_not_mem _ L ?_
    intro hm
    obtain ⟨x, hx⟩ := (Rect.unit (s := S1024x384) ![0, o] ![1024, 128] inb).exists_idx_of_mem hm
    have h1 := congrArg (fun i : S1024x384.Idx => (i 1).val) hx
    have hlt : (x 1).val < 128 := (x 1).isLt
    have h2 : o + 1 * (x 1).val = k.val := h1
    omega

/-- A store of head `o`'s row of gates, read at head `k`. -/
theorem canon_heads (o : ℕ) (inb : ∀ a, (![o, 0, 0] : Fin 3 → ℕ) a + (![1, 1, 1024] : Fin 3 → ℕ) a ≤ S3x1x1024.size a)
    (w : (⟨3, ![1, 1, 1024]⟩ : Shape).Idx → Val e) (L : List (View.Piece Val S3x1x1024 e)) (k : Fin 3) (t : Fin 1024) :
    View.canon ((⟨Rect.unit ![o, 0, 0] ![1, 1, 1024] inb, w⟩ : View.Piece Val S3x1x1024 e) :: L) (ix3 k (0 : Fin 1) t)
      = if k.val = o then w (ix3 (0 : Fin 1) (0 : Fin 1) t) else View.canon L (ix3 k (0 : Fin 1) t) := by
  split
  · rename_i h
    have e : (ix3 k (0 : Fin 1) t : S3x1x1024.Idx)
        = (Rect.unit (s := S3x1x1024) ![o, 0, 0] ![1, 1, 1024] inb).emb (ix3 (0 : Fin 1) (0 : Fin 1) t) := by
      funext a; apply Fin.ext; rw [Rect.emb_apply]
      fin_cases a
      · show k.val = o + 1 * 0; omega
      · show 0 = 0 + 1 * 0; omega
      · show t.val = 0 + 1 * t.val; omega
    rw [e, View.canon_cons_emb]
  · rename_i h
    refine View.canon_cons_of_not_mem _ L ?_
    intro hm
    obtain ⟨x, hx⟩ := (Rect.unit (s := S3x1x1024) ![o, 0, 0] ![1, 1, 1024] inb).exists_idx_of_mem hm
    have h1 := congrArg (fun i : S3x1x1024.Idx => (i 0).val) hx
    have hlt : (x 0).val < 1 := (x 0).isLt
    have h2 : o + 1 * (x 0).val = k.val := h1
    omega

/-- A store of the whole block is what the block holds. -/
theorem canon_whole2 (inb : ∀ a, (![0, 0] : Fin 2 → ℕ) a + (![1024, 384] : Fin 2 → ℕ) a ≤ S1024x384.size a)
    (w : S1024x384.Idx → Val e) (L : List (View.Piece Val S1024x384 e)) :
    View.canon ((⟨Rect.unit ![0, 0] ![1024, 384] inb, w⟩ : View.Piece Val S1024x384 e) :: L) = w :=
  View.canon_cons_unit_zero (by funext a; fin_cases a <;> rfl) inb w L

/-- A store of the whole row of gates is what it holds. -/
theorem canon_whole3 (inb : ∀ a, (![0, 0, 0] : Fin 3 → ℕ) a + (![3, 1, 1024] : Fin 3 → ℕ) a ≤ S3x1x1024.size a)
    (w : S3x1x1024.Idx → Val e) (L : List (View.Piece Val S3x1x1024 e)) :
    View.canon ((⟨Rect.unit ![0, 0, 0] ![3, 1, 1024] inb, w⟩ : View.Piece Val S3x1x1024 e) :: L) = w :=
  View.canon_cons_unit_zero (by funext a; fin_cases a <;> rfl) inb w L

end Stores

/-! ## One tile -/

/-- Feature `d` of head `h` in a block of three heads. -/
def col (h : Fin 3) (d : Fin 128) : Fin 384 := ⟨h.val * 128 + d.val, by omega⟩

theorem col_zero (d : Fin 128) : col 0 d = ⟨d.val, by omega⟩ := Fin.ext (by simp [col])
theorem col_one (d : Fin 128) : col 1 d = ⟨128 + d.val, by omega⟩ := Fin.ext (by simp [col])
theorem col_two (d : Fin 128) : col 2 d = ⟨256 + d.val, by omega⟩ := Fin.ext (by simp [col])

section Tile
variable (diag : Bool) (x0 x1 x2 : Vec Ideal S1024x384 .bf16) (x3 : Vec Ideal S3x1x1024 .f32) (x4 x5 : Vec Ideal S3x1024x1 .f32)
  (x6 : Vec Ideal S1024x384 .f32)

/-- The score of row `r` and column `t` in base 2, less the gate of the column; on the diagonal tile the columns past the row
    hold the mask. -/
def score (h : Fin 3) (r t : Fin 1024) : EReal :=
  if diag then
    Scalar.select (IntOp.cmpi CmpIPredicate.sle (BitVec.ofNat 32 t.val) (BitVec.ofNat 32 r.val))
      ((∑ d, x0 (ix2 r (col h d)) * x1 (ix2 t (col h d))) * Named.named (F := Ideal) κ "scale2" (φ := .f32) 0x3E0293EE#32 - x3 (ix3 h 0 t))
      (Named.named (F := Ideal) κ "mask" (φ := .f32) 0xF149F2CA#32)
  else (∑ d, x0 (ix2 r (col h d)) * x1 (ix2 t (col h d))) * Named.named (F := Ideal) κ "scale2" (φ := .f32) 0x3E0293EE#32 - x3 (ix3 h 0 t)

/-- The probability of row `r` and column `t`. -/
def prob (h : Fin 3) (r t : Fin 1024) : EReal :=
  FloatOps.exp2 (F := Ideal) (φ := .f32) (score diag x0 x1 x3 h r t - x4 (ix3 h r 0))

/-- The gradient of the score of row `r` and column `t`. -/
def dscore (h : Fin 3) (r t : Fin 1024) : EReal :=
  prob diag x0 x1 x3 x4 h r t * (∑ d, x6 (ix2 r (col h d)) * x2 (ix2 t (col h d)) - x5 (ix3 h r 0))

/-- What a tile adds to the gradient of the keys. -/
def addK (h : Fin 3) (t : Fin 1024) (d : Fin 128) : EReal :=
  (∑ r, dscore diag x0 x1 x2 x3 x4 x5 x6 h r t * x0 (ix2 r (col h d))) * Ideal.ofBits .f32 0x3DB504F3#32

/-- What a tile adds to the gradient of the values. -/
def addV (h : Fin 3) (t : Fin 1024) (d : Fin 128) : EReal :=
  ∑ r, prob diag x0 x1 x3 x4 h r t * x6 (ix2 r (col h d))

/-- What a tile takes off the gradient of the gates. -/
def subC (h : Fin 3) (t : Fin 1024) : EReal := ∑ r, dscore diag x0 x1 x2 x3 x4 x5 x6 h r t

end Tile

variable (c : Dev nD) (i : grid0.Coords)
variable (arg3 : Memref sig .tc .vmem S1024x384 .bf16) (harg3 : arg3.IsWhole)
variable (arg4 : Memref sig .tc .vmem S1024x384 .bf16) (harg4 : arg4.IsWhole)
variable (arg5 : Memref sig .tc .vmem S1024x384 .bf16) (harg5 : arg5.IsWhole)
variable (arg6 : Memref sig .tc .vmem S3x1x1024 .f32) (harg6 : arg6.IsWhole)
variable (arg7 : Memref sig .tc .vmem S3x1024x1 .f32) (harg7 : arg7.IsWhole)
variable (arg8 : Memref sig .tc .vmem S3x1024x1 .f32) (harg8 : arg8.IsWhole)
variable (arg9 : Memref sig .tc .vmem S1024x384 .f32) (harg9 : arg9.IsWhole)
variable (arg10 : Memref sig .tc .vmem S1024x384 .f32) (harg10 : arg10.IsWhole)
variable (arg11 : Memref sig .tc .vmem S1024x384 .f32) (harg11 : arg11.IsWhole)
variable (arg12 : Memref sig .tc .vmem S3x1x1024 .f32) (harg12 : arg12.IsWhole)
variable (x0 x1 x2 : Vec Ideal S1024x384 .bf16) (x3 : Vec Ideal S3x1x1024 .f32) (x4 x5 : Vec Ideal S3x1024x1 .f32) (x6 : Vec Ideal S1024x384 .f32)
variable (xo7 xo8 : Vec Ideal S1024x384 .f32) (xo9 : Vec Ideal S3x1x1024 .f32)

/-- The first row block on the diagonal: the gradient of the keys. -/
theorem out_A_7 (hc0 : cond0_0 i) (hc1 : ¬cond0_1 i) (hc2 : cond0_2 i) (h : Fin 3) (t : Fin 1024) (d : Fin 128) :
    out0_A_7 c i arg3 harg3 arg4 harg4 arg5 harg5 arg6 harg6 arg7 harg7 arg8 harg8 arg9 harg9 arg10 harg10 arg11 harg11 arg12 harg12 hc0 hc1 hc2 x0 x1 x2 x3 x4 x5 x6 (ix2 t (col h d)) = 0 + addK true x0 x1 x2 x3 x4 x5 x6 h t d := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_A
  dsimp only
  sl_unfold_words
  simp only [View.readAt_eq_ld, harg3.read_unread, harg4.read_unread, harg5.read_unread, harg6.read_unread, harg7.read_unread,
    harg8.read_unread, harg9.read_unread, harg10.read_unread, harg11.read_unread, harg12.read_unread, View.readCov_eq_canon']
  obtain rfl | rfl | rfl : h = 0 ∨ h = 1 ∨ h = 2 := by omega
  all_goals
    pointwise [canon_cols, canon_whole2, addK, addV, subC, dscore, prob, score, col_zero, col_one, col_two, k0_pay1, k0_pay2, k0_pay3, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    try simp (disch := omega) only [Bool.false_eq_true, and_false, ↓reduceIte, ↓reduceDIte, dif_pos, dif_neg, zero_add]
    try rfl

/-- The first row block on the diagonal: the gradient of the values. -/
theorem out_A_8 (hc0 : cond0_0 i) (hc1 : ¬cond0_1 i) (hc2 : cond0_2 i) (h : Fin 3) (t : Fin 1024) (d : Fin 128) :
    out0_A_8 c i arg3 harg3 arg4 harg4 arg5 harg5 arg6 harg6 arg7 harg7 arg8 harg8 arg9 harg9 arg10 harg10 arg11 harg11 arg12 harg12 hc0 hc1 hc2 x0 x1 x2 x3 x4 x5 x6 (ix2 t (col h d)) = 0 + addV true x0 x1 x3 x4 x6 h t d := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_A
  dsimp only
  sl_unfold_words
  simp only [View.readAt_eq_ld, harg3.read_unread, harg4.read_unread, harg5.read_unread, harg6.read_unread, harg7.read_unread,
    harg8.read_unread, harg9.read_unread, harg10.read_unread, harg11.read_unread, harg12.read_unread, View.readCov_eq_canon']
  obtain rfl | rfl | rfl : h = 0 ∨ h = 1 ∨ h = 2 := by omega
  all_goals
    pointwise [canon_cols, canon_whole2, addK, addV, subC, dscore, prob, score, col_zero, col_one, col_two, k0_pay1, k0_pay2, k0_pay3, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    try simp (disch := omega) only [Bool.false_eq_true, and_false, ↓reduceIte, ↓reduceDIte, dif_pos, dif_neg, zero_add]
    try rfl

/-- The first row block on the diagonal: the gradient of the gates. -/
theorem out_A_9 (hc0 : cond0_0 i) (hc1 : ¬cond0_1 i) (hc2 : cond0_2 i) (h : Fin 3) (t : Fin 1024) :
    out0_A_9 c i arg3 harg3 arg4 harg4 arg5 harg5 arg6 harg6 arg7 harg7 arg8 harg8 arg9 harg9 arg10 harg10 arg11 harg11 arg12 harg12 hc0 hc1 hc2 x0 x1 x2 x3 x4 x5 x6 (ix3 h (0 : Fin 1) t) = 0 - subC true x0 x1 x2 x3 x4 x5 x6 h t := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_A
  dsimp only
  sl_unfold_words
  simp only [View.readAt_eq_ld, harg3.read_unread, harg4.read_unread, harg5.read_unread, harg6.read_unread, harg7.read_unread,
    harg8.read_unread, harg9.read_unread, harg10.read_unread, harg11.read_unread, harg12.read_unread, View.readCov_eq_canon']
  obtain rfl | rfl | rfl : h = 0 ∨ h = 1 ∨ h = 2 := by omega
  all_goals
    pointwise [canon_heads, canon_whole3, addK, addV, subC, dscore, prob, score, col_zero, col_one, col_two, k0_pay1, k0_pay2, k0_pay3, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    try simp (disch := omega) only [Bool.false_eq_true, and_false, ↓reduceIte, ↓reduceDIte, dif_pos, dif_neg, zero_add]
    try rfl

/-- A tile below the diagonal: the gradient of the keys. -/
theorem out_B_7 (hc0 : ¬cond0_0 i) (hc1 : cond0_1 i) (hc2 : ¬cond0_2 i) (h : Fin 3) (t : Fin 1024) (d : Fin 128) :
    out0_B_7 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9 (ix2 t (col h d)) = xo7 (ix2 t (col h d)) + addK false x0 x1 x2 x3 x4 x5 x6 h t d := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9)]
  unfold kernelRun0_B
  dsimp only
  sl_unfold_words
  simp only [View.readAt_eq_ld, harg3.read_unread, harg4.read_unread, harg5.read_unread, harg6.read_unread, harg7.read_unread,
    harg8.read_unread, harg9.read_unread, harg10.read_unread, harg11.read_unread, harg12.read_unread]
  obtain rfl | rfl | rfl : h = 0 ∨ h = 1 ∨ h = 2 := by omega
  all_goals
    pointwise [canon_cols, canon_whole2, addK, addV, subC, dscore, prob, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    try simp (disch := omega) only [Bool.false_eq_true, and_false, ↓reduceIte, ↓reduceDIte, dif_pos, dif_neg, zero_add]
    try rfl

/-- A tile below the diagonal: the gradient of the values. -/
theorem out_B_8 (hc0 : ¬cond0_0 i) (hc1 : cond0_1 i) (hc2 : ¬cond0_2 i) (h : Fin 3) (t : Fin 1024) (d : Fin 128) :
    out0_B_8 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9 (ix2 t (col h d)) = xo8 (ix2 t (col h d)) + addV false x0 x1 x3 x4 x6 h t d := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9)]
  unfold kernelRun0_B
  dsimp only
  sl_unfold_words
  simp only [View.readAt_eq_ld, harg3.read_unread, harg4.read_unread, harg5.read_unread, harg6.read_unread, harg7.read_unread,
    harg8.read_unread, harg9.read_unread, harg10.read_unread, harg11.read_unread, harg12.read_unread]
  obtain rfl | rfl | rfl : h = 0 ∨ h = 1 ∨ h = 2 := by omega
  all_goals
    pointwise [canon_cols, canon_whole2, addK, addV, subC, dscore, prob, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    try simp (disch := omega) only [Bool.false_eq_true, and_false, ↓reduceIte, ↓reduceDIte, dif_pos, dif_neg, zero_add]
    try rfl

/-- A tile below the diagonal: the gradient of the gates. -/
theorem out_B_9 (hc0 : ¬cond0_0 i) (hc1 : cond0_1 i) (hc2 : ¬cond0_2 i) (h : Fin 3) (t : Fin 1024) :
    out0_B_9 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9 (ix3 h (0 : Fin 1) t) = xo9 (ix3 h (0 : Fin 1) t) - subC false x0 x1 x2 x3 x4 x5 x6 h t := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9)]
  unfold kernelRun0_B
  dsimp only
  sl_unfold_words
  simp only [View.readAt_eq_ld, harg3.read_unread, harg4.read_unread, harg5.read_unread, harg6.read_unread, harg7.read_unread,
    harg8.read_unread, harg9.read_unread, harg10.read_unread, harg11.read_unread, harg12.read_unread]
  obtain rfl | rfl | rfl : h = 0 ∨ h = 1 ∨ h = 2 := by omega
  all_goals
    pointwise [canon_heads, canon_whole3, addK, addV, subC, dscore, prob, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    try simp (disch := omega) only [Bool.false_eq_true, and_false, ↓reduceIte, ↓reduceDIte, dif_pos, dif_neg, zero_add]
    try rfl

/-- The first row block off the diagonal: the gradient of the keys. -/
theorem out_C_7 (hc0 : cond0_0 i) (hc1 : ¬cond0_1 i) (hc2 : ¬cond0_2 i) (h : Fin 3) (t : Fin 1024) (d : Fin 128) :
    out0_C_7 c i arg3 harg3 arg4 harg4 arg5 harg5 arg6 harg6 arg7 harg7 arg8 harg8 arg9 harg9 arg10 harg10 arg11 harg11 arg12 harg12 hc0 hc1 hc2 x0 x1 x2 x3 x4 x5 x6 (ix2 t (col h d)) = 0 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_C
  dsimp only
  sl_unfold_words
  rw [canon_whole2]
  pointwise [k0_pay1, k0_pay2, k0_pay3]

/-- The first row block off the diagonal: the gradient of the values. -/
theorem out_C_8 (hc0 : cond0_0 i) (hc1 : ¬cond0_1 i) (hc2 : ¬cond0_2 i) (h : Fin 3) (t : Fin 1024) (d : Fin 128) :
    out0_C_8 c i arg3 harg3 arg4 harg4 arg5 harg5 arg6 harg6 arg7 harg7 arg8 harg8 arg9 harg9 arg10 harg10 arg11 harg11 arg12 harg12 hc0 hc1 hc2 x0 x1 x2 x3 x4 x5 x6 (ix2 t (col h d)) = 0 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_C
  dsimp only
  sl_unfold_words
  rw [canon_whole2]
  pointwise [k0_pay1, k0_pay2, k0_pay3]

/-- The first row block off the diagonal: the gradient of the gates. -/
theorem out_C_9 (hc0 : cond0_0 i) (hc1 : ¬cond0_1 i) (hc2 : ¬cond0_2 i) (h : Fin 3) (t : Fin 1024) :
    out0_C_9 c i arg3 harg3 arg4 harg4 arg5 harg5 arg6 harg6 arg7 harg7 arg8 harg8 arg9 harg9 arg10 harg10 arg11 harg11 arg12 harg12 hc0 hc1 hc2 x0 x1 x2 x3 x4 x5 x6 (ix3 h (0 : Fin 1) t) = 0 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 hc0 hc1 hc2 x0 x1 x2 x3 x4 x5 x6)]
  unfold kernelRun0_C
  dsimp only
  sl_unfold_words
  rw [canon_whole3]
  pointwise [k0_pay1, k0_pay2, k0_pay3]

/-- A later diagonal tile: the gradient of the keys. -/
theorem out_D_7 (hc0 : ¬cond0_0 i) (hc1 : ¬cond0_1 i) (hc2 : cond0_2 i) (h : Fin 3) (t : Fin 1024) (d : Fin 128) :
    out0_D_7 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9 (ix2 t (col h d)) = xo7 (ix2 t (col h d)) + addK true x0 x1 x2 x3 x4 x5 x6 h t d := by
  unfold out0_D_7
  rw [View.read_writes_eq_canon _ _ _ (cover0_D_7 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9)]
  unfold kernelRun0_D
  dsimp only
  sl_unfold_words
  simp only [View.readAt_eq_ld, harg3.read_unread, harg4.read_unread, harg5.read_unread, harg6.read_unread, harg7.read_unread,
    harg8.read_unread, harg9.read_unread, harg10.read_unread, harg11.read_unread, harg12.read_unread]
  obtain rfl | rfl | rfl : h = 0 ∨ h = 1 ∨ h = 2 := by omega
  all_goals
    pointwise [canon_cols, canon_whole2, addK, addV, subC, dscore, prob, score, col_zero, col_one, col_two, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    try simp (disch := omega) only [Bool.false_eq_true, and_false, ↓reduceIte, ↓reduceDIte, dif_pos, dif_neg, zero_add]
    try rfl

/-- A later diagonal tile: the gradient of the values. -/
theorem out_D_8 (hc0 : ¬cond0_0 i) (hc1 : ¬cond0_1 i) (hc2 : cond0_2 i) (h : Fin 3) (t : Fin 1024) (d : Fin 128) :
    out0_D_8 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9 (ix2 t (col h d)) = xo8 (ix2 t (col h d)) + addV true x0 x1 x3 x4 x6 h t d := by
  unfold out0_D_8
  rw [View.read_writes_eq_canon _ _ _ (cover0_D_8 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9)]
  unfold kernelRun0_D
  dsimp only
  sl_unfold_words
  simp only [View.readAt_eq_ld, harg3.read_unread, harg4.read_unread, harg5.read_unread, harg6.read_unread, harg7.read_unread,
    harg8.read_unread, harg9.read_unread, harg10.read_unread, harg11.read_unread, harg12.read_unread]
  obtain rfl | rfl | rfl : h = 0 ∨ h = 1 ∨ h = 2 := by omega
  all_goals
    pointwise [canon_cols, canon_whole2, addK, addV, subC, dscore, prob, score, col_zero, col_one, col_two, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    try simp (disch := omega) only [Bool.false_eq_true, and_false, ↓reduceIte, ↓reduceDIte, dif_pos, dif_neg, zero_add]
    try rfl

/-- A later diagonal tile: the gradient of the gates. -/
theorem out_D_9 (hc0 : ¬cond0_0 i) (hc1 : ¬cond0_1 i) (hc2 : cond0_2 i) (h : Fin 3) (t : Fin 1024) :
    out0_D_9 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9 (ix3 h (0 : Fin 1) t) = xo9 (ix3 h (0 : Fin 1) t) - subC true x0 x1 x2 x3 x4 x5 x6 h t := by
  unfold out0_D_9
  rw [View.read_writes_eq_canon _ _ _ (cover0_D_9 c i arg3 harg3 arg4 harg4 arg5 harg5 arg6 harg6 arg7 harg7 arg8 harg8 arg9 harg9 arg10 harg10 arg11 harg11 arg12 harg12 hc0 hc1 hc2 x0 x1 x2 x3 x4 x5 x6 xo7 xo8 xo9)]
  unfold kernelRun0_D
  dsimp only
  sl_unfold_words
  simp only [View.readAt_eq_ld, harg3.read_unread, harg4.read_unread, harg5.read_unread, harg6.read_unread, harg7.read_unread,
    harg8.read_unread, harg9.read_unread, harg10.read_unread, harg11.read_unread, harg12.read_unread]
  obtain rfl | rfl | rfl : h = 0 ∨ h = 1 ∨ h = 2 := by omega
  all_goals
    pointwise [canon_heads, canon_whole3, addK, addV, subC, dscore, prob, score, col_zero, col_one, col_two, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    try simp (disch := omega) only [Bool.false_eq_true, and_false, ↓reduceIte, ↓reduceDIte, dif_pos, dif_neg, zero_add]
    try rfl

end Cert.DkvIdeal.Tile
-- ==== Proof.FoxReal.lean ====
/-
  THE FORGETTING ATTENTION AND ITS GRADIENT OVER THE REALS.

  `q`, `k`, `v` and the cotangent `go` are indexed by (row, head, feature), the running sum of the log forget gates `c` by
  (head, row), `sc` is the scale of the scores. Row `s` attends to the columns `t ≤ s`. `prob` is the softmax of the scores
  less the gate of the column (the gate of the row cancels in it); `out` is the attention's output; `dv`, `dk`, `dc` are the
  gradients of the values, the keys and the columns' gates.
-/
module

public import Mathlib.Analysis.SpecialFunctions.Log.Basic
public import Mathlib.Analysis.SpecialFunctions.Pow.Real
public import Mathlib.Data.EReal.Operations
public import Mathlib.Algebra.BigOperators.Field

@[expose] public section

noncomputable section

namespace Fox

open scoped BigOperators

/-! ## One row of a causal softmax -/

section Row
variable {n : ℕ} (x : Fin n → ℝ) (s : Fin n)

/-- The weight of column `t` in row `s` before the division: zero past the diagonal. -/
def weight (t : Fin n) : ℝ := if t ≤ s then Real.exp (x t) else 0

/-- The causal softmax of row `s`. -/
def soft (t : Fin n) : ℝ := weight x s t / ∑ u, weight x s u

theorem weight_nonneg (t : Fin n) : 0 ≤ weight x s t := by
  unfold weight; split <;> positivity

/-- The diagonal column has a positive weight, so a row's sum is positive. -/
theorem sum_weight_pos : 0 < ∑ u, weight x s u :=
  Finset.sum_pos' (fun u _ => weight_nonneg x s u) ⟨s, Finset.mem_univ _, by simp [weight, Real.exp_pos]⟩

theorem weight_shift (a : ℝ) (t : Fin n) : weight (fun u => x u - a) s t = weight x s t * Real.exp (-a) := by
  unfold weight; split
  · show Real.exp (x t - a) = _
    rw [sub_eq_add_neg, Real.exp_add]
  · simp

/-- A softmax does not change when all its arguments move by one number. -/
theorem soft_shift (a : ℝ) (t : Fin n) : soft (fun u => x u - a) s t = soft x s t := by
  unfold soft
  simp only [weight_shift, ← Finset.sum_mul]
  have h := (sum_weight_pos x s).ne'
  have h2 := (Real.exp_pos (-a)).ne'
  field_simp

/-- The exponential of an argument less the row's logarithm of the sum is the softmax, on and below the diagonal. -/
theorem exp_sub_log (t : Fin n) (h : t ≤ s) : Real.exp (x t - Real.log (∑ u, weight x s u)) = soft x s t := by
  rw [Real.exp_sub, Real.exp_log (sum_weight_pos x s)]
  simp [soft, weight, h]

theorem soft_above (t : Fin n) (h : ¬ t ≤ s) : soft x s t = 0 := by simp [soft, weight, h]

/-- The softmax's derivative as the quotient rule gives it: `(d/l + −Σ d·(1/l²)·e)·e`, with `l` the sum of the weights `e`,
    is `p·(d − Σ p·d)`. -/
theorem quotient_rule (d : Fin n → ℝ) (t : Fin n) :
    (d t / (∑ u, weight x s u) + -∑ u, d u * (1 / ((∑ w, weight x s w) * ∑ w, weight x s w)) * weight x s u) * weight x s t
      = soft x s t * (d t - ∑ u, soft x s u * d u) := by
  have h := (sum_weight_pos x s).ne'
  have e : ∑ u, d u * (1 / ((∑ w, weight x s w) * ∑ w, weight x s w)) * weight x s u
      = (∑ u, soft x s u * d u) / ∑ w, weight x s w := by
    rw [Finset.sum_div]
    refine Finset.sum_congr rfl fun u _ => ?_
    unfold soft; field_simp
  rw [e]
  generalize (∑ u, soft x s u * d u) = D
  unfold soft; field_simp; ring

end Row

/-! ## The attention -/

/-- The arrays of one launch, over the reals. -/
structure Data where
  q : Fin 8192 → Fin 6 → Fin 128 → ℝ
  k : Fin 8192 → Fin 6 → Fin 128 → ℝ
  v : Fin 8192 → Fin 6 → Fin 128 → ℝ
  c : Fin 6 → Fin 8192 → ℝ
  go : Fin 8192 → Fin 6 → Fin 128 → ℝ
  sc : ℝ

namespace Data
variable (D : Data)

/-- The score of row `s` at column `t`, less the gate of the column. -/
def logit (g : Fin 6) (s t : Fin 8192) : ℝ := (∑ d, D.q s g d * D.k t g d) * D.sc - D.c g t
/-- The attention's probabilities. -/
def prob (g : Fin 6) (s t : Fin 8192) : ℝ := soft (D.logit g s) s t
/-- The attention's output. -/
def out (s : Fin 8192) (g : Fin 6) (d : Fin 128) : ℝ := ∑ t, D.v t g d * D.prob g s t
/-- The gradient of the probabilities. -/
def dprob (g : Fin 6) (s t : Fin 8192) : ℝ := ∑ d, D.go s g d * D.v t g d
/-- A row's sum of output times cotangent. -/
def delta (g : Fin 6) (s : Fin 8192) : ℝ := ∑ d, D.out s g d * D.go s g d
/-- The gradient of the scores. -/
def dlogit (g : Fin 6) (s t : Fin 8192) : ℝ := D.prob g s t * (D.dprob g s t - D.delta g s)
/-- The gradient of the values. -/
def dv (t : Fin 8192) (g : Fin 6) (d : Fin 128) : ℝ := ∑ s, D.prob g s t * D.go s g d
/-- The gradient of the keys. -/
def dk (t : Fin 8192) (g : Fin 6) (d : Fin 128) : ℝ := (∑ s, D.dlogit g s t * D.q s g d) * D.sc
/-- The gradient of the queries. -/
def dq (s : Fin 8192) (g : Fin 6) (d : Fin 128) : ℝ := (∑ t, D.dlogit g s t * D.k t g d) * D.sc
/-- The gradient of the columns' gates. -/
def dc (g : Fin 6) (t : Fin 8192) : ℝ := -∑ s, D.dlogit g s t

/-- The row's sum of output times cotangent is the sum of probability times its gradient. -/
theorem delta_eq (g : Fin 6) (s : Fin 8192) : D.delta g s = ∑ t, D.prob g s t * D.dprob g s t := by
  unfold delta out dprob
  simp only [Finset.sum_mul, Finset.mul_sum]
  rw [Finset.sum_comm]
  exact Finset.sum_congr rfl fun t _ => Finset.sum_congr rfl fun d _ => by ring

theorem prob_above (g : Fin 6) (s t : Fin 8192) (h : ¬ t ≤ s) : D.prob g s t = 0 := soft_above _ _ _ h

theorem dlogit_above (g : Fin 6) (s t : Fin 8192) (h : ¬ t ≤ s) : D.dlogit g s t = 0 := by
  unfold dlogit; rw [D.prob_above g s t h, zero_mul]

end Data

/-! ## Extended reals -/

/-- The extended reals' sum of reals is the real sum. -/
theorem coe_sum {ι : Type*} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- The maximum of a row that has no `+∞` and not only `−∞` is a real. -/
theorem fold_max_real {ι : Type*} [Fintype ι] (f : ι → EReal) (h1 : ∀ i, f i ≠ ⊤) (i₀ : ι) (h2 : f i₀ ≠ ⊥) :
    ∃ M : ℝ, Finset.univ.fold max (⊥ : EReal) f = (M : EReal) := by
  classical
  have ht : Finset.univ.fold max (⊥ : EReal) f ≠ ⊤ := by
    induction (Finset.univ : Finset ι) using Finset.induction_on with
    | empty => simp
    | insert a s ha ih =>
      rw [Finset.fold_insert ha]
      rcases max_choice (f a) (s.fold max ⊥ f) with h | h <;> rw [h]
      · exact h1 a
      · exact ih
  have hb : Finset.univ.fold max (⊥ : EReal) f ≠ ⊥ := by
    rw [← Finset.insert_erase (Finset.mem_univ i₀), Finset.fold_insert (Finset.notMem_erase _ _)]
    intro h
    exact h2 (le_bot_iff.mp (h ▸ le_max_left _ _))
  exact ⟨_, (EReal.coe_toReal ht hb).symm⟩

end Fox
-- ==== Proof.FoxIdeal.lean ====
/-
  READING THE FORGETTING ATTENTION'S ARRAYS AS REALS: the literals the programs use, a causal row's softmax in the extended
  reals, and what it means that the arguments of a launch hold the real data `Fox.Data`.
-/
module

public import proofs.«01_k».proof.Proof.FoxReal
public import Idealize.ShloMosaic.Lib.Pointwise
public import Idealize.ShloMosaic.Lib.WordCmp

@[expose] public section

noncomputable section

namespace Fox

open Idealize.ShloMosaic
open scoped BigOperators

/-! ## Literals -/

/-- The scale of the scores: the value of the literal both programs multiply by. -/
def scale : ℝ := 11863283 / 134217728

theorem ofBits_scale : Ideal.ofBits .f32 0x3DB504F3#32 = (scale : EReal) := by
  simp [Ideal.ofBits, Ideal.ieee, scale, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_negInf : Ideal.ofBits .f32 0xFF800000#32 = ⊥ := by
  simp [Ideal.ofBits, Ideal.ieee]
/-- The logarithm of the literal two. -/
theorem log_two : Ideal.log (Ideal.ofBits .f32 0x40000000#32) = ((Real.log 2 : ℝ) : EReal) := by
  rw [ofBits_two, Ideal.log_coe, if_neg (by norm_num)]

/-- Division of a real by a positive one. -/
theorem div_real (x y : ℝ) (h : y ≠ 0) : Ideal.div (x : EReal) (y : EReal) = ((x / y : ℝ) : EReal) := by
  rw [Ideal.div_coe h, ← EReal.coe_mul, mul_one_div]

/-- The causal test on row and column numbers picks by their order. -/
theorem select_le {α : Type} {n : ℕ} (hn : n ≤ 2 ^ 31) (t s : Fin n) (a b : α) :
    Scalar.select (IntOp.cmpi CmpIPredicate.sle (BitVec.ofNat 32 t.val) (BitVec.ofNat 32 s.val)) a b = if t ≤ s then a else b := by
  have ht := t.isLt
  have hs := s.isLt
  rw [WordCmp.cmpi_sle_ofNat (by omega) (by omega), WordCmp.select_ofBool]
  by_cases h : t.val ≤ s.val
  · rw [if_pos (Fin.le_def.mpr h), if_pos (decide_eq_true h)]
  · rw [if_neg (fun h' => h (Fin.le_def.mp h')), if_neg (by rw [decide_eq_false h]; exact Bool.false_ne_true)]

/-! ## A causal row -/

section Row
variable {n : ℕ} (x : Fin n → ℝ) (s : Fin n)

/-- A causal row of scores: `−∞` past the diagonal. -/
def row (t : Fin n) : EReal := if t ≤ s then (x t : EReal) else ⊥

/-- The maximum of a causal row is a real. -/
theorem row_max : ∃ M : ℝ, Finset.univ.fold max (⊥ : EReal) (row x s) = (M : EReal) :=
  fold_max_real _ (fun t => by unfold row; split <;> simp) s (by simp [row])

/-- The exponential of a causal row less a real is the weight of the shifted row. -/
theorem exp_row (M : ℝ) (t : Fin n) : Ideal.exp (row x s t - (M : EReal)) = (weight (fun u => x u - M) s t : EReal) := by
  unfold row weight
  split
  · rw [← EReal.coe_sub, Ideal.exp_coe]
  · rw [EReal.bot_sub, Ideal.exp_bot, EReal.coe_zero]

/-- A power of two in the kernel: the row of scores and the row's logarithm of the sum, both over `log 2`, give the causal
    softmax. -/
theorem exp2_row (M : ℝ) (t : Fin n) :
    Ideal.exp2 ((if t ≤ s then ((x t / Real.log 2 : ℝ) : EReal) else ⊥)
        - (((M + Real.log (∑ u, weight (fun u => x u - M) s u)) / Real.log 2 : ℝ) : EReal)) = (soft x s t : EReal) := by
  have hl : Real.log 2 ≠ 0 := (Real.log_pos (by norm_num)).ne'
  by_cases h : t ≤ s
  · rw [if_pos h, ← EReal.coe_sub, Ideal.exp2_coe, ← soft_shift x s M t, ← exp_sub_log _ s t h]
    congr 1
    rw [Real.rpow_eq_pow, Real.rpow_def_of_pos (by norm_num)]
    congr 1
    field_simp
    ring
  · rw [if_neg h, EReal.bot_sub, Ideal.exp2_bot, soft_above x s t h, EReal.coe_zero]

end Row

/-! ## Arguments that hold real data -/

/-- Feature `d` of head `g` in an array of six heads. -/
def col (g : Fin 6) (d : Fin 128) : Fin 768 := ⟨g.val * 128 + d.val, by omega⟩
/-- Feature `d` of head `g` in an array whose first 768 columns are six heads. -/
def colP (g : Fin 6) (d : Fin 128) : Fin 1024 := ⟨g.val * 128 + d.val, by omega⟩

/-- The arguments of a launch hold the real data `D`. -/
structure Reads (D : Data) (x0 x4 : (⟨2, ![8192, 1024]⟩ : Shape).Idx → EReal) (x1 x2 : (⟨2, ![8192, 768]⟩ : Shape).Idx → EReal)
    (x3 : (⟨2, ![6, 8192]⟩ : Shape).Idx → EReal) : Prop where
  q : ∀ s g d, x0 (ix2 s (colP g d)) = (D.q s g d : EReal)
  k : ∀ s g d, x1 (ix2 s (col g d)) = (D.k s g d : EReal)
  v : ∀ s g d, x2 (ix2 s (col g d)) = (D.v s g d : EReal)
  c : ∀ g s, x3 (ix2 g s) = (D.c g s : EReal)
  go : ∀ s g d, x4 (ix2 s (colP g d)) = (D.go s g d : EReal)
  sc : D.sc = scale

end Fox
-- ==== Proof.DkvSaved.lean ====
/-
  WHAT THE FORWARD PASS SAVES, as reals: the column gates over `log 2`, the row's logarithm of the sum over `log 2`, and the
  row's sum of output times cotangent, as the host computes them before the launch.
-/
module

public import proofs.«01_k».proof.Proof.FoxIdeal
public import proofs.«01_k».proof.Proof.Gen.DkvSavedIdeal.Read
public import Idealize.ShloMosaic.Lib.Pointwise

@[expose] public section

set_option maxRecDepth 16384

noncomputable section

namespace Cert.DkvSavedIdeal.Real

open Cert.DkvSavedIdeal Cert.DkvSavedIdeal.Gen Cert.DkvSavedIdeal.Read Idealize.ShloMosaic
open scoped BigOperators

variable (x0 : (⟨S8192x1024, .bf16⟩ : BufTy).Contents (Elt Ideal)) (x1 x2 : (⟨S8192x768, .bf16⟩ : BufTy).Contents (Elt Ideal)) (x3 : (⟨S6x8192, .f32⟩ : BufTy).Contents (Elt Ideal)) (x4 : (⟨S8192x1024, .f32⟩ : BufTy).Contents (Elt Ideal))

section Raw

theorem raw_v3 (g : Fin 6) (t : Fin 8192) : val_main_v3 (F := Ideal) x3 (ix3 g 0 t)
    = Ideal.div (x3 (ix2 g t)) (Ideal.log (Ideal.ofBits .f32 0x40000000#32)) := by
  pointwise [val_main_v3, val_main_v2, val_main_v1, val_main_v0, val_main_cst]

theorem raw_v16 (g : Fin 6) (s t : Fin 8192) : val_main_v16 (F := Ideal) x0 x1 x3 (ix3 g s t)
    = (∑ d, x0 (ix2 s (Fox.colP g d)) * x1 (ix2 t (Fox.col g d))) * Ideal.ofBits .f32 0x3DB504F3#32 - x3 (ix2 g t) := by
  pointwise [val_main_v16, val_main_v15, val_main_v14, val_main_v13, val_main_v12, val_main_cst_0, val_main_v11,
    val_main_v8, val_main_v7, val_main_v6, val_main_v5, val_main_v4]
  rfl

theorem raw_v25 (g : Fin 6) (s t : Fin 8192) : val_main_v25 (F := Ideal) x0 x1 x3 (ix3 g s t)
    = Scalar.select (IntOp.cmpi .sle (BitVec.ofNat 32 t.val) (BitVec.ofNat 32 s.val)) (val_main_v16 (F := Ideal) x0 x1 x3 (ix3 g s t))
        (Ideal.ofBits .f32 0xFF800000#32) := by
  pointwise [val_main_v25, val_main_v24, val_main_v23, val_main_v22, val_main_v21, val_main_v20, val_main_v19, val_main_v18, val_main_v17, val_main_cst_1]

theorem raw_v26 (g : Fin 6) (s : Fin 8192) : val_main_v26 (F := Ideal) x0 x1 x3 (ix2 g s)
    = Finset.fold max (Ideal.ofBits .f32 0xFF800000#32) (fun t : Fin 8192 => val_main_v25 (F := Ideal) x0 x1 x3 (ix3 g s t)) Finset.univ := by
  pointwise [val_main_v26, val_main_cst_2]

theorem raw_v30 (g : Fin 6) (s t : Fin 8192) : val_main_v30 (F := Ideal) x0 x1 x3 (ix3 g s t)
    = Ideal.exp (val_main_v25 (F := Ideal) x0 x1 x3 (ix3 g s t) - val_main_v26 (F := Ideal) x0 x1 x3 (ix2 g s)) := by
  pointwise [val_main_v30, val_main_v29, val_main_v28, val_main_v27]

theorem idx_v31 (g : Fin 6) (s t : Fin 8192) : idx_main_v31 (ix2 g s) t = ix3 g s t :=
  funext fun a => Fin.ext (by match a with | ⟨0, _⟩ => rfl | ⟨1, _⟩ => rfl | ⟨2, _⟩ => rfl)

theorem raw_v31 (g : Fin 6) (s : Fin 8192) : val_main_v31 (F := Ideal) x0 x1 x3 (ix2 g s)
    = ∑ t : Fin 8192, val_main_v30 (F := Ideal) x0 x1 x3 (ix3 g s t) := by
  have e := val_main_v31_apply x0 x1 x3 (ix2 g s)
  have h0 : (val_main_cst_3 (F := Ideal)) (Shape.Idx.first h_S_) = 0 := by rw [val_main_cst_3_apply]; exact Ideal.ofBits_zero_f32
  generalize val_main_v31 (F := Ideal) x0 x1 x3 (ix2 g s) = a at e ⊢
  generalize val_main_v30 (F := Ideal) x0 x1 x3 = y at e ⊢
  rw [e, h0, zero_add]
  simp only [idx_v31]

theorem raw_v35 (g : Fin 6) (d : Fin 128) (s : Fin 8192) : val_main_v35 (F := Ideal) x0 x1 x2 x3 (ix3 g d s)
    = ∑ t : Fin 8192, x2 (ix2 t (Fox.col g d)) * Ideal.div (val_main_v30 (F := Ideal) x0 x1 x3 (ix3 g s t)) (val_main_v31 (F := Ideal) x0 x1 x3 (ix2 g s)) := by
  unfold val_main_v35 val_main_v34 val_main_v33 val_main_v32
  generalize val_main_v31 (F := Ideal) x0 x1 x3 = l
  generalize val_main_v30 (F := Ideal) x0 x1 x3 = e
  pointwise [val_main_v10, val_main_v9]
  rfl

theorem raw_v43 (g : Fin 6) (s : Fin 8192) : val_main_v43 (F := Ideal) x0 x1 x3 (ix3 g s 0)
    = Ideal.div (val_main_v26 (F := Ideal) x0 x1 x3 (ix2 g s) + Ideal.log (val_main_v31 (F := Ideal) x0 x1 x3 (ix2 g s)))
        (Ideal.log (Ideal.ofBits .f32 0x40000000#32)) := by
  have i1 : idx_main_v32 (ix3 g s 0) = ix2 g s := funext fun a => Fin.ext (by match a with | ⟨0, _⟩ => rfl | ⟨1, _⟩ => rfl)
  have i2 : idx_main_v27 (ix3 g s 0) = ix2 g s := funext fun a => Fin.ext (by match a with | ⟨0, _⟩ => rfl | ⟨1, _⟩ => rfl)
  rw [val_main_v43_apply, val_main_v40_apply, val_main_v39_apply, val_main_v32_apply, val_main_v27_apply, val_main_v42_apply, val_main_v41_apply,
    val_main_cst_4_apply, i1, i2]
  generalize val_main_v31 (F := Ideal) x0 x1 x3 = l
  generalize val_main_v26 (F := Ideal) x0 x1 x3 = e
  rfl

theorem raw_v50 (g : Fin 6) (s : Fin 8192) : val_main_v50 (F := Ideal) x0 x1 x2 x3 x4 (ix3 g s 0)
    = ∑ d : Fin 128, val_main_v35 (F := Ideal) x0 x1 x2 x3 (ix3 g d s) * x4 (ix2 s (Fox.colP g d)) := by
  pointwise [val_main_v50, val_main_v49, val_main_v48, val_main_v47, val_main_v46, val_main_v45, val_main_v44, val_main_v38, val_main_v37, val_main_v36, val_main_cst_5]
  rfl

end Raw

variable {x0 x1 x2 x3 x4} {D : Fox.Data} (R : Fox.Reads D x0 x4 x1 x2 x3)
include R

/-- The column gates the launch reads. -/
theorem gate (g : Fin 6) (t : Fin 8192) : val_main_v3 (F := Ideal) x3 (ix3 g 0 t) = ((D.c g t / Real.log 2 : ℝ) : EReal) := by
  rw [raw_v3, R.c, Fox.log_two, Fox.div_real _ _ (Real.log_pos (by norm_num)).ne']

/-- The scores are reals. -/
theorem logit (g : Fin 6) (s t : Fin 8192) : val_main_v16 (F := Ideal) x0 x1 x3 (ix3 g s t) = ((D.logit g s t : ℝ) : EReal) := by
  rw [raw_v16, R.c, Fox.ofBits_scale, ← R.sc]
  simp only [R.q, R.k, ← EReal.coe_mul, Fox.coe_sum, ← EReal.coe_sub]
  rfl

/-- The masked scores are a causal row. -/
theorem masked (g : Fin 6) (s t : Fin 8192) : val_main_v25 (F := Ideal) x0 x1 x3 (ix3 g s t) = Fox.row (D.logit g s) s t := by
  rw [raw_v25, Fox.select_le (by norm_num), logit R, Fox.ofBits_negInf]
  rfl

/-- A row's maximum is a real, and the weights, their sum and the saved logarithm are those of the scores less it. -/
theorem rowMax (g : Fin 6) (s : Fin 8192) : ∃ M : ℝ, val_main_v26 (F := Ideal) x0 x1 x3 (ix2 g s) = (M : EReal) := by
  rw [raw_v26, Fox.ofBits_negInf]
  simp only [masked R]
  exact Fox.row_max _ _

section Max
variable {g : Fin 6} {s : Fin 8192} {M : ℝ} (hM : val_main_v26 (F := Ideal) x0 x1 x3 (ix2 g s) = (M : EReal))
include hM

theorem weights (t : Fin 8192) : val_main_v30 (F := Ideal) x0 x1 x3 (ix3 g s t) = (Fox.weight (fun u => D.logit g s u - M) s t : EReal) := by
  rw [raw_v30, hM, masked R, Fox.exp_row]

theorem sumWeights : val_main_v31 (F := Ideal) x0 x1 x3 (ix2 g s) = ((∑ u, Fox.weight (fun u => D.logit g s u - M) s u : ℝ) : EReal) := by
  rw [raw_v31]
  simp only [weights R hM, Fox.coe_sum]

/-- The saved logarithm of the sum. -/
theorem logSum : val_main_v43 (F := Ideal) x0 x1 x3 (ix3 g s 0)
    = (((M + Real.log (∑ u, Fox.weight (fun u => D.logit g s u - M) s u)) / Real.log 2 : ℝ) : EReal) := by
  rw [raw_v43, Fox.log_two, hM, sumWeights R hM, Ideal.log_coe, if_neg (not_le.mpr (Fox.sum_weight_pos _ _)), ← EReal.coe_add,
    Fox.div_real _ _ (Real.log_pos (by norm_num)).ne']

end Max

/-- The attention's output. -/
theorem output (g : Fin 6) (d : Fin 128) (s : Fin 8192) : val_main_v35 (F := Ideal) x0 x1 x2 x3 (ix3 g d s) = ((D.out s g d : ℝ) : EReal) := by
  obtain ⟨M, hM⟩ := rowMax R g s
  rw [raw_v35]
  simp only [weights R hM, sumWeights R hM, R.v, Fox.div_real _ _ (Fox.sum_weight_pos _ _).ne', ← EReal.coe_mul, Fox.coe_sum]
  unfold Fox.Data.out
  exact congrArg Real.toEReal (Finset.sum_congr rfl fun t _ => congrArg (D.v t g d * ·) (Fox.soft_shift (D.logit g s) s M t))

/-- The row's sum of output times cotangent. -/
theorem delta (g : Fin 6) (s : Fin 8192) : val_main_v50 (F := Ideal) x0 x1 x2 x3 x4 (ix3 g s 0) = ((D.delta g s : ℝ) : EReal) := by
  rw [raw_v50]
  simp only [output R, R.go, ← EReal.coe_mul, Fox.coe_sum]
  rfl

end Cert.DkvSavedIdeal.Real
-- ==== Proof.DkvBlocks.lean ====
/-
  WHERE THE LAUNCH'S BLOCKS LIE: each window's block at a grid point, read at coordinates of its array.
-/
module

public import proofs.«01_k».proof.Proof.DkvTile
public import proofs.«01_k».proof.Proof.DkvSaved
public import proofs.«01_k».proof.Proof.Gen.DkvIdeal.Value
public import Idealize.ShloMosaic.Lib.Pipeline.ValueKit
public import Idealize.ShloMosaic.Lib.Claim

@[expose] public section

set_option maxRecDepth 16384

noncomputable section

namespace Cert.DkvIdeal.Blocks

open Cert.DkvIdeal Cert.DkvIdeal.Gen Idealize.ShloMosaic Idealize.ShloMosaic.TcCoe
open scoped BigOperators

variable (m : (ℓ : Loc nD τ sig) → Buf (Elt Ideal) ℓ) (c : Dev nD)

/-! ## The grid point's coordinates -/

/-- The head of a grid point and one of its three heads. -/
def head (t : Fin cfg0.N) (h : Fin 3) : Fin 6 := ⟨3 * (t.val / 64) + h.val, by have h1 : t.val < 128 := lt_of_lt_of_eq t.isLt N_0; omega⟩
/-- The row of the keys and values. -/
def keyRow (t : Fin cfg0.N) (a : Fin 1024) : Fin 8192 := ⟨t.val / 8 % 8 * 1024 + a.val, by omega⟩
/-- The row of the queries. -/
def queryRow (t : Fin cfg0.N) (r : Fin 1024) : Fin 8192 := ⟨t.val % 8 * 1024 + r.val, by omega⟩

theorem index_q : ∀ t : Fin cfg0.N, t.val / 8 % 8 ≤ t.val % 8 → win0_0.index t = ![t.val % 8, t.val / 64] :=
  (by decide +kernel : ∀ t : Fin grid0.N, t.val / 8 % 8 ≤ t.val % 8 → win0_0.index t = ![t.val % 8, t.val / 64])
theorem index_k : ∀ t : Fin cfg0.N, win0_1.index t = ![t.val / 8 % 8, t.val / 64] :=
  (by decide +kernel : ∀ t : Fin grid0.N, win0_1.index t = ![t.val / 8 % 8, t.val / 64])
theorem index_v : ∀ t : Fin cfg0.N, win0_2.index t = ![t.val / 8 % 8, t.val / 64] :=
  (by decide +kernel : ∀ t : Fin grid0.N, win0_2.index t = ![t.val / 8 % 8, t.val / 64])
theorem index_c : ∀ t : Fin cfg0.N, win0_3.index t = ![t.val / 64, 0, t.val / 8 % 8] :=
  (by decide +kernel : ∀ t : Fin grid0.N, win0_3.index t = ![t.val / 64, 0, t.val / 8 % 8])
theorem index_l : ∀ t : Fin cfg0.N, t.val / 8 % 8 ≤ t.val % 8 → win0_4.index t = ![t.val / 64, t.val % 8, 0] :=
  (by decide +kernel : ∀ t : Fin grid0.N, t.val / 8 % 8 ≤ t.val % 8 → win0_4.index t = ![t.val / 64, t.val % 8, 0])
theorem index_d : ∀ t : Fin cfg0.N, t.val / 8 % 8 ≤ t.val % 8 → win0_5.index t = ![t.val / 64, t.val % 8, 0] :=
  (by decide +kernel : ∀ t : Fin grid0.N, t.val / 8 % 8 ≤ t.val % 8 → win0_5.index t = ![t.val / 64, t.val % 8, 0])
theorem index_go : ∀ t : Fin cfg0.N, t.val / 8 % 8 ≤ t.val % 8 → win0_6.index t = ![t.val % 8, t.val / 64] :=
  (by decide +kernel : ∀ t : Fin grid0.N, t.val / 8 % 8 ≤ t.val % 8 → win0_6.index t = ![t.val % 8, t.val / 64])
theorem index_dk : ∀ t : Fin cfg0.N, win0_7.index t = ![t.val / 8 % 8, t.val / 64] :=
  (by decide +kernel : ∀ t : Fin grid0.N, win0_7.index t = ![t.val / 8 % 8, t.val / 64])
theorem index_dv : ∀ t : Fin cfg0.N, win0_8.index t = ![t.val / 8 % 8, t.val / 64] :=
  (by decide +kernel : ∀ t : Fin grid0.N, win0_8.index t = ![t.val / 8 % 8, t.val / 64])
theorem index_dc : ∀ t : Fin cfg0.N, win0_9.index t = ![t.val / 64, 0, t.val / 8 % 8] :=
  (by decide +kernel : ∀ t : Fin grid0.N, win0_9.index t = ![t.val / 64, 0, t.val / 8 % 8])

/-! ## The blocks read at coordinates -/

variable (t : Fin cfg0.N) (h : Fin 3) (d : Fin 128)

theorem block_k (a : Fin 1024) : iblk m c 1 t (ix2 a (Tile.col h d)) = m ((c : Thread nD τ).loc main_arg1) (ix2 (keyRow t a) (Fox.col (head t h) d)) := by
  blk_simp [iblk]
  rw [V_main_arg1]
  refine congrArg (m ((c : Thread nD τ).loc main_arg1)) ?_
  blk_ext [index_k t, keyRow, head, Fox.col, Tile.col]

theorem block_v (a : Fin 1024) : iblk m c 2 t (ix2 a (Tile.col h d)) = m ((c : Thread nD τ).loc main_arg2) (ix2 (keyRow t a) (Fox.col (head t h) d)) := by
  blk_simp [iblk]
  rw [V_main_arg2]
  refine congrArg (m ((c : Thread nD τ).loc main_arg2)) ?_
  blk_ext [index_v t, keyRow, head, Fox.col, Tile.col]

theorem block_c (a : Fin 1024) : iblk m c 3 t (ix3 h 0 a) = V m c main_v3 (ix3 (head t h) 0 (keyRow t a)) := by
  blk_simp [iblk]
  refine congrArg (V m c main_v3) ?_
  blk_ext [index_c t, keyRow, head]

theorem block_q (hd : t.val / 8 % 8 ≤ t.val % 8) (r : Fin 1024) :
    X0_0 m c t (ix2 r (Tile.col h d)) = m ((c : Thread nD τ).loc main_arg0) (ix2 (queryRow t r) (Fox.colP (head t h) d)) := by
  unfold X0_0 Pipeline.Window.fill
  rw [dif_pos (moved0_0 t _)]
  blk_simp [iblk]
  rw [V_main_arg0]
  refine congrArg (m ((c : Thread nD τ).loc main_arg0)) ?_
  blk_ext [index_q t hd, queryRow, head, Fox.colP, Tile.col]

theorem block_go (hd : t.val / 8 % 8 ≤ t.val % 8) (r : Fin 1024) :
    X0_6 m c t (ix2 r (Tile.col h d)) = m ((c : Thread nD τ).loc main_arg4) (ix2 (queryRow t r) (Fox.colP (head t h) d)) := by
  unfold X0_6 Pipeline.Window.fill
  rw [dif_pos (moved0_6 t _)]
  blk_simp [iblk]
  rw [V_main_arg4]
  refine congrArg (m ((c : Thread nD τ).loc main_arg4)) ?_
  blk_ext [index_go t hd, queryRow, head, Fox.colP, Tile.col]

theorem block_l (hd : t.val / 8 % 8 ≤ t.val % 8) (r : Fin 1024) : iblk m c 4 t (ix3 h r 0) = V m c main_v43 (ix3 (head t h) (queryRow t r) 0) := by
  blk_simp [iblk]
  refine congrArg (V m c main_v43) ?_
  blk_ext [index_l t hd, queryRow, head]

theorem block_d (hd : t.val / 8 % 8 ≤ t.val % 8) (r : Fin 1024) : iblk m c 5 t (ix3 h r 0) = V m c main_v50 (ix3 (head t h) (queryRow t r) 0) := by
  blk_simp [iblk]
  refine congrArg (V m c main_v50) ?_
  blk_ext [index_d t hd, queryRow, head]

end Cert.DkvIdeal.Blocks
-- ==== Proof.DkvHost.lean ====
/-
  WHAT THE LAUNCH FINDS IN THE ARRAYS THAT THE HOST PREPARES: the log-gates, the rows' log-sums and the rows' deltas, as the
  program of the saved values states them.
-/
module

public import proofs.«01_k».proof.Proof.DkvSaved
public import proofs.«01_k».proof.Proof.Gen.DkvIdeal.Value
public import Idealize.ShloMosaic.Lib.Pipeline.ValueKit
public import Idealize.ShloMosaic.Lib.Claim

@[expose] public section

set_option maxRecDepth 16384

noncomputable section

namespace Cert.DkvIdeal.Saved

open Cert.DkvIdeal Cert.DkvIdeal.Gen Idealize.ShloMosaic Idealize.ShloMosaic.TcCoe
open scoped BigOperators

variable (m : (ℓ : Loc nD τ sig) → Buf (Elt Ideal) ℓ) (c : Dev nD)

open Cert.DkvSavedIdeal.Read

/-- The log-gates, base two. -/
theorem gates : V m c main_v3 = val_main_v3 (F := Ideal) (m ((c : Thread nD τ).loc main_arg3)) := by
  unfold V
  after_results_simp <;> rfl

/-- The rows' log-sums, base two. -/
theorem logSums : V m c main_v43 = val_main_v43 (F := Ideal) (m ((c : Thread nD τ).loc main_arg0)) (m ((c : Thread nD τ).loc main_arg1)) (m ((c : Thread nD τ).loc main_arg3)) := by
  unfold V
  after_results_simp <;> rfl

/-- The rows' deltas. -/
theorem deltas : V m c main_v50 = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold V
  after_results_simp <;> rfl

end Cert.DkvIdeal.Saved
-- ==== Proof.DkvArray.lean ====
/-
  WHAT THE ARRAYS OF THE dk/dv KERNEL HOLD, for arguments that hold the real data `D`.

  At grid point `t` (group of heads `t / 64`, key block `t / 8 % 8`, query block `t % 8`) the output blocks hold the sums over
  the query rows of the blocks up to `t % 8`: a tile below or on the diagonal adds its rows, a skipped tile's rows add nothing
  since its probabilities are zero. The last query block completes the sums, and what is written back is the gradient.
-/
module

public import proofs.«01_k».proof.Proof.DkvBlocks
public import proofs.«01_k».proof.Proof.DkvHost
public import Idealize.ShloMosaic.Lib.Pipeline.ValueKit

@[expose] public section

set_option maxRecDepth 16384

noncomputable section

namespace Cert.DkvIdeal.Real

open Cert.DkvIdeal Cert.DkvIdeal.Gen Cert.DkvIdeal.Blocks Idealize.ShloMosaic Idealize.ShloMosaic.TcCoe
open scoped BigOperators

/-! ## Sums over the blocks of rows -/

/-- The sum of `f` over the rows of block `i`. -/
def blockSum (f : Fin 8192 → ℝ) (i : ℕ) : ℝ := ∑ r : Fin 1024, if h : i * 1024 + r.val < 8192 then f ⟨i * 1024 + r.val, h⟩ else 0
/-- The sum of `f` over the rows of the first `n` blocks. -/
def upTo (f : Fin 8192 → ℝ) (n : ℕ) : ℝ := ∑ i ∈ Finset.range n, blockSum f i

theorem upTo_succ (f : Fin 8192 → ℝ) (n : ℕ) : upTo f (n + 1) = upTo f n + blockSum f n := Finset.sum_range_succ _ _
theorem upTo_one (f : Fin 8192 → ℝ) : upTo f (0 + 1) = blockSum f 0 := by rw [upTo_succ]; simp [upTo]

/-- The rows of the eight blocks are all rows. -/
theorem upTo_all (f : Fin 8192 → ℝ) : upTo f 8 = ∑ s, f s := by
  unfold upTo blockSum
  have e : ∀ i : ℕ, (∑ r : Fin 1024, if h : i * 1024 + r.val < 8192 then f ⟨i * 1024 + r.val, h⟩ else 0)
      = ∑ r ∈ Finset.range 1024, (fun n : ℕ => if h : n < 8192 then f ⟨n, h⟩ else 0) (i * 1024 + r) := fun i =>
    Fin.sum_univ_eq_sum_range (fun r => (fun n : ℕ => if h : n < 8192 then f ⟨n, h⟩ else 0) (i * 1024 + r)) 1024
  simp only [e]
  have e2 := Finset.sum_range_mul_split 8 1024 (fun n : ℕ => if h : n < 8192 then f ⟨n, h⟩ else 0)
  rw [← e2, show 8 * 1024 = 8192 from rfl, ← Fin.sum_univ_eq_sum_range]
  exact Finset.sum_congr rfl fun s _ => by rw [dif_pos s.isLt]

theorem blockSum_row (f : Fin 8192 → ℝ) (t : Fin cfg0.N) : blockSum f (t.val % 8) = ∑ r, f (queryRow t r) := by
  unfold blockSum
  exact Finset.sum_congr rfl fun r _ => by rw [dif_pos (by omega)]; rfl

/-! ## The tile's constants -/

theorem scale2 : Named.named (F := Ideal) κ "scale2" (φ := .f32) 0x3E0293EE#32 = ((Fox.scale * (Real.log 2)⁻¹ : ℝ) : EReal) :=
  IdealRules.named_const.ideal_named_scalar _ _ _ _ rfl
theorem mask : Named.named (F := Ideal) κ "mask" (φ := .f32) 0xF149F2CA#32 = (⊥ : EReal) :=
  IdealRules.named_const.ideal_named_scalar _ _ _ _ rfl

variable (m : (ℓ : Loc nD τ sig) → Buf (Elt Ideal) ℓ) (c : Dev nD) {D : Fox.Data}

/-- The arguments of the launch hold the data `D`. -/
abbrev Holds (D : Fox.Data) : Prop :=
  Fox.Reads D (m ((c : Thread nD τ).loc main_arg0)) (m ((c : Thread nD τ).loc main_arg4)) (m ((c : Thread nD τ).loc main_arg1))
    (m ((c : Thread nD τ).loc main_arg2)) (m ((c : Thread nD τ).loc main_arg3))

variable {m c} (R : Holds m c D)
include R

variable (t : Fin cfg0.N) (h : Fin 3)

/-! ## One tile over the reals -/

/-- A sum of products of reals. -/
theorem dot_real {x y : Fin 128 → EReal} {a b : Fin 128 → ℝ} (hx : ∀ d, x d = (a d : EReal)) (hy : ∀ d, y d = (b d : EReal)) :
    ∑ d, x d * y d = ((∑ d, a d * b d : ℝ) : EReal) := by
  rw [← Fox.coe_sum]
  exact Finset.sum_congr rfl fun d _ => by rw [hx, hy, EReal.coe_mul]

theorem score_real (r a : Fin 1024) (hd : t.val / 8 % 8 ≤ t.val % 8) {x0 x1 : S1024x384.Idx → EReal} {x3 : S3x1x1024.Idx → EReal}
    (e0 : x0 = X0_0 m c t) (e1 : x1 = iblk m c 1 t) (e3 : x3 = iblk m c 3 t) :
    (∑ d, x0 (ix2 r (Tile.col h d)) * x1 (ix2 a (Tile.col h d))) * Named.named (F := Ideal) κ "scale2" (φ := .f32) 0x3E0293EE#32
        - x3 (ix3 h 0 a)
      = ((D.logit (head t h) (queryRow t r) (keyRow t a) / Real.log 2 : ℝ) : EReal) := by
  subst e0 e1 e3
  rw [dot_real R (fun d => (block_q m c t h d hd r).trans (R.q _ _ _)) (fun d => (block_k m c t h d a).trans (R.k _ _ _)),
    block_c, Saved.gates, Cert.DkvSavedIdeal.Real.gate R, scale2, ← EReal.coe_mul, ← EReal.coe_sub]
  congr 1
  unfold Fox.Data.logit
  rw [R.sc, sub_div, ← mul_assoc, div_eq_mul_inv ((∑ d, _) * _)]

theorem prob_real (diag : Bool) (r a : Fin 1024) (hd : t.val / 8 % 8 ≤ t.val % 8) (hdiag : diag = true ↔ t.val / 8 % 8 = t.val % 8) :
    Tile.prob diag (X0_0 m c t) (iblk m c 1 t) (iblk m c 3 t) (iblk m c 4 t) h r a
      = (D.prob (head t h) (queryRow t r) (keyRow t a) : EReal) := by
  obtain ⟨M, hM⟩ := Cert.DkvSavedIdeal.Real.rowMax R (head t h) (queryRow t r)
  unfold Tile.prob Tile.score
  rw [score_real R t h r a hd rfl rfl rfl, block_l m c t h hd, Saved.logSums, Cert.DkvSavedIdeal.Real.logSum R hM, mask]
  refine Eq.trans ?_ (Fox.exp2_row (fun u => D.logit (head t h) (queryRow t r) u) (queryRow t r) M (keyRow t a))
  have key : (if diag then
      Scalar.select (IntOp.cmpi CmpIPredicate.sle (BitVec.ofNat 32 a.val) (BitVec.ofNat 32 r.val))
        ((D.logit (head t h) (queryRow t r) (keyRow t a) / Real.log 2 : ℝ) : EReal) ⊥
      else ((D.logit (head t h) (queryRow t r) (keyRow t a) / Real.log 2 : ℝ) : EReal))
      = if keyRow t a ≤ queryRow t r then ((D.logit (head t h) (queryRow t r) (keyRow t a) / Real.log 2 : ℝ) : EReal) else ⊥ := by
    cases diag with
    | true =>
      have e := hdiag.mp rfl
      rw [if_pos rfl, Fox.select_le (by norm_num)]
      refine if_congr ?_ rfl rfl
      simp only [Fin.le_def, keyRow, queryRow]
      omega
    | false =>
      have e : ¬ t.val / 8 % 8 = t.val % 8 := fun h => by simpa using hdiag.mpr h
      rw [if_neg (by simp), if_pos]
      simp only [Fin.le_def, keyRow, queryRow]
      omega
  rw [key]
  rfl

theorem dscore_real (diag : Bool) (r a : Fin 1024) (hd : t.val / 8 % 8 ≤ t.val % 8) (hdiag : diag = true ↔ t.val / 8 % 8 = t.val % 8) :
    Tile.dscore diag (X0_0 m c t) (iblk m c 1 t) (iblk m c 2 t) (iblk m c 3 t) (iblk m c 4 t) (iblk m c 5 t) (X0_6 m c t) h r a
      = (D.dlogit (head t h) (queryRow t r) (keyRow t a) : EReal) := by
  unfold Tile.dscore
  rw [prob_real R t h diag r a hd hdiag, block_d m c t h hd, Saved.deltas, Cert.DkvSavedIdeal.Real.delta R,
    dot_real R (fun d => (block_go m c t h d hd r).trans (R.go _ _ _)) (fun d => (block_v m c t h d a).trans (R.v _ _ _)),
    ← EReal.coe_sub, ← EReal.coe_mul]
  rfl

theorem addK_real (diag : Bool) (a : Fin 1024) (d : Fin 128) (hd : t.val / 8 % 8 ≤ t.val % 8) (hdiag : diag = true ↔ t.val / 8 % 8 = t.val % 8) :
    Tile.addK diag (X0_0 m c t) (iblk m c 1 t) (iblk m c 2 t) (iblk m c 3 t) (iblk m c 4 t) (iblk m c 5 t) (X0_6 m c t) h a d
      = ((blockSum (fun s => D.dlogit (head t h) s (keyRow t a) * D.q s (head t h) d) (t.val % 8) * D.sc : ℝ) : EReal) := by
  unfold Tile.addK
  rw [blockSum_row, EReal.coe_mul, ← Fox.coe_sum, R.sc, Fox.ofBits_scale]
  refine congrArg (· * (Fox.scale : EReal)) (Finset.sum_congr rfl fun r _ => ?_)
  rw [dscore_real R t h diag r a hd hdiag, block_q m c t h d hd r, R.q, EReal.coe_mul]

theorem addV_real (diag : Bool) (a : Fin 1024) (d : Fin 128) (hd : t.val / 8 % 8 ≤ t.val % 8) (hdiag : diag = true ↔ t.val / 8 % 8 = t.val % 8) :
    Tile.addV diag (X0_0 m c t) (iblk m c 1 t) (iblk m c 3 t) (iblk m c 4 t) (X0_6 m c t) h a d
      = ((blockSum (fun s => D.prob (head t h) s (keyRow t a) * D.go s (head t h) d) (t.val % 8) : ℝ) : EReal) := by
  unfold Tile.addV
  rw [blockSum_row, ← Fox.coe_sum]
  refine Finset.sum_congr rfl fun r _ => ?_
  rw [prob_real R t h diag r a hd hdiag, block_go m c t h d hd r, R.go, EReal.coe_mul]

theorem subC_real (diag : Bool) (a : Fin 1024) (hd : t.val / 8 % 8 ≤ t.val % 8) (hdiag : diag = true ↔ t.val / 8 % 8 = t.val % 8) :
    Tile.subC diag (X0_0 m c t) (iblk m c 1 t) (iblk m c 2 t) (iblk m c 3 t) (iblk m c 4 t) (iblk m c 5 t) (X0_6 m c t) h a
      = ((blockSum (fun s => D.dlogit (head t h) s (keyRow t a)) (t.val % 8) : ℝ) : EReal) := by
  unfold Tile.subC
  rw [blockSum_row, ← Fox.coe_sum]
  exact Finset.sum_congr rfl fun r _ => dscore_real R t h diag r a hd hdiag

omit R in
/-- A tile above the diagonal has rows before its columns only. -/
theorem above (r a : Fin 1024) (hd : ¬ t.val / 8 % 8 ≤ t.val % 8) : ¬ keyRow t a ≤ queryRow t r := by
  simp only [Fin.le_def, keyRow, queryRow]; omega

omit R in
theorem skipped (f : Fin 8192 → ℝ) (a : Fin 1024) (hd : ¬ t.val / 8 % 8 ≤ t.val % 8) (hf : ∀ s, ¬ keyRow t a ≤ s → f s = 0) :
    blockSum f (t.val % 8) = 0 := by
  rw [blockSum_row]
  exact Finset.sum_eq_zero fun r _ => hf _ (above t r a hd)

/-! ## The blocks after each grid point -/

/-- What the three output blocks hold after grid point `t`. -/
def After (D : Fox.Data) (t : Fin cfg0.N) (o : (S1024x384.Idx → EReal) × (S1024x384.Idx → EReal) × (S3x1x1024.Idx → EReal)) : Prop :=
  (∀ h a d, o.1 (ix2 a (Tile.col h d)) = ((upTo (fun s => D.dlogit (head t h) s (keyRow t a) * D.q s (head t h) d) (t.val % 8 + 1) * D.sc : ℝ) : EReal))
  ∧ (∀ h a d, o.2.1 (ix2 a (Tile.col h d)) = ((upTo (fun s => D.prob (head t h) s (keyRow t a) * D.go s (head t h) d) (t.val % 8 + 1) : ℝ) : EReal))
  ∧ (∀ (h : Fin 3) (a : Fin 1024), o.2.2 (ix3 h 0 a) = ((-(upTo (fun s => D.dlogit (head t h) s (keyRow t a)) (t.val % 8 + 1)) : ℝ) : EReal))

omit R in
/-- The sums after a point that is not the first of its run are those of the point before and the point's own block. -/
theorem prev (h0 : ¬ t.val % 8 = 0) :
    ∃ p : Fin cfg0.N, p.val = t.val - 1 ∧ head p = head t ∧ keyRow p = keyRow t ∧ p.val % 8 + 1 = t.val % 8 := by
  refine ⟨⟨t.val - 1, lt_of_le_of_lt (Nat.sub_le _ _) t.isLt⟩, rfl, ?_, ?_, ?_⟩
  · funext h; apply Fin.ext; simp only [head]; omega
  · funext a; apply Fin.ext; simp only [keyRow]; omega
  · show (t.val - 1) % 8 + 1 = t.val % 8; omega

theorem after_A (h0 : t.val % 8 = 0) (h2 : t.val / 8 % 8 = t.val % 8) : After D t (outsAt0 m c t.val t.isLt) := by
  have hd : t.val / 8 % 8 ≤ t.val % 8 := by omega
  have hg : (true = true) ↔ t.val / 8 % 8 = t.val % 8 := ⟨fun _ => h2, fun _ => rfl⟩
  rw [outsAt0_A m c t h0 (by omega) h2]
  refine ⟨fun h a d => ?_, fun h a d => ?_, fun h a => ?_⟩
  · dsimp only
    rw [Tile.out_A_7]
    rw [addK_real R t h true a d hd hg, h0, upTo_one, zero_add]
  · dsimp only
    rw [Tile.out_A_8]
    rw [addV_real R t h true a d hd hg, h0, upTo_one, zero_add]
  · dsimp only
    rw [Tile.out_A_9]
    rw [subC_real R t h true a hd hg, h0, upTo_one, zero_sub, EReal.coe_neg]

theorem after_C (h0 : t.val % 8 = 0) (h2 : ¬ t.val / 8 % 8 = t.val % 8) : After D t (outsAt0 m c t.val t.isLt) := by
  have hd : ¬ t.val / 8 % 8 ≤ t.val % 8 := by omega
  rw [outsAt0_C m c t h0 (by omega) h2]
  have z : ∀ f : Fin 8192 → ℝ, ∀ a, (∀ s, ¬ keyRow t a ≤ s → f s = 0) → upTo f (t.val % 8 + 1) = 0 := fun f a hf => by
    rw [h0, upTo_one, ← h0, skipped t f a hd hf]
  refine ⟨fun h a d => ?_, fun h a d => ?_, fun h a => ?_⟩
  · dsimp only
    rw [Tile.out_C_7]
    rw [z _ a fun s hs => by rw [D.dlogit_above _ _ _ hs, zero_mul], zero_mul, EReal.coe_zero]
  · dsimp only
    rw [Tile.out_C_8]
    rw [z _ a fun s hs => by rw [D.prob_above _ _ _ hs, zero_mul], EReal.coe_zero]
  · dsimp only
    rw [Tile.out_C_9]
    rw [z _ a fun s hs => D.dlogit_above _ _ _ hs, neg_zero, EReal.coe_zero]

theorem after_B (h0 : ¬ t.val % 8 = 0) (h1 : t.val / 8 % 8 + 1 ≤ t.val % 8)
    (ih : ∀ p : Fin cfg0.N, p.val = t.val - 1 → After D p (outsAt0 m c p.val p.isLt)) : After D t (outsAt0 m c t.val t.isLt) := by
  obtain ⟨p, hp, eh, ek, ei⟩ := prev t h0
  obtain ⟨i7, i8, i9⟩ := ih p hp
  have hd : t.val / 8 % 8 ≤ t.val % 8 := by omega
  have hg : (false = true) ↔ t.val / 8 % 8 = t.val % 8 := ⟨fun h => by simp at h, fun h => by omega⟩
  rw [outsAt0_B m c t h0 h1 (by omega)]
  simp only [eh, ek, ei] at i7 i8 i9
  simp only [hp] at i7 i8 i9
  refine ⟨fun h a d => ?_, fun h a d => ?_, fun h a => ?_⟩
  · dsimp only
    rw [Tile.out_B_7]
    rw [addK_real R t h false a d hd hg, i7, ← EReal.coe_add, upTo_succ, add_mul]
  · dsimp only
    rw [Tile.out_B_8]
    rw [addV_real R t h false a d hd hg, i8, ← EReal.coe_add, upTo_succ]
  · dsimp only
    rw [Tile.out_B_9]
    rw [subC_real R t h false a hd hg, i9, ← EReal.coe_sub, upTo_succ, neg_add, sub_eq_add_neg]

theorem after_D (h0 : ¬ t.val % 8 = 0) (h2 : t.val / 8 % 8 = t.val % 8)
    (ih : ∀ p : Fin cfg0.N, p.val = t.val - 1 → After D p (outsAt0 m c p.val p.isLt)) : After D t (outsAt0 m c t.val t.isLt) := by
  obtain ⟨p, hp, eh, ek, ei⟩ := prev t h0
  obtain ⟨i7, i8, i9⟩ := ih p hp
  have hd : t.val / 8 % 8 ≤ t.val % 8 := by omega
  have hg : (true = true) ↔ t.val / 8 % 8 = t.val % 8 := ⟨fun _ => h2, fun _ => rfl⟩
  rw [outsAt0_D m c t h0 (by omega) h2]
  simp only [eh, ek, ei] at i7 i8 i9
  simp only [hp] at i7 i8 i9
  refine ⟨fun h a d => ?_, fun h a d => ?_, fun h a => ?_⟩
  · dsimp only
    rw [Tile.out_D_7]
    rw [addK_real R t h true a d hd hg, i7, ← EReal.coe_add, upTo_succ, add_mul]
  · dsimp only
    rw [Tile.out_D_8]
    rw [addV_real R t h true a d hd hg, i8, ← EReal.coe_add, upTo_succ]
  · dsimp only
    rw [Tile.out_D_9]
    rw [subC_real R t h true a hd hg, i9, ← EReal.coe_sub, upTo_succ, neg_add, sub_eq_add_neg]

theorem after_E (h0 : ¬ t.val % 8 = 0) (h1 : ¬ t.val / 8 % 8 ≤ t.val % 8)
    (ih : ∀ p : Fin cfg0.N, p.val = t.val - 1 → After D p (outsAt0 m c p.val p.isLt)) : After D t (outsAt0 m c t.val t.isLt) := by
  obtain ⟨p, hp, eh, ek, ei⟩ := prev t h0
  obtain ⟨i7, i8, i9⟩ := ih p hp
  rw [outsAt0_E m c t h0 (by omega) (by omega)]
  simp only [eh, ek, ei] at i7 i8 i9
  simp only [hp] at i7 i8 i9
  refine ⟨fun h a d => ?_, fun h a d => ?_, fun h a => ?_⟩
  · refine (i7 h a d).trans ?_
    rw [upTo_succ, skipped t _ a h1 fun s hs => by rw [D.dlogit_above _ _ _ hs, zero_mul], add_zero]
  · refine (i8 h a d).trans ?_
    rw [upTo_succ, skipped t _ a h1 fun s hs => by rw [D.prob_above _ _ _ hs, zero_mul], add_zero]
  · refine (i9 h a).trans ?_
    rw [upTo_succ, skipped t _ a h1 fun s hs => D.dlogit_above _ _ _ hs, add_zero]

/-- After every grid point the blocks hold the sums over the query rows walked so far. -/
theorem after_all (n : ℕ) : ∀ t : Fin cfg0.N, t.val = n → After D t (outsAt0 m c t.val t.isLt) := by
  induction n using Nat.strong_induction_on with
  | _ n ih =>
    intro t ht
    have ih' : ¬ t.val % 8 = 0 → ∀ p : Fin cfg0.N, p.val = t.val - 1 → After D p (outsAt0 m c p.val p.isLt) := fun h0 p hp =>
      ih p.val (by omega) p rfl
    by_cases h0 : t.val % 8 = 0
    · by_cases h2 : t.val / 8 % 8 = t.val % 8
      · exact after_A R t h0 h2
      · exact after_C R t h0 h2
    · by_cases h2 : t.val / 8 % 8 = t.val % 8
      · exact after_D R t h0 h2 (ih' h0)
      · by_cases h1 : t.val / 8 % 8 + 1 ≤ t.val % 8
        · exact after_B R t h0 h1 (ih' h0)
        · exact after_E R t h0 (by omega) (ih' h0)

/-- After the last query block the blocks hold the gradients. -/
theorem after_last (ht : t.val % 8 = 7) :
    (∀ h a d, (outsAt0 m c t.val t.isLt).1 (ix2 a (Tile.col h d)) = (D.dk (keyRow t a) (head t h) d : EReal))
    ∧ (∀ h a d, (outsAt0 m c t.val t.isLt).2.1 (ix2 a (Tile.col h d)) = (D.dv (keyRow t a) (head t h) d : EReal))
    ∧ (∀ (h : Fin 3) (a : Fin 1024), (outsAt0 m c t.val t.isLt).2.2 (ix3 h 0 a) = (D.dc (head t h) (keyRow t a) : EReal)) := by
  obtain ⟨i7, i8, i9⟩ := after_all R t.val t rfl
  simp only [ht, show 7 + 1 = 8 from rfl, upTo_all] at i7 i8 i9
  exact ⟨i7, i8, i9⟩

/-! ## The arrays -/

omit R in
/-- Every column of a block is a feature of one of its heads. -/
theorem col_exists (e : Fin 384) : ∃ h d, e = Tile.col h d :=
  ⟨⟨e.val / 128, by omega⟩, ⟨e.val % 128, by omega⟩, Fin.ext (by simp only [Tile.col]; omega)⟩

/-- The array of dk, given as any array `G` that reads the gradient. -/
theorem array_dk (G : Buf (Elt Ideal) ((c : Thread nD τ).loc main_v51_0))
    (hG : ∀ g t d, G (ix2 t (Fox.col g d)) = (D.dk t g d : EReal)) : (dats m 0 c).arrAt 7 cfg0.N = G := by
  refine (dats m 0 c).arrAt_eq_of_covers 7 G (by decide +kernel) fun t hf y => ?_
  blk_simp
  rw [after0_7]
  idx_vars y
  obtain ⟨h, d, rfl⟩ := col_exists y1
  refine ((after_last R t ((flush0_7 t).mp hf)).1 h y0 d).trans ((hG _ _ _).symm.trans (congrArg G ?_))
  blk_ext [index_dk t, keyRow, head, Fox.col, Tile.col]

/-- The array of dv, given as any array `G` that reads the gradient. -/
theorem array_dv (G : Buf (Elt Ideal) ((c : Thread nD τ).loc main_v51_1))
    (hG : ∀ g t d, G (ix2 t (Fox.col g d)) = (D.dv t g d : EReal)) : (dats m 0 c).arrAt 8 cfg0.N = G := by
  refine (dats m 0 c).arrAt_eq_of_covers 8 G (by decide +kernel) fun t hf y => ?_
  blk_simp
  rw [after0_8]
  idx_vars y
  obtain ⟨h, d, rfl⟩ := col_exists y1
  refine ((after_last R t ((flush0_8 t).mp hf)).2.1 h y0 d).trans ((hG _ _ _).symm.trans (congrArg G ?_))
  blk_ext [index_dv t, keyRow, head, Fox.col, Tile.col]

/-- The array of dc, given as any array `G` that reads the gradient. -/
theorem array_dc (G : Buf (Elt Ideal) ((c : Thread nD τ).loc main_v51_2))
    (hG : ∀ (g : Fin 6) (t : Fin 8192), G (ix3 g 0 t) = (D.dc g t : EReal)) : (dats m 0 c).arrAt 9 cfg0.N = G := by
  refine (dats m 0 c).arrAt_eq_of_covers 9 G (by decide +kernel) fun t hf y => ?_
  blk_simp
  rw [after0_9]
  idx_vars y
  obtain rfl : y1 = 0 := Subsingleton.elim _ _
  refine ((after_last R t ((flush0_9 t).mp hf)).2.2 y0 y2).trans ((hG _ _).symm.trans (congrArg G ?_))
  blk_ext [index_dc t, keyRow, head]

end Cert.DkvIdeal.Real
-- ==== Proof.DkvRef.lean ====
/-
  WHAT THE REFERENCE COMPUTES, as reals: the vector-Jacobian product of the plain causal softmax attention, value by value, is
  `Fox.Data.dk`, `dv` and `dc`.
-/
module

public import proofs.«01_k».proof.Proof.FoxIdeal
public import proofs.«01_k».proof.Proof.Gen.DkvRefIdeal.Read
public import Idealize.ShloMosaic.Lib.Pointwise

@[expose] public section

set_option maxRecDepth 16384

noncomputable section

namespace Cert.DkvRefIdeal.Real

open Cert.DkvRefIdeal Cert.DkvRefIdeal.Gen Cert.DkvRefIdeal.Read Idealize.ShloMosaic
open scoped BigOperators

variable (x0 : (⟨S8192x1024, .bf16⟩ : BufTy).Contents (Elt Ideal)) (x1 x2 : (⟨S8192x768, .bf16⟩ : BufTy).Contents (Elt Ideal)) (x3 : (⟨S6x8192, .f32⟩ : BufTy).Contents (Elt Ideal)) (x4 : (⟨S8192x1024, .f32⟩ : BufTy).Contents (Elt Ideal))

section Raw

/-! ### Where each operation reads -/

theorem at_v1213 (g : Fin 6) (s t : Fin 8192) : idx_main_v12 (idx_main_v13 (ix3 g s t)) = ix2 g s :=
  funext fun a => Fin.ext (by match a with
      | ⟨0, _⟩ => rfl
      | ⟨1, _⟩ => rfl)
theorem at_v1516 (g : Fin 6) (s t : Fin 8192) : idx_main_v15 (idx_main_v16 (ix3 g s t)) = ix2 g t :=
  funext fun a => Fin.ext (by match a with
      | ⟨0, _⟩ => rfl
      | ⟨1, _⟩ => rfl)
theorem at_v46 (g : Fin 6) (s t : Fin 8192) : idx_main_v46 (ix3 g s t) = ix3 g s 0 :=
  funext fun a => Fin.ext (by match a with
      | ⟨0, _⟩ => rfl
      | ⟨1, _⟩ => rfl
      | ⟨2, _⟩ => rfl)
theorem at_v45 (g : Fin 6) (s : Fin 8192) : idx_main_v45 (ix3 g s 0) = ix2 g s :=
  funext fun a => Fin.ext (by match a with
      | ⟨0, _⟩ => rfl
      | ⟨1, _⟩ => rfl)
theorem at_v49 (g : Fin 6) (s t : Fin 8192) : idx_main_v49 (ix2 g s) t = ix3 g s t :=
  funext fun a => Fin.ext (by match a with
      | ⟨0, _⟩ => rfl
      | ⟨1, _⟩ => rfl
      | ⟨2, _⟩ => rfl)
theorem at_v50 (g : Fin 6) (s : Fin 8192) : idx_main_v50 (ix3 g s 0) = ix2 g s :=
  funext fun a => Fin.ext (by match a with
      | ⟨0, _⟩ => rfl
      | ⟨1, _⟩ => rfl)
theorem at_v51 (g : Fin 6) (s t : Fin 8192) : idx_main_v51 (ix3 g s t) = ix3 g s 0 :=
  funext fun a => Fin.ext (by match a with
      | ⟨0, _⟩ => rfl
      | ⟨1, _⟩ => rfl
      | ⟨2, _⟩ => rfl)
theorem at_v62 (g : Fin 6) (s t : Fin 8192) : idx_main_v62 (ix3 g s t) = ix3 g s 0 :=
  funext fun a => Fin.ext (by match a with
      | ⟨0, _⟩ => rfl
      | ⟨1, _⟩ => rfl
      | ⟨2, _⟩ => rfl)
theorem at_v68 (g : Fin 6) (s t : Fin 8192) : idx_main_v68 (ix3 g s t) = ix3 g s 0 :=
  funext fun a => Fin.ext (by match a with
      | ⟨0, _⟩ => rfl
      | ⟨1, _⟩ => rfl
      | ⟨2, _⟩ => rfl)
theorem at_v65 (g : Fin 6) (s t : Fin 8192) : idx_main_v65 (ix2 g s) t = ix3 g s t :=
  funext fun a => Fin.ext (by match a with
      | ⟨0, _⟩ => rfl
      | ⟨1, _⟩ => rfl
      | ⟨2, _⟩ => rfl)
theorem at_v66 (g : Fin 6) (s : Fin 8192) : idx_main_v66 (ix3 g s 0) = ix2 g s :=
  funext fun a => Fin.ext (by match a with
      | ⟨0, _⟩ => show ((g.val * 8192 + s.val) * 1 + 0) / 8192 = g.val; omega
      | ⟨1, _⟩ => show ((g.val * 8192 + s.val) * 1 + 0) % 8192 = s.val; omega)
theorem at_v70 (g : Fin 6) (s : Fin 8192) (k : Fin 1) : idx_main_v70 (ix2 g s) k = ix3 g s k :=
  funext fun a => Fin.ext (by match a with
      | ⟨0, _⟩ => rfl
      | ⟨1, _⟩ => rfl
      | ⟨2, _⟩ => rfl)
theorem at_v71 (g : Fin 6) (s t : Fin 8192) : idx_main_v71 (ix3 g s t) = ix2 g s :=
  funext fun a => Fin.ext (by match a with
      | ⟨0, _⟩ => rfl
      | ⟨1, _⟩ => rfl)
theorem at_v77 (g : Fin 6) (s t : Fin 8192) : idx_main_v77 (ix2 g t) s = ix3 g s t :=
  funext fun a => Fin.ext (by match a with
      | ⟨0, _⟩ => rfl
      | ⟨1, _⟩ => rfl
      | ⟨2, _⟩ => rfl)
theorem at_v78 (g : Fin 6) (s : Fin 8192) : idx_main_v78 (ix3 g 0 s) = ix2 g s :=
  funext fun a => Fin.ext (by match a with
      | ⟨0, _⟩ => show ((g.val * 1 + 0) * 8192 + s.val) / 8192 = g.val; omega
      | ⟨1, _⟩ => show ((g.val * 1 + 0) * 8192 + s.val) % 8192 = s.val; omega)
theorem at_v79 (g : Fin 6) (s : Fin 8192) (k : Fin 1) : idx_main_v79 (ix2 g s) k = ix3 g k s :=
  funext fun a => Fin.ext (by match a with
      | ⟨0, _⟩ => rfl
      | ⟨1, _⟩ => rfl
      | ⟨2, _⟩ => rfl)
theorem at_v86 (g : Fin 6) (s : Fin 8192) : idx_main_v86 (ix3 g 0 s) = ix2 g s :=
  funext fun a => Fin.ext (by match a with
      | ⟨0, _⟩ => rfl
      | ⟨1, _⟩ => rfl)
theorem at_v84 (g : Fin 6) (t : Fin 8192) (d : Fin 128) : idx_main_v84 (ix2 t (Fox.col g d)) = ix3 t g d :=
  funext fun a => Fin.ext (by match a with
      | ⟨0, _⟩ => show (t.val * 768 + (g.val * 128 + d.val)) / 768 = t.val; omega
      | ⟨1, _⟩ => show (t.val * 768 + (g.val * 128 + d.val)) / 128 % 6 = g.val; omega
      | ⟨2, _⟩ => show (t.val * 768 + (g.val * 128 + d.val)) % 128 = d.val; omega)
theorem at_v85 (g : Fin 6) (t : Fin 8192) (d : Fin 128) : idx_main_v85 (ix2 t (Fox.col g d)) = ix3 t g d :=
  funext fun a => Fin.ext (by match a with
      | ⟨0, _⟩ => show (t.val * 768 + (g.val * 128 + d.val)) / 768 = t.val; omega
      | ⟨1, _⟩ => show (t.val * 768 + (g.val * 128 + d.val)) / 128 % 6 = g.val; omega
      | ⟨2, _⟩ => show (t.val * 768 + (g.val * 128 + d.val)) % 128 = d.val; omega)
theorem at_v83 (g : Fin 6) (t : Fin 8192) (d : Fin 128) : idx_main_v83 (ix3 t g d) = ix3 g t d :=
  funext fun a => Fin.ext (by match a with
      | ⟨0, _⟩ => rfl
      | ⟨1, _⟩ => rfl
      | ⟨2, _⟩ => rfl)
theorem at_v61 (g : Fin 6) (t : Fin 8192) (d : Fin 128) : idx_main_v61 (ix3 t g d) = ix3 g d t :=
  funext fun a => Fin.ext (by match a with
      | ⟨0, _⟩ => rfl
      | ⟨1, _⟩ => rfl
      | ⟨2, _⟩ => rfl)
theorem at_l82 (g : Fin 6) (t : Fin 8192) (d : Fin 128) (s : Fin 8192) : lidx_main_v82 (ix3 g t d) s = ix3 g s t :=
  funext fun a => Fin.ext (by match a with
      | ⟨0, _⟩ => rfl
      | ⟨1, _⟩ => rfl
      | ⟨2, _⟩ => rfl)
theorem at_r82 (g : Fin 6) (t : Fin 8192) (d : Fin 128) (s : Fin 8192) : ridx_main_v82 (ix3 g t d) s = ix3 s g d :=
  funext fun a => Fin.ext (by match a with
      | ⟨0, _⟩ => rfl
      | ⟨1, _⟩ => rfl
      | ⟨2, _⟩ => rfl)
theorem at_l60 (g : Fin 6) (t : Fin 8192) (d : Fin 128) (s : Fin 8192) : lidx_main_v60 (ix3 g d t) s = ix3 g d s :=
  funext fun a => Fin.ext (by match a with
      | ⟨0, _⟩ => rfl
      | ⟨1, _⟩ => rfl
      | ⟨2, _⟩ => rfl)
theorem at_r60 (g : Fin 6) (t : Fin 8192) (d : Fin 128) (s : Fin 8192) : ridx_main_v60 (ix3 g d t) s = ix3 g s t :=
  funext fun a => Fin.ext (by match a with
      | ⟨0, _⟩ => rfl
      | ⟨1, _⟩ => rfl
      | ⟨2, _⟩ => rfl)

/-! ### The operations -/

theorem raw_v2 (s : Fin 8192) (g : Fin 6) (d : Fin 128) : val_main_v2 (F := Ideal) x0 (ix3 s g d) = x0 (ix2 s (Fox.colP g d)) := by
  pointwise [val_main_v2, val_main_v1, val_main_v0]
  rfl

theorem raw_v17 (g : Fin 6) (s t : Fin 8192) : val_main_v17 (F := Ideal) x0 x1 x3 (ix3 g s t)
    = (∑ d, x0 (ix2 s (Fox.colP g d)) * x1 (ix2 t (Fox.col g d))) * Ideal.ofBits .f32 0x3DB504F3#32 + x3 (ix2 g s) - x3 (ix2 g t) := by
  have e : val_main_v11 (F := Ideal) x0 x1 (ix3 g s t)
      = (∑ d, x0 (ix2 s (Fox.colP g d)) * x1 (ix2 t (Fox.col g d))) * Ideal.ofBits .f32 0x3DB504F3#32 := by
    pointwise [val_main_v11, val_main_v10, val_main_cst, val_main_v9, val_main_v4, val_main_v3, val_main_v2, val_main_v1, val_main_v0]
    rfl
  rw [val_main_v17_apply, val_main_v14_apply, val_main_v16_apply, val_main_v15_apply, val_main_v13_apply, val_main_v12_apply, e, at_v1213,
    at_v1516]
  rfl

theorem raw_v24 (g : Fin 6) (s t : Fin 8192) : val_main_v24 (F := Ideal) (ix3 g s t)
    = IntOp.cmpi .sle (BitVec.ofNat 32 t.val) (BitVec.ofNat 32 s.val) := by
  pointwise [val_main_v24, val_main_v23, val_main_v22, val_main_v21, val_main_v20, val_main_v19, val_main_v18]

theorem raw_v26 (g : Fin 6) (s t : Fin 8192) : val_main_v26 (F := Ideal) x0 x1 x3 (ix3 g s t)
    = Scalar.select (IntOp.cmpi .sle (BitVec.ofNat 32 t.val) (BitVec.ofNat 32 s.val)) (val_main_v17 (F := Ideal) x0 x1 x3 (ix3 g s t))
        (Ideal.ofBits .f32 0xFF800000#32) := by
  rw [val_main_v26_apply, raw_v24, val_main_v25_apply, val_main_cst_0_apply]
  rfl

theorem raw_v28 (g : Fin 6) (s : Fin 8192) : val_main_v28 (F := Ideal) x0 x1 x3 (ix2 g s)
    = Finset.fold max (Ideal.ofBits .f32 0xFF800000#32) (fun t : Fin 8192 => val_main_v26 (F := Ideal) x0 x1 x3 (ix3 g s t)) Finset.univ := by
  pointwise [val_main_v28, val_main_cst_2]

theorem raw_v35 (g : Fin 6) (s : Fin 8192) : val_main_v35 (F := Ideal) x0 x1 x3 (ix2 g s)
    = max (Ideal.ofBits .f32 0xFF800000#32) (val_main_v28 (F := Ideal) x0 x1 x3 (ix2 g s)) := by
  have h : val_main_v34 (F := Ideal) (ix2 g s) = Ideal.ofBits .f32 0xFF800000#32 := by
    rw [val_main_v34_apply, val_main_cst_4_apply]
    rfl
  rw [val_main_v35_apply, h]
  generalize val_main_v28 (F := Ideal) x0 x1 x3 (ix2 g s) = z
  rfl

theorem raw_v48 (g : Fin 6) (s t : Fin 8192) : val_main_v48 (F := Ideal) x0 x1 x3 (ix3 g s t)
    = Ideal.exp (val_main_v26 (F := Ideal) x0 x1 x3 (ix3 g s t) - val_main_v35 (F := Ideal) x0 x1 x3 (ix2 g s)) := by
  rw [val_main_v48_apply, val_main_v47_apply, val_main_v46_apply, at_v46, val_main_v45_apply, at_v45]
  rfl

theorem zero_word : (FloatOps.ofBits (F := Ideal) .f32 0x00000000#32) = (0 : EReal) := Ideal.ofBits_zero_f32

theorem raw_v49 (g : Fin 6) (s : Fin 8192) : val_main_v49 (F := Ideal) x0 x1 x3 (ix2 g s)
    = ∑ t : Fin 8192, val_main_v48 (F := Ideal) x0 x1 x3 (ix3 g s t) := by
  have e := val_main_v49_apply x0 x1 x3 (ix2 g s)
  generalize val_main_v49 (F := Ideal) x0 x1 x3 (ix2 g s) = a at e ⊢
  generalize val_main_v48 (F := Ideal) x0 x1 x3 = y at e ⊢
  rw [e, val_main_cst_10_apply, zero_word, zero_add]
  simp only [at_v49]

theorem raw_v52 (g : Fin 6) (s t : Fin 8192) : val_main_v52 (F := Ideal) x0 x1 x3 (ix3 g s t)
    = Ideal.div (val_main_v48 (F := Ideal) x0 x1 x3 (ix3 g s t)) (val_main_v49 (F := Ideal) x0 x1 x3 (ix2 g s)) := by
  rw [val_main_v52_apply, val_main_v51_apply, at_v51, val_main_v50_apply, at_v50]
  rfl

theorem raw_v55 (g : Fin 6) (s : Fin 8192) : val_main_v55 (F := Ideal) x0 x1 x3 (ix3 g s 0)
    = Ideal.div (Ideal.ofBits .f32 0x3F800000#32)
        (val_main_v49 (F := Ideal) x0 x1 x3 (ix2 g s) * val_main_v49 (F := Ideal) x0 x1 x3 (ix2 g s)) := by
  rw [val_main_v55_apply, val_main_v54_apply, val_main_cst_11_apply, val_main_v53_apply, val_main_v50_apply, at_v50]
  rfl

theorem raw_v58 (g : Fin 6) (d : Fin 128) (s : Fin 8192) : val_main_v58 (F := Ideal) x4 (ix3 g d s) = x4 (ix2 s (Fox.colP g d)) := by
  pointwise [val_main_v58, val_main_v8, val_main_v7]
  rfl

theorem raw_v59 (g : Fin 6) (s t : Fin 8192) : val_main_v59 (F := Ideal) x2 x4 (ix3 g s t)
    = ∑ d, x4 (ix2 s (Fox.colP g d)) * x2 (ix2 t (Fox.col g d)) := by
  pointwise [val_main_v59, val_main_v58, val_main_v8, val_main_v7, val_main_v6, val_main_v5]
  rfl

theorem raw_v64 (g : Fin 6) (s t : Fin 8192) : val_main_v64 (F := Ideal) x0 x1 x2 x3 x4 (ix3 g s t)
    = val_main_v59 (F := Ideal) x2 x4 (ix3 g s t) * val_main_v55 (F := Ideal) x0 x1 x3 (ix3 g s 0) * val_main_v48 (F := Ideal) x0 x1 x3 (ix3 g s t) := by
  rw [val_main_v64_apply, val_main_v63_apply, val_main_v62_apply, at_v62]
  rfl

theorem raw_v65 (g : Fin 6) (s : Fin 8192) : val_main_v65 (F := Ideal) x0 x1 x2 x3 x4 (ix2 g s)
    = ∑ t : Fin 8192, val_main_v64 (F := Ideal) x0 x1 x2 x3 x4 (ix3 g s t) := by
  have e := val_main_v65_apply x0 x1 x2 x3 x4 (ix2 g s)
  generalize val_main_v65 (F := Ideal) x0 x1 x2 x3 x4 (ix2 g s) = a at e ⊢
  generalize val_main_v64 (F := Ideal) x0 x1 x2 x3 x4 = y at e ⊢
  rw [e, val_main_cst_12_apply, zero_word, zero_add]
  simp only [at_v65]

theorem raw_v70 (g : Fin 6) (s : Fin 8192) : val_main_v70 (F := Ideal) x0 x1 x2 x3 x4 (ix2 g s)
    = -val_main_v65 (F := Ideal) x0 x1 x2 x3 x4 (ix2 g s) := by
  have e := val_main_v70_apply x0 x1 x2 x3 x4 (ix2 g s)
  generalize val_main_v70 (F := Ideal) x0 x1 x2 x3 x4 (ix2 g s) = a at e ⊢
  rw [e, val_main_cst_13_apply, zero_word, zero_add, Fin.sum_univ_one, at_v70, val_main_v67_apply, val_main_v66_apply, at_v66]
  rfl

theorem raw_v75 (g : Fin 6) (s t : Fin 8192) : val_main_v75 (F := Ideal) x0 x1 x2 x3 x4 (ix3 g s t)
    = Scalar.select (IntOp.cmpi .sle (BitVec.ofNat 32 t.val) (BitVec.ofNat 32 s.val))
        ((Ideal.div (val_main_v59 (F := Ideal) x2 x4 (ix3 g s t)) (val_main_v49 (F := Ideal) x0 x1 x3 (ix2 g s))
          + -val_main_v65 (F := Ideal) x0 x1 x2 x3 x4 (ix2 g s)) * val_main_v48 (F := Ideal) x0 x1 x3 (ix3 g s t)) 0 := by
  rw [val_main_v75_apply, raw_v24, val_main_v74_apply, val_main_cst_14_apply, zero_word, val_main_v73_apply, val_main_v72_apply,
    val_main_v71_apply, at_v71, raw_v70, val_main_v69_apply, val_main_v68_apply, at_v68, val_main_v50_apply, at_v50]
  rfl

theorem raw_v77 (g : Fin 6) (t : Fin 8192) : val_main_v77 (F := Ideal) x0 x1 x2 x3 x4 (ix2 g t)
    = ∑ s : Fin 8192, val_main_v76 (F := Ideal) x0 x1 x2 x3 x4 (ix3 g s t) := by
  have e := val_main_v77_apply x0 x1 x2 x3 x4 (ix2 g t)
  generalize val_main_v77 (F := Ideal) x0 x1 x2 x3 x4 (ix2 g t) = a at e ⊢
  generalize val_main_v76 (F := Ideal) x0 x1 x2 x3 x4 = y at e ⊢
  rw [e, val_main_cst_15_apply, zero_word, zero_add]
  simp only [at_v77]

theorem raw_v76 (g : Fin 6) (s t : Fin 8192) : val_main_v76 (F := Ideal) x0 x1 x2 x3 x4 (ix3 g s t)
    = -val_main_v75 (F := Ideal) x0 x1 x2 x3 x4 (ix3 g s t) := by
  rw [val_main_v76_apply]
  rfl

theorem raw_v86 (g : Fin 6) (t : Fin 8192) : val_main_v86 (F := Ideal) x0 x1 x2 x3 x4 (ix3 g 0 t)
    = ∑ s : Fin 8192, -val_main_v75 (F := Ideal) x0 x1 x2 x3 x4 (ix3 g s t) := by
  rw [val_main_v86_apply, at_v86]
  have e := val_main_v79_apply x0 x1 x2 x3 x4 (ix2 g t)
  generalize val_main_v79 (F := Ideal) x0 x1 x2 x3 x4 (ix2 g t) = a at e ⊢
  rw [e, val_main_cst_16_apply, zero_word, zero_add, Fin.sum_univ_one, at_v79, val_main_v78_apply, at_v78, raw_v77]
  simp only [raw_v76]

theorem raw_v81 (g : Fin 6) (s t : Fin 8192) : val_main_v81 (F := Ideal) x0 x1 x2 x3 x4 (ix3 g s t)
    = val_main_v75 (F := Ideal) x0 x1 x2 x3 x4 (ix3 g s t) * Ideal.ofBits .f32 0x3DB504F3#32 := by
  rw [val_main_v81_apply, val_main_v80_apply, val_main_cst_17_apply]
  rfl

theorem raw_v84 (g : Fin 6) (t : Fin 8192) (d : Fin 128) : val_main_v84 (F := Ideal) x0 x1 x2 x3 x4 (ix2 t (Fox.col g d))
    = ∑ s : Fin 8192, val_main_v75 (F := Ideal) x0 x1 x2 x3 x4 (ix3 g s t) * Ideal.ofBits .f32 0x3DB504F3#32 * x0 (ix2 s (Fox.colP g d)) := by
  rw [val_main_v84_apply, at_v84, val_main_v83_apply, at_v83, val_main_v82_apply]
  simp only [at_l82, at_r82, raw_v81, raw_v2]

theorem raw_v85 (g : Fin 6) (t : Fin 8192) (d : Fin 128) : val_main_v85 (F := Ideal) x0 x1 x3 x4 (ix2 t (Fox.col g d))
    = ∑ s : Fin 8192, x4 (ix2 s (Fox.colP g d)) * val_main_v52 (F := Ideal) x0 x1 x3 (ix3 g s t) := by
  rw [val_main_v85_apply, at_v85, val_main_v61_apply, at_v61, val_main_v60_apply]
  simp only [at_l60, at_r60, raw_v58]

end Raw

variable {x0 x1 x2 x3 x4} {D : Fox.Data} (R : Fox.Reads D x0 x4 x1 x2 x3)
include R

/-- The masked scores are a causal row: the launch's scores, each row moved by its gate. -/
theorem masked (g : Fin 6) (s t : Fin 8192) : val_main_v26 (F := Ideal) x0 x1 x3 (ix3 g s t)
    = Fox.row (fun u => D.logit g s u + D.c g s) s t := by
  rw [raw_v26, Fox.select_le (by norm_num), raw_v17, R.c, R.c, Fox.ofBits_scale, ← R.sc, Fox.ofBits_negInf]
  simp only [R.q, R.k, ← EReal.coe_mul, Fox.coe_sum, ← EReal.coe_sub, ← EReal.coe_add]
  have e : (∑ d, D.q s g d * D.k t g d) * D.sc + D.c g s - D.c g t = D.logit g s t + D.c g s := by unfold Fox.Data.logit; ring
  rw [e]
  rfl

/-- The weights of a row are those of its scores less one real. -/
theorem weights (g : Fin 6) (s : Fin 8192) : ∃ a : ℝ, ∀ t, val_main_v48 (F := Ideal) x0 x1 x3 (ix3 g s t)
    = (Fox.weight (fun u => D.logit g s u - a) s t : EReal) := by
  obtain ⟨M, hM⟩ := Fox.row_max (fun u => D.logit g s u + D.c g s) s
  refine ⟨M - D.c g s, fun t => ?_⟩
  have h : val_main_v35 (F := Ideal) x0 x1 x3 (ix2 g s) = (M : EReal) := by
    rw [raw_v35, raw_v28, Fox.ofBits_negInf]
    simp only [masked R]
    rw [max_eq_right bot_le]
    exact hM
  rw [raw_v48, h, masked R, Fox.exp_row]
  have e : (fun u => D.logit g s u + D.c g s - M) = fun u => D.logit g s u - (M - D.c g s) := funext fun u => by ring
  rw [e]

section Row
variable {g : Fin 6} {s : Fin 8192} {a : ℝ}
  (ha : ∀ t, val_main_v48 (F := Ideal) x0 x1 x3 (ix3 g s t) = (Fox.weight (fun u => D.logit g s u - a) s t : EReal))
include ha
omit R

theorem sumWeights : val_main_v49 (F := Ideal) x0 x1 x3 (ix2 g s) = ((∑ u, Fox.weight (fun u => D.logit g s u - a) s u : ℝ) : EReal) := by
  rw [raw_v49]
  simp only [ha, Fox.coe_sum]

end Row

/-- The probabilities. -/
theorem prob (g : Fin 6) (s t : Fin 8192) : val_main_v52 (F := Ideal) x0 x1 x3 (ix3 g s t) = (D.prob g s t : EReal) := by
  obtain ⟨a, ha⟩ := weights R g s
  rw [raw_v52, sumWeights ha, ha, Fox.div_real _ _ (Fox.sum_weight_pos _ _).ne']
  exact congrArg Real.toEReal (Fox.soft_shift (D.logit g s) s a t)

/-- The gradient of the probabilities. -/
theorem dprob (g : Fin 6) (s t : Fin 8192) : val_main_v59 (F := Ideal) x2 x4 (ix3 g s t) = (D.dprob g s t : EReal) := by
  rw [raw_v59]
  simp only [R.go, R.v, ← EReal.coe_mul, Fox.coe_sum]
  rfl

/-- The gradient of the scores. -/
theorem dlogit (g : Fin 6) (s t : Fin 8192) : val_main_v75 (F := Ideal) x0 x1 x2 x3 x4 (ix3 g s t) = (D.dlogit g s t : EReal) := by
  obtain ⟨a, ha⟩ := weights R g s
  have hp := (Fox.sum_weight_pos (fun u => D.logit g s u - a) s).ne'
  rw [raw_v75, Fox.select_le (by norm_num)]
  by_cases h : t ≤ s
  · rw [if_pos h, raw_v65]
    simp only [raw_v64, raw_v55, Fox.ofBits_one, sumWeights ha, ha, dprob R, ← EReal.coe_mul, Fox.div_real _ _ (mul_ne_zero hp hp),
      Fox.div_real _ _ hp, Fox.coe_sum, ← EReal.coe_neg, ← EReal.coe_add]
    rw [Fox.quotient_rule]
    unfold Fox.Data.dlogit
    rw [D.delta_eq]
    simp only [Fox.soft_shift]
    rfl
  · rw [if_neg h, D.dlogit_above g s t h, EReal.coe_zero]

/-- The gradient of the values. -/
theorem dv (g : Fin 6) (t : Fin 8192) (d : Fin 128) : val_main_v85 (F := Ideal) x0 x1 x3 x4 (ix2 t (Fox.col g d)) = (D.dv t g d : EReal) := by
  rw [raw_v85]
  simp only [R.go, prob R, ← EReal.coe_mul, Fox.coe_sum]
  unfold Fox.Data.dv
  exact congrArg Real.toEReal (Finset.sum_congr rfl fun s _ => mul_comm _ _)

/-- The gradient of the keys. -/
theorem dk (g : Fin 6) (t : Fin 8192) (d : Fin 128) : val_main_v84 (F := Ideal) x0 x1 x2 x3 x4 (ix2 t (Fox.col g d)) = (D.dk t g d : EReal) := by
  rw [raw_v84, Fox.ofBits_scale, ← R.sc]
  simp only [R.q, dlogit R, ← EReal.coe_mul, Fox.coe_sum]
  unfold Fox.Data.dk
  rw [Finset.sum_mul]
  exact congrArg Real.toEReal (Finset.sum_congr rfl fun s _ => by ring)

/-- The gradient of the columns' gates. -/
theorem dc (g : Fin 6) (t : Fin 8192) : val_main_v86 (F := Ideal) x0 x1 x2 x3 x4 (ix3 g 0 t) = (D.dc g t : EReal) := by
  rw [raw_v86]
  simp only [dlogit R, ← EReal.coe_neg, Fox.coe_sum]
  unfold Fox.Data.dc
  rw [Finset.sum_neg_distrib]

end Cert.DkvRefIdeal.Real
-- ==== Proof.FoxFinite.lean ====
/-
  THE PRECONDITION OF THE ATTENTION'S GRADIENTS: arguments that are finite hold real data.
-/
module

public import proofs.«01_k».proof.Proof.FoxIdeal
public import proofs.«01_k».proof.Proof.Gen.Pre_fox_dkv_finite
public import Idealize.ShloMosaic.Lib.Pointwise

@[expose] public section

noncomputable section

namespace Fox

open Idealize.ShloMosaic

theorem ofBits_inf : Ideal.ofBits .f32 0x7F800000#32 = ⊤ := by
  simp [Ideal.ofBits, Ideal.ieee]

/-- The test that the absolute value is below `+∞`. -/
def test (x : EReal) : BitVec 1 := Ideal.cmp .olt (max x (-x)) (Ideal.ofBits .f32 0x7F800000#32)

/-- An extended real that passes the test is a real. -/
theorem real_of_test {x : EReal} (h : test x = 1#1) : x = ((x.toReal : ℝ) : EReal) := by
  unfold test at h
  rw [ofBits_inf] at h
  induction x using EReal.rec with
  | bot => simp [Ideal.cmp] at h
  | coe r => rfl
  | top => simp [Ideal.cmp] at h

theorem both {a b : BitVec 1} (h : a &&& b = 1#1) : a = 1#1 ∧ b = 1#1 := by
  revert a b; decide

open Cert.Pre_fox_dkv_finite in
/-- The precondition at one element is five tests. -/
theorem fn_apply (x0 : FVec Ideal S8192x1024 .bf16) (x1 x2 : FVec Ideal S8192x768 .bf16) (x3 : FVec Ideal S6x8192 .f32) (x4 : FVec Ideal S8192x1024 .f32)
    (s : Fin 8192) (g : Fin 6) (d : Fin 128) :
    fn (F := Ideal) x0 x1 x2 x3 x4 (ix2 s (col g d))
      = test (x3 (ix2 g s)) &&& test (x0 (ix2 s (colP g d))) &&& test (x1 (ix2 s (col g d))) &&& test (x2 (ix2 s (col g d))) &&& test (x4 (ix2 s (colP g d))) := by
  pointwise [fn, fn_part1, test, col, colP]
  rfl

open Cert.Pre_fox_dkv_finite in
/-- Arguments that satisfy the precondition hold real data. -/
theorem reads_of_finite (x0 : FVec Ideal S8192x1024 .bf16) (x1 x2 : FVec Ideal S8192x768 .bf16) (x3 : FVec Ideal S6x8192 .f32) (x4 : FVec Ideal S8192x1024 .f32)
    (h : fn (F := Ideal) x0 x1 x2 x3 x4 = fun _ => 1#1) : ∃ D : Data, Reads D x0 x4 x1 x2 x3 := by
  have key : ∀ s g d, test (x3 (ix2 g s)) &&& test (x0 (ix2 s (colP g d))) &&& test (x1 (ix2 s (col g d))) &&& test (x2 (ix2 s (col g d))) &&& test (x4 (ix2 s (colP g d))) = 1#1 :=
    fun s g d => (fn_apply x0 x1 x2 x3 x4 s g d).symm.trans (congrFun h _)
  exact ⟨⟨fun s g d => (x0 (ix2 s (colP g d))).toReal, fun s g d => (x1 (ix2 s (col g d))).toReal, fun s g d => (x2 (ix2 s (col g d))).toReal,
      fun g s => (x3 (ix2 g s)).toReal, fun s g d => (x4 (ix2 s (colP g d))).toReal, scale⟩,
    fun s g d => real_of_test (both (both (both (both (key s g d)).1).1).1).2,
    fun s g d => real_of_test (both (both (both (key s g d)).1).1).2,
    fun s g d => real_of_test (both (both (key s g d)).1).2,
    fun g s => real_of_test (both (both (both (both (key s g 0)).1).1).1).1,
    fun s g d => real_of_test (both (key s g d)).2, rfl⟩

end Fox
-- ==== Proof.DkvClaims.lean ====
/-
  THE CLAIMS ABOUT THE GRADIENTS OF THE ATTENTION'S KEYS, VALUES AND GATES, assembled.
-/
module

public import proofs.«01_k».proof.Defs
public import proofs.«01_k».proof.Proof.DkvArray
public import proofs.«01_k».proof.Proof.DkvRef
public import proofs.«01_k».proof.Proof.FoxFinite
public import proofs.«01_k».proof.Proof.Gen.Dkv.Frame
public import proofs.«01_k».proof.Proof.Gen.DkvIdeal.Value
public import proofs.«01_k».proof.Proof.Gen.DkvRefIdeal.Run
public import proofs.«01_k».proof.Proof.Gen.DkvRefIdeal.Read
public import proofs.«01_k».proof.Proof.Gen.DkvSavedIdeal.Run
public import Idealize.ShloMosaic.Adequacy
public import Idealize.ShloMosaic.Init

@[expose] public section

noncomputable section

namespace Cert.Proof.DkvClaims

open Idealize.ShloMosaic Idealize.SL.Sem

/-- The kernel's frame. -/
theorem frame_kernel : Cert.quiescent_Dkv := fun m ρ _ => Cert.Dkv.Gen.frame m ρ
/-- The ideal kernel's frame. -/
theorem frame_ideal : Cert.quiescent_DkvIdeal := fun m ρ _ => Cert.DkvIdeal.Gen.frame m ρ
/-- The ideal kernel's frame under the precondition. -/
theorem frame_ideal_pre : Cert.quiescent_DkvIdeal_pre_fox_dkv_finite := fun m ρ _ => Cert.DkvIdeal.Gen.frame m ρ

/-- The reference's frame. -/
theorem frame_ref : Cert.quiescent_DkvRefIdeal := fun m ρ _ =>
  (θ_run Cert.DkvRefIdeal.defs _ _).mono (fun r h => ⟨fun c => (h c).2.2.2, sem_eq_zero_of_no_sems (by decide) r.2⟩)
    (Cert.DkvRefIdeal.Value.run (F := Ideal) m ρ)
/-- The reference's frame under the precondition. -/
theorem frame_ref_pre : Cert.quiescent_DkvRefIdeal_pre_fox_dkv_finite := fun m ρ _ => frame_ref m ρ trivial
/-- The frame of the program of the saved values. -/
theorem frame_saved : Cert.quiescent_DkvSavedIdeal := fun m ρ _ =>
  (θ_run Cert.DkvSavedIdeal.defs _ _).mono (fun r h => ⟨fun c => (h c).2.2.2, sem_eq_zero_of_no_sems (by decide) r.2⟩)
    (Cert.DkvSavedIdeal.Value.run (F := Ideal) m ρ)

/-- The ideal program is the kernel with its two constants named. -/
theorem preserves : Cert.preserves_Dkv_DkvIdeal :=
  ⟨IdealRules.named_const.statement _ _ _ _ _ rfl, IdealRules.named_const.statement _ _ _ _ _ rfl⟩

/-- Kernel and reference compute the same gradients. -/
theorem algebraic : Cert.algebraic_DkvIdeal_DkvRefIdeal_pre_fox_dkv_finite := by
  intro m ρ m' ρ' hpre hagree
  refine ⟨fun c => (Cert.DkvIdeal.Gen.dats m 0 c).arrAt 7 Cert.DkvIdeal.cfg0.N, fun c => (Cert.DkvIdeal.Gen.dats m 0 c).arrAt 8 Cert.DkvIdeal.cfg0.N,
    fun c => (Cert.DkvIdeal.Gen.dats m 0 c).arrAt 9 Cert.DkvIdeal.cfg0.N, Cert.DkvIdeal.Value.run_blocks (F := Ideal) m ρ, ?_⟩
  refine (θ_run Cert.DkvRefIdeal.defs _ _).mono (fun r h c => ?_) (Cert.DkvRefIdeal.Value.run (F := Ideal) m' ρ')
  obtain ⟨e0, e1, e2, e3, e4⟩ := hagree c
  obtain ⟨D, R⟩ := Fox.reads_of_finite _ _ _ _ _ (hpre c)
  obtain ⟨h1, h2, h3, hrest⟩ := h c
  refine ⟨h1.trans ?_, h2.trans ?_, h3.trans ?_, hrest⟩
  · rw [Cert.DkvRefIdeal.Read.val_main_v84_eq, e0, e1, e2, e3, e4]
    exact (Cert.DkvIdeal.Real.array_dk R _ fun g t d => Cert.DkvRefIdeal.Real.dk R g t d).symm
  · rw [Cert.DkvRefIdeal.Read.val_main_v85_eq, e0, e1, e3, e4]
    exact (Cert.DkvIdeal.Real.array_dv R _ fun g t d => Cert.DkvRefIdeal.Real.dv R g t d).symm
  · rw [Cert.DkvRefIdeal.Read.val_main_v86_eq, e0, e1, e2, e3, e4]
    exact (Cert.DkvIdeal.Real.array_dc R _ fun g t => Cert.DkvRefIdeal.Real.dc R g t).symm

end Cert.Proof.DkvClaims
-- ==== Proof.FfnMath.lean ====
/-
  THE GRADIENTS OF A HALF-STEP FEED-FORWARD LAYER, over the extended reals.

  `Layer` is what the layer reads: the rows `h` of the stream, the cotangent `go` of the layer's result, the norm's gain, and the
  weights, the hidden units in four shards of 704. The definitions below it are the layer's values and gradients at coordinates;
  `dgate` is the gradient at the gate as a product, `dgateSum` as the sum that the chain rule gives. The two agree where the
  gradient at the gate's activation is a real, whatever the gate is.
-/
module

public import proofs.«01_k».proof.Proof.FoxIdeal
public import Idealize.ShloMosaic.Lib.Pipeline.ValueKit

@[expose] public section

noncomputable section

namespace Ffn

open Idealize.ShloMosaic
open scoped BigOperators

/-- What a feed-forward layer's gradients are made of. -/
structure Layer where
  /-- the stream -/
  h : Fin 8192 → Fin 1024 → EReal
  /-- the cotangent of the layer's result -/
  go : Fin 8192 → Fin 1024 → EReal
  /-- the norm's gain -/
  gain : Fin 1024 → EReal
  /-- the gate's weights -/
  wg : Fin 4 → Fin 1024 → Fin 704 → EReal
  /-- the weights of the up product -/
  wu : Fin 4 → Fin 1024 → Fin 704 → EReal
  /-- the weights of the down product -/
  wd : Fin 4 → Fin 704 → Fin 1024 → EReal

/-- The reciprocal root mean square of a row. -/
def rms (x : Fin 1024 → EReal) : EReal :=
  Ideal.rsqrt (Ideal.div (∑ k, x k * x k) (Ideal.ofBits .f32 0x44800000#32) + Ideal.ofBits .f32 0x358637BD#32)

/-- The logistic function. -/
def sig (x : EReal) : EReal := Ideal.div 1 (1 + Ideal.exp (-x))

namespace Layer
variable (D : Layer)

/-- The normed stream. -/
def n (s : Fin 8192) (k : Fin 1024) : EReal := D.h s k * rms (D.h s) * D.gain k
/-- The gate. -/
def gate (t : Fin 4) (s : Fin 8192) (f : Fin 704) : EReal := ∑ k, D.n s k * D.wg t k f
/-- The up product. -/
def up (t : Fin 4) (s : Fin 8192) (f : Fin 704) : EReal := ∑ k, D.n s k * D.wu t k f
/-- Half the cotangent. -/
def dy (s : Fin 8192) (k : Fin 1024) : EReal := Ideal.ofBits .f32 0x3F000000#32 * D.go s k
/-- The gradient at the hidden units. -/
def da (t : Fin 4) (s : Fin 8192) (f : Fin 704) : EReal := ∑ k, D.dy s k * D.wd t f k
/-- The gate's activation. -/
def act (t : Fin 4) (s : Fin 8192) (f : Fin 704) : EReal := D.gate t s f * sig (D.gate t s f)
/-- The gradient at the up product. -/
def dup (t : Fin 4) (s : Fin 8192) (f : Fin 704) : EReal := D.da t s f * D.act t s f
/-- The gradient at the gate, as a product. -/
def dgate (t : Fin 4) (s : Fin 8192) (f : Fin 704) : EReal :=
  D.da t s f * D.up t s f * (sig (D.gate t s f) * (1 + D.gate t s f * (1 - sig (D.gate t s f))))
/-- The gradient at the gate, as the sum of the chain rule. -/
def dgateSum (t : Fin 4) (s : Fin 8192) (f : Fin 704) : EReal :=
  D.da t s f * D.up t s f * sig (D.gate t s f)
    + D.gate t s f * (D.da t s f * D.up t s f) * (sig (D.gate t s f) * (1 - sig (D.gate t s f)))
/-- The gradient at the normed stream, a shard's part. -/
def dn (t : Fin 4) (s : Fin 8192) (k : Fin 1024) : EReal := ∑ f, D.dgate t s f * D.wg t k f + ∑ f, D.dup t s f * D.wu t k f
/-- The gradient of the gate's weights. -/
def dwg (t : Fin 4) (k : Fin 1024) (f : Fin 704) : EReal := ∑ s, D.n s k * D.dgate t s f
/-- The gradient of the up weights. -/
def dwu (t : Fin 4) (k : Fin 1024) (f : Fin 704) : EReal := ∑ s, D.n s k * D.dup t s f
/-- The gradient of the down weights. -/
def dwd (t : Fin 4) (f : Fin 704) (k : Fin 1024) : EReal := ∑ s, D.act t s f * D.up t s f * D.dy s k

end Layer

/-- The gate's shard among the eight of the two products' weights. -/
def gateShard (t : Fin 4) : Fin 8 := ⟨t.val, by omega⟩
/-- The up product's shard among the eight. -/
def upShard (t : Fin 4) : Fin 8 := ⟨4 + t.val, by omega⟩
/-- Hidden unit `f` of shard `t` among all. -/
def hidden (t : Fin 4) (f : Fin 704) : Fin 2816 := ⟨t.val * 704 + f.val, by omega⟩

/-- The layer that a launch's arguments hold: the stream, the cotangent, the gain, and layer 0 of the weights. -/
def layer (x0 x1 : (⟨2, ![8192, 1024]⟩ : Shape).Idx → EReal) (x2 : (⟨2, ![1, 1024]⟩ : Shape).Idx → EReal)
    (x3 : (⟨4, ![8, 4, 1024, 704]⟩ : Shape).Idx → EReal) (x4 : (⟨3, ![4, 2816, 1024]⟩ : Shape).Idx → EReal) : Layer where
  h s k := x0 (ix2 s k)
  go s k := x1 (ix2 s k)
  gain k := x2 (ix2 (0 : Fin 1) k)
  wg t k f := x3 (ix4 (gateShard t) (0 : Fin 4) k f)
  wu t k f := x3 (ix4 (upShard t) (0 : Fin 4) k f)
  wd t f k := x4 (ix3 (0 : Fin 4) (hidden t f) k)

/-! ## The gradient at the gate -/

/-- The logistic function's value at a real is a real. -/
theorem sig_coe (x : ℝ) : sig (x : EReal) = ((1 / (1 + Real.exp (-x)) : ℝ) : EReal) := by
  unfold sig
  rw [← EReal.coe_neg, Ideal.exp_coe, show (1 : EReal) = ((1 : ℝ) : EReal) from rfl, ← EReal.coe_add,
    Fox.div_real _ _ (by positivity)]

theorem sig_top : sig ⊤ = 1 := by
  unfold sig
  rw [EReal.neg_top, Ideal.exp_bot, add_zero, show (1 : EReal) = ((1 : ℝ) : EReal) from rfl, Fox.div_real _ _ one_ne_zero, div_one]

theorem sig_bot : sig ⊥ = 0 := by
  unfold sig
  rw [EReal.neg_bot, Ideal.exp_top, show (1 : EReal) = ((1 : ℝ) : EReal) from rfl, EReal.coe_add_top]
  simp [Ideal.div]

/-- Both forms of the gradient at the gate agree at every gate, for a real gradient at the activation. -/
theorem gate_grad (d : ℝ) (g : EReal) :
    (d : EReal) * (sig g * (1 + g * (1 - sig g))) = d * sig g + g * d * (sig g * (1 - sig g)) := by
  have one : (1 : EReal) = ((1 : ℝ) : EReal) := rfl
  induction g using EReal.rec with
  | bot => rw [sig_bot]; simp
  | top =>
    rw [sig_top]
    have : (1 : EReal) - 1 = 0 := by rw [one, ← EReal.coe_sub, sub_self]; rfl
    rw [this]; simp
  | coe x =>
    rw [sig_coe, one]
    simp only [← EReal.coe_sub, ← EReal.coe_mul, ← EReal.coe_add]
    congr 1
    ring

/-! ## Reals -/

/-- A sum of products of reals is a real. -/
theorem sum_real {n : ℕ} {x y : Fin n → EReal} (hx : ∀ k, ∃ r : ℝ, x k = r) (hy : ∀ k, ∃ r : ℝ, y k = r) : ∃ r : ℝ, ∑ k, x k * y k = r := by
  choose a ha using hx
  choose b hb using hy
  refine ⟨∑ k, a k * b k, ?_⟩
  rw [← Fox.coe_sum]
  exact Finset.sum_congr rfl fun k _ => by rw [ha, hb, EReal.coe_mul]

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem ofBits_1024 : Ideal.ofBits .f32 0x44800000#32 = ((1024 : ℝ) : EReal) := by
  simp [Ideal.ofBits, Ideal.ieee, -EReal.coe_mul]; norm_num
theorem ofBits_eps : ∃ e : ℝ, 0 < e ∧ Ideal.ofBits .f32 0x358637BD#32 = (e : EReal) := by
  refine ⟨_, ?_, by simp [Ideal.ofBits, Ideal.ieee, -EReal.coe_mul]; rfl⟩
  positivity
theorem ofBits_half : Ideal.ofBits .f32 0x3F000000#32 = ((1 / 2 : ℝ) : EReal) := by
  simp [Ideal.ofBits, Ideal.ieee, -EReal.coe_mul]; norm_num

theorem sq_nonneg (x : EReal) : 0 ≤ x * x := by
  induction x using EReal.rec with
  | bot => simp
  | coe r => rw [← EReal.coe_mul]; exact EReal.coe_nonneg.mpr (mul_self_nonneg r)
  | top => simp

/-- The normed entries of a row are reals, whatever the row. -/
theorem normed_real (x : Fin 1024 → EReal) (k : Fin 1024) : ∃ r : ℝ, x k * rms x = r := by
  obtain ⟨e, he, ee⟩ := ofBits_eps
  have h0 : 0 ≤ ∑ k, x k * x k := Finset.sum_nonneg fun k _ => sq_nonneg _
  have hk : x k * x k ≤ ∑ k, x k * x k := Finset.single_le_sum (f := fun k => x k * x k) (fun k _ => sq_nonneg _) (Finset.mem_univ k)
  unfold rms
  rw [ofBits_1024, ee]
  generalize ∑ k, x k * x k = M at h0 hk
  induction M using EReal.rec with
  | bot => simp at h0
  | top =>
    refine ⟨0, ?_⟩
    have : Ideal.div ⊤ ((1024 : ℝ) : EReal) = ⊤ := by
      unfold Ideal.div
      rw [if_neg (by exact_mod_cast (by norm_num : (1024 : ℝ) ≠ 0)), ← EReal.coe_inv]
      exact EReal.top_mul_coe_of_pos (by norm_num)
    rw [this, EReal.top_add_coe, Ideal.rsqrt_top, mul_zero, EReal.coe_zero]
  | coe M =>
    have hM : 0 ≤ M := EReal.coe_nonneg.mp h0
    rw [Fox.div_real _ _ (by norm_num), ← EReal.coe_add, Ideal.rsqrt_coe, if_neg (not_lt.mpr (by positivity)), if_neg (by positivity)]
    refine mul_real ?_ ⟨_, rfl⟩
    generalize x k = y at hk
    induction y using EReal.rec with
    | bot => simp at hk
    | top => simp at hk
    | coe r => exact ⟨r, rfl⟩

/-- The two forms of the gradient at the gate agree for a real gain, cotangent, up and down weights. -/
theorem Layer.dgateSum_eq (D : Layer) (hg : ∀ k, ∃ r : ℝ, D.gain k = r) (hgo : ∀ s k, ∃ r : ℝ, D.go s k = r)
    (hu : ∀ t k f, ∃ r : ℝ, D.wu t k f = r) (hd : ∀ t f k, ∃ r : ℝ, D.wd t f k = r) (t : Fin 4) (s : Fin 8192) (f : Fin 704) :
    D.dgateSum t s f = D.dgate t s f := by
  have hup : ∃ r : ℝ, D.up t s f = r := sum_real (fun k => mul_real (normed_real _ k) (hg k)) fun k => hu t k f
  have hda : ∃ r : ℝ, D.da t s f = r := sum_real (fun k => mul_real ⟨_, ofBits_half⟩ (hgo s k)) fun k => hd t f k
  obtain ⟨d, e⟩ := mul_real hda hup
  unfold Layer.dgateSum Layer.dgate
  rw [e]
  exact (gate_grad d _).symm

/-! ## Sums over the blocks of 512 rows -/

/-- The sum of `g` over the rows of block `i`. -/
def blockSum (g : Fin 8192 → EReal) (i : ℕ) : EReal := ∑ r : Fin 512, if h : i * 512 + r.val < 8192 then g ⟨i * 512 + r.val, h⟩ else 0
/-- The sum of `g` over the rows of the first `n` blocks. -/
def upTo (g : Fin 8192 → EReal) (n : ℕ) : EReal := ∑ i ∈ Finset.range n, blockSum g i

theorem upTo_succ (g : Fin 8192 → EReal) (n : ℕ) : upTo g (n + 1) = upTo g n + blockSum g n := Finset.sum_range_succ _ _
theorem upTo_one (g : Fin 8192 → EReal) : upTo g (0 + 1) = 0 + blockSum g 0 := by rw [upTo_succ]; rfl

/-- The rows of the sixteen blocks are all rows. -/
theorem upTo_all (g : Fin 8192 → EReal) : upTo g 16 = ∑ s, g s := by
  unfold upTo blockSum
  have e : ∀ i : ℕ, (∑ r : Fin 512, if h : i * 512 + r.val < 8192 then g ⟨i * 512 + r.val, h⟩ else 0)
      = ∑ r ∈ Finset.range 512, (fun n : ℕ => if h : n < 8192 then g ⟨n, h⟩ else 0) (i * 512 + r) := fun i =>
    Fin.sum_univ_eq_sum_range (fun r => (fun n : ℕ => if h : n < 8192 then g ⟨n, h⟩ else 0) (i * 512 + r)) 512
  simp only [e]
  have e2 := Finset.sum_range_mul_split 16 512 (fun n : ℕ => if h : n < 8192 then g ⟨n, h⟩ else 0)
  rw [← e2, show 16 * 512 = 8192 from rfl, ← Fin.sum_univ_eq_sum_range]
  exact Finset.sum_congr rfl fun s _ => by rw [dif_pos s.isLt]

end Ffn
-- ==== Proof.FfnTile.lean ====
/-
  WHAT ONE TILE OF THE FEED-FORWARD GRADIENT KERNEL LEAVES IN ITS FOUR OUTPUT BLOCKS.

  The grid walks, for each shard of 704 hidden units, the sixteen blocks of 512 rows. `x0` and `x1` are the blocks of the stream and
  of the cotangent, `x2` the gain, `x3` and `x4` the saved gate and up product, `x5`, `x6` and `x7` the shard's gate, up and down
  weights. Output 8 is the block's own gradient of the normed stream; the other three add the block's rows to what they hold, the
  first block of rows to zero.
-/
module

public import proofs.«01_k».proof.Proof.FfnMath
public import proofs.«01_k».proof.Proof.Gen.FfnIdeal.Value
public import Idealize.ShloMosaic.Lib.Pointwise

@[expose] public section

set_option maxRecDepth 16384

noncomputable section

namespace Cert.FfnIdeal.Tile

open Cert.FfnIdeal Cert.FfnIdeal.Gen Idealize.ShloMosaic Idealize.ShloMosaic.TcCoe Idealize.ShloMosaic.Tactic
open scoped BigOperators

/-! ## One tile -/

variable (x0 x1 : Vec Ideal S512x1024 .f32) (x2 : Vec Ideal S1x1024 .f32) (x3 x4 : Vec Ideal S1x512x704 .bf16)
  (x5 x6 : Vec Ideal S1x1x1024x704 .bf16) (x7 : Vec Ideal S1x704x1024 .bf16)

/-- The normed stream. -/
def normed (r : Fin 512) (k : Fin 1024) : EReal :=
  x0 (ix2 r k) * Ideal.rsqrt (Ideal.div (∑ k, x0 (ix2 r k) * x0 (ix2 r k)) (Ideal.ofBits .f32 0x44800000#32) + Ideal.ofBits .f32 0x358637BD#32)
    * x2 (ix2 (0 : Fin 1) k)
/-- Half the cotangent. -/
def half (r : Fin 512) (k : Fin 1024) : EReal := Ideal.ofBits .f32 0x3F000000#32 * x1 (ix2 r k)
/-- The gradient at the hidden units. -/
def dact (r : Fin 512) (f : Fin 704) : EReal := ∑ k, half x1 r k * x7 (ix3 (0 : Fin 1) f k)
/-- The logistic function of the gate. -/
def logistic (r : Fin 512) (f : Fin 704) : EReal :=
  Ideal.div (Ideal.ofBits .f32 0x3F800000#32) (Ideal.ofBits .f32 0x3F800000#32 + Ideal.exp (Ideal.ofBits .f32 0x00000000#32 - x3 (ix3 (0 : Fin 1) r f)))
/-- The gradient at the gate. -/
def dgate (r : Fin 512) (f : Fin 704) : EReal :=
  dact x1 x7 r f * x4 (ix3 (0 : Fin 1) r f) * (logistic x3 r f
    * (Ideal.ofBits .f32 0x3F800000#32 + x3 (ix3 (0 : Fin 1) r f) * (Ideal.ofBits .f32 0x3F800000#32 - logistic x3 r f)))
/-- The gradient of the normed stream. -/
def outN (r : Fin 512) (k : Fin 1024) : EReal :=
  ∑ f, dgate x1 x3 x4 x7 r f * x5 (ix4 (0 : Fin 1) (0 : Fin 1) k f)
    + ∑ f, dact x1 x7 r f * (x3 (ix3 (0 : Fin 1) r f) * logistic x3 r f) * x6 (ix4 (0 : Fin 1) (0 : Fin 1) k f)
/-- What a tile adds to the gradient of the gate's weights. -/
def addG (k : Fin 1024) (f : Fin 704) : EReal := ∑ r, normed x0 x2 r k * dgate x1 x3 x4 x7 r f
/-- What a tile adds to the gradient of the up weights. -/
def addU (k : Fin 1024) (f : Fin 704) : EReal :=
  ∑ r, normed x0 x2 r k * (dact x1 x7 r f * (x3 (ix3 (0 : Fin 1) r f) * logistic x3 r f))
/-- What a tile adds to the gradient of the down weights. -/
def addD (f : Fin 704) (k : Fin 1024) : EReal :=
  ∑ r, x3 (ix3 (0 : Fin 1) r f) * logistic x3 r f * x4 (ix3 (0 : Fin 1) r f) * half x1 r k

/-! ## A tile of a layer -/

/-- The tile's blocks hold the layer `D` at shard `u` and the rows `s`. -/
structure Reads (D : Ffn.Layer) (u : Fin 4) (s : Fin 512 → Fin 8192) : Prop where
  h : ∀ r k, x0 (ix2 r k) = D.h (s r) k
  go : ∀ r k, x1 (ix2 r k) = D.go (s r) k
  gain : ∀ k, x2 (ix2 (0 : Fin 1) k) = D.gain k
  gate : ∀ r f, x3 (ix3 (0 : Fin 1) r f) = D.gate u (s r) f
  up : ∀ r f, x4 (ix3 (0 : Fin 1) r f) = D.up u (s r) f
  wg : ∀ k f, x5 (ix4 (0 : Fin 1) (0 : Fin 1) k f) = D.wg u k f
  wu : ∀ k f, x6 (ix4 (0 : Fin 1) (0 : Fin 1) k f) = D.wu u k f
  wd : ∀ f k, x7 (ix3 (0 : Fin 1) f k) = D.wd u f k

namespace Reads
variable {x0 x1 x2 x3 x4 x5 x6 x7} {D : Ffn.Layer} {u : Fin 4} {s : Fin 512 → Fin 8192} (R : Reads x0 x1 x2 x3 x4 x5 x6 x7 D u s)
include R

theorem normed_eq (r : Fin 512) (k : Fin 1024) : normed x0 x2 r k = D.n (s r) k := by
  unfold normed
  simp only [R.h, R.gain]
  rfl
theorem half_eq (r : Fin 512) (k : Fin 1024) : half x1 r k = D.dy (s r) k := by
  unfold half
  rw [R.go]
  rfl
theorem dact_eq (r : Fin 512) (f : Fin 704) : dact x1 x7 r f = D.da u (s r) f := by
  unfold dact
  simp only [R.half_eq, R.wd]
  rfl
theorem logistic_eq (r : Fin 512) (f : Fin 704) : logistic x3 r f = Ffn.sig (D.gate u (s r) f) := by
  unfold logistic Ffn.sig
  rw [R.gate, Ideal.ofBits_one_f32, Ideal.ofBits_zero_f32, zero_sub]
theorem dgate_eq (r : Fin 512) (f : Fin 704) : dgate x1 x3 x4 x7 r f = D.dgate u (s r) f := by
  unfold dgate
  rw [R.dact_eq, R.logistic_eq, R.gate, R.up, Ideal.ofBits_one_f32]
  rfl
/-- The stream's gradient. -/
theorem outN (r : Fin 512) (k : Fin 1024) : Tile.outN x1 x3 x4 x5 x6 x7 r k = D.dn u (s r) k := by
  unfold Tile.outN
  simp only [R.dgate_eq, R.dact_eq, R.logistic_eq, R.gate, R.wg, R.wu]
  rfl
/-- The rows' part of the gate weights' gradient. -/
theorem addG (k : Fin 1024) (f : Fin 704) : Tile.addG x0 x1 x2 x3 x4 x7 k f = ∑ r, D.n (s r) k * D.dgate u (s r) f := by
  unfold Tile.addG
  simp only [R.dgate_eq, R.normed_eq]
/-- The rows' part of the up weights' gradient. -/
theorem addU (k : Fin 1024) (f : Fin 704) : Tile.addU x0 x1 x2 x3 x7 k f = ∑ r, D.n (s r) k * D.dup u (s r) f := by
  unfold Tile.addU
  simp only [R.dact_eq, R.normed_eq, R.logistic_eq, R.gate]
  rfl
/-- The rows' part of the down weights' gradient. -/
theorem addD (f : Fin 704) (k : Fin 1024) : Tile.addD x1 x3 x4 f k = ∑ r, D.act u (s r) f * D.up u (s r) f * D.dy (s r) k := by
  unfold Tile.addD
  simp only [R.half_eq, R.logistic_eq, R.gate, R.up]
  rfl

end Reads

/-! ## Stores of whole blocks -/

section Stores
variable {Val : EltTy → Type} {e : EltTy} [∀ e, Nonempty (Val e)]

/-- A store of the whole block of the stream's gradient is what the block holds. -/
theorem canon_n (inb : ∀ a, (![0, 0, 0] : Fin 3 → ℕ) a + (![1, 512, 1024] : Fin 3 → ℕ) a ≤ S1x512x1024.size a)
    (w : S1x512x1024.Idx → Val e) (L : List (View.Piece Val S1x512x1024 e)) :
    View.canon ((⟨Rect.unit ![0, 0, 0] ![1, 512, 1024] inb, w⟩ : View.Piece Val S1x512x1024 e) :: L) = w :=
  View.canon_cons_unit_zero (by funext a; fin_cases a <;> rfl) inb w L

/-- A store of a whole block of weights is what the block holds. -/
theorem canon_w (inb : ∀ a, (![0, 0, 0] : Fin 3 → ℕ) a + (![1, 1024, 704] : Fin 3 → ℕ) a ≤ S1x1024x704.size a)
    (w : S1x1024x704.Idx → Val e) (L : List (View.Piece Val S1x1024x704 e)) :
    View.canon ((⟨Rect.unit ![0, 0, 0] ![1, 1024, 704] inb, w⟩ : View.Piece Val S1x1024x704 e) :: L) = w :=
  View.canon_cons_unit_zero (by funext a; fin_cases a <;> rfl) inb w L

/-- A store of the whole block of down weights is what the block holds. -/
theorem canon_d (inb : ∀ a, (![0, 0] : Fin 2 → ℕ) a + (![704, 1024] : Fin 2 → ℕ) a ≤ S704x1024.size a)
    (w : S704x1024.Idx → Val e) (L : List (View.Piece Val S704x1024 e)) :
    View.canon ((⟨Rect.unit ![0, 0] ![704, 1024] inb, w⟩ : View.Piece Val S704x1024 e) :: L) = w :=
  View.canon_cons_unit_zero (by funext a; fin_cases a <;> rfl) inb w L

end Stores

variable (c : Dev nD) (i : grid0.Coords)
variable (arg2 : Memref sig .tc .vmem S512x1024 .f32) (harg2 : arg2.IsWhole)
variable (arg3 : Memref sig .tc .vmem S512x1024 .f32) (harg3 : arg3.IsWhole)
variable (arg4 : Memref sig .tc .vmem S1x1024 .f32) (harg4 : arg4.IsWhole)
variable (arg5 : Memref sig .tc .vmem S1x512x704 .bf16) (harg5 : arg5.IsWhole)
variable (arg6 : Memref sig .tc .vmem S1x512x704 .bf16) (harg6 : arg6.IsWhole)
variable (arg7 : Memref sig .tc .vmem S1x1x1024x704 .bf16) (harg7 : arg7.IsWhole)
variable (arg8 : Memref sig .tc .vmem S1x1x1024x704 .bf16) (harg8 : arg8.IsWhole)
variable (arg9 : Memref sig .tc .vmem S1x704x1024 .bf16) (harg9 : arg9.IsWhole)
variable (arg10 : Memref sig .tc .vmem S1x512x1024 .bf16) (harg10 : arg10.IsWhole)
variable (arg11 : Memref sig .tc .vmem S1x1024x704 .f32) (harg11 : arg11.IsWhole)
variable (arg12 : Memref sig .tc .vmem S1x1024x704 .f32) (harg12 : arg12.IsWhole)
variable (arg13 : Memref sig .tc .vmem S704x1024 .f32) (harg13 : arg13.IsWhole)
variable (xo9 xo10 : Vec Ideal S1x1024x704 .f32) (xo11 : Vec Ideal S704x1024 .f32)

/-- The first block of rows: the gradient of the normed stream. -/
theorem out_A_8 (hc0 : cond0_0 i) (r : Fin 512) (k : Fin 1024) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix3 (0 : Fin 1) r k) = outN x1 x3 x4 x5 x6 x7 r k := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.readCov_eq_canon']
  rw [canon_n]
  pointwise [canon_n, canon_w, canon_d, outN, addG, addU, addD, normed, half, dact, logistic, dgate, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  try simp only [zero_add]
  try rfl

/-- The first block of rows: the gradient of the gate's weights. -/
theorem out_A_9 (hc0 : cond0_0 i) (k : Fin 1024) (f : Fin 704) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix3 (0 : Fin 1) k f) = 0 + addG x0 x1 x2 x3 x4 x7 k f := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.readCov_eq_canon']
  rw [canon_w]
  pointwise [canon_n, canon_w, canon_d, outN, addG, addU, addD, normed, half, dact, logistic, dgate, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  try simp only [zero_add]
  try rfl

/-- The first block of rows: the gradient of the up weights. -/
theorem out_A_10 (hc0 : cond0_0 i) (k : Fin 1024) (f : Fin 704) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix3 (0 : Fin 1) k f) = 0 + addU x0 x1 x2 x3 x7 k f := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.readCov_eq_canon']
  rw [canon_w]
  pointwise [canon_n, canon_w, canon_d, outN, addG, addU, addD, normed, half, dact, logistic, dgate, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  try simp only [zero_add]
  try rfl

/-- The first block of rows: the gradient of the down weights. -/
theorem out_A_11 (hc0 : cond0_0 i) (f : Fin 704) (k : Fin 1024) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 f k) = 0 + addD x1 x3 x4 f k := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.readCov_eq_canon']
  rw [canon_d]
  pointwise [canon_n, canon_w, canon_d, outN, addG, addU, addD, normed, half, dact, logistic, dgate, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  try simp only [zero_add]
  try rfl

/-- A later block of rows: the gradient of the normed stream. -/
theorem out_B_8 (hc0 : ¬cond0_0 i) (r : Fin 512) (k : Fin 1024) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 (ix3 (0 : Fin 1) r k) = outN x1 x3 x4 x5 x6 x7 r k := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.readCov_eq_canon']
  rw [canon_n]
  pointwise [canon_n, canon_w, canon_d, outN, addG, addU, addD, normed, half, dact, logistic, dgate, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  try simp only [zero_add]
  try rfl

/-- A later block of rows: the gradient of the gate's weights. -/
theorem out_B_9 (hc0 : ¬cond0_0 i) (k : Fin 1024) (f : Fin 704) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 (ix3 (0 : Fin 1) k f) = xo9 (ix3 (0 : Fin 1) k f) + addG x0 x1 x2 x3 x4 x7 k f := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.readCov_eq_canon']
  rw [canon_w]
  pointwise [canon_n, canon_w, canon_d, outN, addG, addU, addD, normed, half, dact, logistic, dgate, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  try simp only [zero_add]
  try rfl

/-- A later block of rows: the gradient of the up weights. -/
theorem out_B_10 (hc0 : ¬cond0_0 i) (k : Fin 1024) (f : Fin 704) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 (ix3 (0 : Fin 1) k f) = xo10 (ix3 (0 : Fin 1) k f) + addU x0 x1 x2 x3 x7 k f := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.readCov_eq_canon']
  rw [canon_w]
  pointwise [canon_n, canon_w, canon_d, outN, addG, addU, addD, normed, half, dact, logistic, dgate, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  try simp only [zero_add]
  try rfl

/-- A later block of rows: the gradient of the down weights. -/
theorem out_B_11 (hc0 : ¬cond0_0 i) (f : Fin 704) (k : Fin 1024) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11 (ix2 f k) = xo11 (ix2 f k) + addD x1 x3 x4 f k := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo9 xo10 xo11)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, View.readCov_eq_canon']
  rw [canon_d]
  pointwise [canon_n, canon_w, canon_d, outN, addG, addU, addD, normed, half, dact, logistic, dgate, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19]
  try simp only [zero_add]
  try rfl

end Cert.FfnIdeal.Tile
-- ==== Proof.FfnRef.lean ====
/-
  WHAT THE REFERENCE COMPUTES: the vector-Jacobian product of the plain feed-forward layer, value by value, in the coordinates of
  `Ffn.Layer`; the gradient at the gate is the sum of the chain rule.
-/
module

public import proofs.«01_k».proof.Proof.FfnMath
public import proofs.«01_k».proof.Proof.Gen.FfnRefIdeal.Read
public import Idealize.ShloMosaic.Lib.Pointwise

@[expose] public section

set_option maxRecDepth 16384

noncomputable section

namespace Cert.FfnRefIdeal.Layer

open Cert.FfnRefIdeal Cert.FfnRefIdeal.Gen Cert.FfnRefIdeal.Read Idealize.ShloMosaic
open scoped BigOperators

/-! ### Where each operation reads -/

theorem at_v1 (s : Fin 8192) (k : Fin 1024) : idx_main_v1 (ix1 s) k = (ix2 s k) :=
  funext fun a => Fin.ext (by match a with
    | ⟨0, _⟩ => rfl
    | ⟨1, _⟩ => rfl)
theorem at_v2 (s : Fin 8192) : idx_main_v2 (ix2 s (0 : Fin 1)) = (ix1 s) :=
  funext fun a => Fin.ext (by match a with
    | ⟨0, _⟩ => rfl)
theorem at_v8 (s : Fin 8192) (k : Fin 1024) : idx_main_v8 (ix2 s k) = (ix2 s (0 : Fin 1)) :=
  funext fun a => Fin.ext (by match a with
    | ⟨0, _⟩ => rfl
    | ⟨1, _⟩ => rfl)
theorem at_v10 (s : Fin 8192) (k : Fin 1024) : idx_main_v10 (ix2 s k) = (ix2 (0 : Fin 1) k) :=
  funext fun a => Fin.ext (by match a with
    | ⟨0, _⟩ => rfl
    | ⟨1, _⟩ => rfl)
theorem at_v15 (t : Fin 4) (k : Fin 1024) (f : Fin 704) : idx_main_v15 (ix3 t k f) = (ix4 t (0 : Fin 1) k f) :=
  funext fun a => Fin.ext (by match a with
    | ⟨0, _⟩ => show ((t.val * 1024 + k.val) * 704 + f.val) / 720896 = t.val; omega
    | ⟨1, _⟩ => rfl
    | ⟨2, _⟩ => show ((t.val * 1024 + k.val) * 704 + f.val) / 704 % 1024 = k.val; omega
    | ⟨3, _⟩ => show ((t.val * 1024 + k.val) * 704 + f.val) % 704 = f.val; omega)
theorem at_v14 (t : Fin 4) (k : Fin 1024) (f : Fin 704) : idx_main_v14 (ix4 t (0 : Fin 1) k f) = (ix4 (Ffn.gateShard t) (0 : Fin 4) k f) :=
  funext fun a => Fin.ext (by match a with
    | ⟨0, _⟩ => rfl
    | ⟨1, _⟩ => rfl
    | ⟨2, _⟩ => rfl
    | ⟨3, _⟩ => rfl)
theorem at_v18 (t : Fin 4) (k : Fin 1024) (f : Fin 704) : idx_main_v18 (ix3 t k f) = (ix4 t (0 : Fin 1) k f) :=
  funext fun a => Fin.ext (by match a with
    | ⟨0, _⟩ => show ((t.val * 1024 + k.val) * 704 + f.val) / 720896 = t.val; omega
    | ⟨1, _⟩ => rfl
    | ⟨2, _⟩ => show ((t.val * 1024 + k.val) * 704 + f.val) / 704 % 1024 = k.val; omega
    | ⟨3, _⟩ => show ((t.val * 1024 + k.val) * 704 + f.val) % 704 = f.val; omega)
theorem at_v17 (t : Fin 4) (k : Fin 1024) (f : Fin 704) : idx_main_v17 (ix4 t (0 : Fin 1) k f) = (ix4 (Ffn.upShard t) (0 : Fin 4) k f) :=
  funext fun a => Fin.ext (by match a with
    | ⟨0, _⟩ => rfl
    | ⟨1, _⟩ => rfl
    | ⟨2, _⟩ => rfl
    | ⟨3, _⟩ => rfl)
theorem at_v23 (t : Fin 4) (f : Fin 704) (k : Fin 1024) : idx_main_v23 (ix3 t f k) = (ix2 (Ffn.hidden t f) k) :=
  funext fun a => Fin.ext (by match a with
    | ⟨0, _⟩ => show ((t.val * 704 + f.val) * 1024 + k.val) / 1024 = t.val * 704 + f.val; omega
    | ⟨1, _⟩ => show ((t.val * 704 + f.val) * 1024 + k.val) % 1024 = k.val; omega)
theorem at_v21 (t : Fin 4) (f : Fin 704) (k : Fin 1024) : idx_main_v21 (ix2 (Ffn.hidden t f) k) = (ix3 (0 : Fin 1) (Ffn.hidden t f) k) :=
  funext fun a => Fin.ext (by match a with
    | ⟨0, _⟩ => rfl
    | ⟨1, _⟩ => show ((t.val * 704 + f.val) * 1024 + k.val) / 1024 % 2816 = t.val * 704 + f.val; omega
    | ⟨2, _⟩ => show ((t.val * 704 + f.val) * 1024 + k.val) % 1024 = k.val; omega)
theorem at_v20 (t : Fin 4) (f : Fin 704) (k : Fin 1024) : idx_main_v20 (ix3 (0 : Fin 1) (Ffn.hidden t f) k) = (ix3 (0 : Fin 4) (Ffn.hidden t f) k) :=
  funext fun a => Fin.ext (by match a with
    | ⟨0, _⟩ => rfl
    | ⟨1, _⟩ => rfl
    | ⟨2, _⟩ => rfl)
theorem at_v24 (t : Fin 4) (s : Fin 8192) (k : Fin 1024) : idx_main_v24 (ix3 t s k) = (ix2 s k) :=
  funext fun a => Fin.ext (by match a with
    | ⟨0, _⟩ => rfl
    | ⟨1, _⟩ => rfl)
theorem at_l25 (t : Fin 4) (s : Fin 8192) (f : Fin 704) (k : Fin 1024) : lidx_main_v25 (ix3 t s f) k = (ix3 t s k) :=
  funext fun a => Fin.ext (by match a with
    | ⟨0, _⟩ => rfl
    | ⟨1, _⟩ => rfl
    | ⟨2, _⟩ => rfl)
theorem at_r25 (t : Fin 4) (s : Fin 8192) (f : Fin 704) (k : Fin 1024) : ridx_main_v25 (ix3 t s f) k = (ix3 t k f) :=
  funext fun a => Fin.ext (by match a with
    | ⟨0, _⟩ => rfl
    | ⟨1, _⟩ => rfl
    | ⟨2, _⟩ => rfl)
theorem at_l26 (t : Fin 4) (s : Fin 8192) (f : Fin 704) (k : Fin 1024) : lidx_main_v26 (ix3 t s f) k = (ix3 t s k) :=
  funext fun a => Fin.ext (by match a with
    | ⟨0, _⟩ => rfl
    | ⟨1, _⟩ => rfl
    | ⟨2, _⟩ => rfl)
theorem at_r26 (t : Fin 4) (s : Fin 8192) (f : Fin 704) (k : Fin 1024) : ridx_main_v26 (ix3 t s f) k = (ix3 t k f) :=
  funext fun a => Fin.ext (by match a with
    | ⟨0, _⟩ => rfl
    | ⟨1, _⟩ => rfl
    | ⟨2, _⟩ => rfl)
theorem at_l34 (t : Fin 4) (s : Fin 8192) (k : Fin 1024) (f : Fin 704) : lidx_main_v34 (ix3 k t f) s = (ix2 s k) :=
  funext fun a => Fin.ext (by match a with
    | ⟨0, _⟩ => rfl
    | ⟨1, _⟩ => rfl)
theorem at_r34 (t : Fin 4) (s : Fin 8192) (k : Fin 1024) (f : Fin 704) : ridx_main_v34 (ix3 k t f) s = (ix3 t s f) :=
  funext fun a => Fin.ext (by match a with
    | ⟨0, _⟩ => rfl
    | ⟨1, _⟩ => rfl
    | ⟨2, _⟩ => rfl)
theorem at_v35 (t : Fin 4) (f : Fin 704) (k : Fin 1024) : idx_main_v35 (ix3 t f k) = (ix3 k t f) :=
  funext fun a => Fin.ext (by match a with
    | ⟨0, _⟩ => rfl
    | ⟨1, _⟩ => rfl
    | ⟨2, _⟩ => rfl)
theorem at_l36 (t : Fin 4) (s : Fin 8192) (f : Fin 704) (k : Fin 1024) : lidx_main_v36 (ix3 s t f) k = (ix2 s k) :=
  funext fun a => Fin.ext (by match a with
    | ⟨0, _⟩ => rfl
    | ⟨1, _⟩ => rfl)
theorem at_r36 (t : Fin 4) (s : Fin 8192) (f : Fin 704) (k : Fin 1024) : ridx_main_v36 (ix3 s t f) k = (ix3 t f k) :=
  funext fun a => Fin.ext (by match a with
    | ⟨0, _⟩ => rfl
    | ⟨1, _⟩ => rfl
    | ⟨2, _⟩ => rfl)
theorem at_v37 (t : Fin 4) (s : Fin 8192) (f : Fin 704) : idx_main_v37 (ix3 t s f) = (ix3 s t f) :=
  funext fun a => Fin.ext (by match a with
    | ⟨0, _⟩ => rfl
    | ⟨1, _⟩ => rfl
    | ⟨2, _⟩ => rfl)
theorem at_l41 (t : Fin 4) (s : Fin 8192) (f : Fin 704) (k : Fin 1024) : lidx_main_v41 (ix3 t f k) s = (ix3 t s f) :=
  funext fun a => Fin.ext (by match a with
    | ⟨0, _⟩ => rfl
    | ⟨1, _⟩ => rfl
    | ⟨2, _⟩ => rfl)
theorem at_r41 (t : Fin 4) (s : Fin 8192) (f : Fin 704) (k : Fin 1024) : ridx_main_v41 (ix3 t f k) s = (ix3 t s k) :=
  funext fun a => Fin.ext (by match a with
    | ⟨0, _⟩ => rfl
    | ⟨1, _⟩ => rfl
    | ⟨2, _⟩ => rfl)
theorem at_l44 (t : Fin 4) (s : Fin 8192) (f : Fin 704) (k : Fin 1024) : lidx_main_v44 (ix3 t f k) s = (ix3 t s f) :=
  funext fun a => Fin.ext (by match a with
    | ⟨0, _⟩ => rfl
    | ⟨1, _⟩ => rfl
    | ⟨2, _⟩ => rfl)
theorem at_r44 (t : Fin 4) (s : Fin 8192) (f : Fin 704) (k : Fin 1024) : ridx_main_v44 (ix3 t f k) s = (ix3 t s k) :=
  funext fun a => Fin.ext (by match a with
    | ⟨0, _⟩ => rfl
    | ⟨1, _⟩ => rfl
    | ⟨2, _⟩ => rfl)
theorem at_v42 (t : Fin 4) (k : Fin 1024) (f : Fin 704) : idx_main_v42 (ix3 t k f) = (ix3 t f k) :=
  funext fun a => Fin.ext (by match a with
    | ⟨0, _⟩ => rfl
    | ⟨1, _⟩ => rfl
    | ⟨2, _⟩ => rfl)
theorem at_v45 (t : Fin 4) (k : Fin 1024) (f : Fin 704) : idx_main_v45 (ix3 t k f) = (ix3 t f k) :=
  funext fun a => Fin.ext (by match a with
    | ⟨0, _⟩ => rfl
    | ⟨1, _⟩ => rfl
    | ⟨2, _⟩ => rfl)
theorem at_l43 (t : Fin 4) (s : Fin 8192) (k : Fin 1024) (f : Fin 704) : lidx_main_v43 (ix3 t s k) f = (ix3 t s f) :=
  funext fun a => Fin.ext (by match a with
    | ⟨0, _⟩ => rfl
    | ⟨1, _⟩ => rfl
    | ⟨2, _⟩ => rfl)
theorem at_r43 (t : Fin 4) (s : Fin 8192) (k : Fin 1024) (f : Fin 704) : ridx_main_v43 (ix3 t s k) f = (ix3 t k f) :=
  funext fun a => Fin.ext (by match a with
    | ⟨0, _⟩ => rfl
    | ⟨1, _⟩ => rfl
    | ⟨2, _⟩ => rfl)
theorem at_l46 (t : Fin 4) (s : Fin 8192) (k : Fin 1024) (f : Fin 704) : lidx_main_v46 (ix3 t s k) f = (ix3 t s f) :=
  funext fun a => Fin.ext (by match a with
    | ⟨0, _⟩ => rfl
    | ⟨1, _⟩ => rfl
    | ⟨2, _⟩ => rfl)
theorem at_r46 (t : Fin 4) (s : Fin 8192) (k : Fin 1024) (f : Fin 704) : ridx_main_v46 (ix3 t s k) f = (ix3 t k f) :=
  funext fun a => Fin.ext (by match a with
    | ⟨0, _⟩ => rfl
    | ⟨1, _⟩ => rfl
    | ⟨2, _⟩ => rfl)
theorem at_v49 (t : Fin 4) (f : Fin 704) (k : Fin 1024) : idx_main_v49 (ix2 (Ffn.hidden t f) k) = (ix3 t f k) :=
  funext fun a => Fin.ext (by match a with
    | ⟨0, _⟩ => show ((t.val * 704 + f.val) * 1024 + k.val) / 720896 = t.val; omega
    | ⟨1, _⟩ => show ((t.val * 704 + f.val) * 1024 + k.val) / 1024 % 704 = f.val; omega
    | ⟨2, _⟩ => show ((t.val * 704 + f.val) * 1024 + k.val) % 1024 = k.val; omega)

variable (x0 x1 : (⟨S8192x1024, .f32⟩ : BufTy).Contents (Elt Ideal)) (x2 : (⟨S1x1024, .f32⟩ : BufTy).Contents (Elt Ideal))
  (x3 : (⟨S8x4x1024x704, .bf16⟩ : BufTy).Contents (Elt Ideal)) (x4 : (⟨S4x2816x1024, .bf16⟩ : BufTy).Contents (Elt Ideal))

/-! ### The values -/

/-- The normed stream. -/
theorem normed (s : Fin 8192) (k : Fin 1024) : val_main_v13 (F := Ideal) x0 x2 (ix2 s k) = (Ffn.layer x0 x1 x2 x3 x4).n s k := by
  have h1 : val_main_v1 (F := Ideal) x0 (ix1 s) = ∑ k, x0 (ix2 s k) * x0 (ix2 s k) := by
    rw [val_main_v1_apply, val_main_cst_apply]
    simp only [at_v1, val_main_v0_apply]
    exact (congrArg (· + _) Ideal.ofBits_zero_f32).trans (zero_add _)
  rw [val_main_v13_apply, val_main_v12_apply, val_main_v11_apply, val_main_v10_apply, at_v10, val_main_v9_apply, val_main_v8_apply, at_v8,
    val_main_v7_apply, val_main_v6_apply, val_main_v5_apply, val_main_cst_1_apply, val_main_v4_apply, val_main_v3_apply,
    val_main_cst_0_apply, val_main_v2_apply, at_v2, h1]
  rfl

/-- The gate's weights. -/
theorem gateWeight (t : Fin 4) (k : Fin 1024) (f : Fin 704) : val_main_v16 (F := Ideal) x3 (ix3 t k f) = (Ffn.layer x0 x1 x2 x3 x4).wg t k f := by
  rw [val_main_v16_apply, val_main_v15_apply, at_v15, val_main_v14_apply, at_v14]
  rfl
/-- The weights of the up product. -/
theorem upWeight (t : Fin 4) (k : Fin 1024) (f : Fin 704) : val_main_v19 (F := Ideal) x3 (ix3 t k f) = (Ffn.layer x0 x1 x2 x3 x4).wu t k f := by
  rw [val_main_v19_apply, val_main_v18_apply, at_v18, val_main_v17_apply, at_v17]
  rfl
/-- The weights of the down product. -/
theorem downWeight (t : Fin 4) (f : Fin 704) (k : Fin 1024) : val_main_v23 (F := Ideal) x4 (ix3 t f k) = (Ffn.layer x0 x1 x2 x3 x4).wd t f k := by
  rw [val_main_v23_apply, at_v23, val_main_v22_apply, val_main_v21_apply, at_v21, val_main_v20_apply, at_v20]
  rfl
/-- The normed stream, once for each shard. -/
theorem shardNormed (t : Fin 4) (s : Fin 8192) (k : Fin 1024) : val_main_v24 (F := Ideal) x0 x2 (ix3 t s k) = (Ffn.layer x0 x1 x2 x3 x4).n s k := by
  rw [val_main_v24_apply, at_v24, normed x0 x1 x2 x3 x4]
/-- The gate. -/
theorem gate (t : Fin 4) (s : Fin 8192) (f : Fin 704) : val_main_v25 (F := Ideal) x0 x2 x3 (ix3 t s f) = (Ffn.layer x0 x1 x2 x3 x4).gate t s f := by
  rw [val_main_v25_apply]
  simp only [at_l25, at_r25, shardNormed x0 x1 x2 x3 x4, gateWeight x0 x1 x2 x3 x4]
  rfl
/-- The up product. -/
theorem up (t : Fin 4) (s : Fin 8192) (f : Fin 704) : val_main_v26 (F := Ideal) x0 x2 x3 (ix3 t s f) = (Ffn.layer x0 x1 x2 x3 x4).up t s f := by
  rw [val_main_v26_apply]
  simp only [at_l26, at_r26, shardNormed x0 x1 x2 x3 x4, upWeight x0 x1 x2 x3 x4]
  rfl
/-- The logistic function of the gate. -/
theorem logistic (t : Fin 4) (s : Fin 8192) (f : Fin 704) :
    val_main_v27_2 (F := Ideal) x0 x2 x3 (ix3 t s f) = Ffn.sig ((Ffn.layer x0 x1 x2 x3 x4).gate t s f) := by
  rw [val_main_v27_2_apply, val_main_call0_v4_apply, val_main_call0_cst_0_apply, val_main_call0_v3_apply, val_main_call0_v2_apply,
    val_main_call0_cst_apply, val_main_call0_v1_apply, val_main_call0_v0_apply, gate x0 x1 x2 x3 x4]
  generalize (Ffn.layer x0 x1 x2 x3 x4).gate t s f = g
  show Ideal.div (Ideal.ofBits .f32 0x3F800000#32) (Ideal.ofBits .f32 0x3F800000#32 + Ideal.exp (-g)) = _
  rw [Ideal.ofBits_one_f32]
  rfl
/-- The logistic function's derivative at the gate. -/
theorem slope (t : Fin 4) (s : Fin 8192) (f : Fin 704) :
    val_main_v27_1 (F := Ideal) x0 x2 x3 (ix3 t s f)
      = Ffn.sig ((Ffn.layer x0 x1 x2 x3 x4).gate t s f) * (1 - Ffn.sig ((Ffn.layer x0 x1 x2 x3 x4).gate t s f)) := by
  rw [val_main_v27_1_apply, val_main_call0_v7_apply, val_main_call0_v6_apply, val_main_call0_cst_1_apply, logistic x0 x1 x2 x3 x4]
  generalize Ffn.sig ((Ffn.layer x0 x1 x2 x3 x4).gate t s f) = g
  show g * (Ideal.ofBits .f32 0x3F800000#32 - g) = _
  rw [Ideal.ofBits_one_f32]
/-- The gate's activation. -/
theorem act (t : Fin 4) (s : Fin 8192) (f : Fin 704) : val_main_v27_0 (F := Ideal) x0 x2 x3 (ix3 t s f) = (Ffn.layer x0 x1 x2 x3 x4).act t s f := by
  rw [val_main_v27_0_apply, gate x0 x1 x2 x3 x4, logistic x0 x1 x2 x3 x4]
  rfl
/-- Half the cotangent. -/
theorem dy (s : Fin 8192) (k : Fin 1024) : val_main_v33 (F := Ideal) x1 (ix2 s k) = (Ffn.layer x0 x1 x2 x3 x4).dy s k := by
  rw [val_main_v33_apply, val_main_v32_apply, val_main_cst_3_apply]
  rfl
/-- The gradient at the hidden units. -/
theorem da (t : Fin 4) (s : Fin 8192) (f : Fin 704) : val_main_v37 (F := Ideal) x1 x4 (ix3 t s f) = (Ffn.layer x0 x1 x2 x3 x4).da t s f := by
  rw [val_main_v37_apply, at_v37, val_main_v36_apply]
  simp only [at_l36, at_r36, dy x0 x1 x2 x3 x4, downWeight x0 x1 x2 x3 x4]
  rfl
/-- The gradient at the up product. -/
theorem dup (t : Fin 4) (s : Fin 8192) (f : Fin 704) : val_main_v38 (F := Ideal) x0 x1 x2 x3 x4 (ix3 t s f) = (Ffn.layer x0 x1 x2 x3 x4).dup t s f := by
  rw [val_main_v38_apply, act x0 x1 x2 x3 x4, da x0 x1 x2 x3 x4]
  exact mul_comm _ _
/-- The gradient at the gate. -/
theorem dgate (t : Fin 4) (s : Fin 8192) (f : Fin 704) :
    val_main_v40 (F := Ideal) x0 x1 x2 x3 x4 (ix3 t s f) = (Ffn.layer x0 x1 x2 x3 x4).dgateSum t s f := by
  rw [val_main_v40_apply, val_main_call1_v1_apply, val_main_call1_v2_apply, val_main_call1_v0_apply, val_main_v39_apply, slope x0 x1 x2 x3 x4,
    logistic x0 x1 x2 x3 x4, gate x0 x1 x2 x3 x4, da x0 x1 x2 x3 x4, up x0 x1 x2 x3 x4]
  rfl

/-! ### The results -/

variable (hg : ∀ t s f, (Ffn.layer x0 x1 x2 x3 x4).dgateSum t s f = (Ffn.layer x0 x1 x2 x3 x4).dgate t s f)
include hg

/-- The gradient at the normed stream. -/
theorem dn (t : Fin 4) (s : Fin 8192) (k : Fin 1024) :
    val_main_v48 (F := Ideal) x0 x1 x2 x3 x4 (ix3 t s k) = (Ffn.layer x0 x1 x2 x3 x4).dn t s k := by
  have h43 : val_main_v43 (F := Ideal) x0 x1 x2 x3 x4 (ix3 t s k)
      = ∑ f, (Ffn.layer x0 x1 x2 x3 x4).dup t s f * (Ffn.layer x0 x1 x2 x3 x4).wu t k f := by
    rw [val_main_v43_apply]
    simp only [at_l43, at_r43, dup x0 x1 x2 x3 x4, upWeight x0 x1 x2 x3 x4]
  have h46 : val_main_v46 (F := Ideal) x0 x1 x2 x3 x4 (ix3 t s k)
      = ∑ f, (Ffn.layer x0 x1 x2 x3 x4).dgate t s f * (Ffn.layer x0 x1 x2 x3 x4).wg t k f := by
    rw [val_main_v46_apply]
    simp only [at_l46, at_r46, dgate x0 x1 x2 x3 x4, hg, gateWeight x0 x1 x2 x3 x4]
  rw [val_main_v48_apply, val_main_v47_apply, h43, h46]
  exact add_comm _ _
/-- The gradient of the gate's weights. -/
theorem dwg (t : Fin 4) (k : Fin 1024) (f : Fin 704) :
    val_main_v45 (F := Ideal) x0 x1 x2 x3 x4 (ix3 t k f) = (Ffn.layer x0 x1 x2 x3 x4).dwg t k f := by
  rw [val_main_v45_apply, at_v45, val_main_v44_apply]
  simp only [at_l44, at_r44, dgate x0 x1 x2 x3 x4, hg, shardNormed x0 x1 x2 x3 x4]
  exact Finset.sum_congr rfl fun s _ => mul_comm _ _
omit hg
/-- The gradient of the up weights. -/
theorem dwu (t : Fin 4) (k : Fin 1024) (f : Fin 704) :
    val_main_v42 (F := Ideal) x0 x1 x2 x3 x4 (ix3 t k f) = (Ffn.layer x0 x1 x2 x3 x4).dwu t k f := by
  rw [val_main_v42_apply, at_v42, val_main_v41_apply]
  simp only [at_l41, at_r41, dup x0 x1 x2 x3 x4, shardNormed x0 x1 x2 x3 x4]
  exact Finset.sum_congr rfl fun s _ => mul_comm _ _
/-- The gradient of the down weights. -/
theorem dwd (t : Fin 4) (f : Fin 704) (k : Fin 1024) :
    val_main_v49 (F := Ideal) x0 x1 x2 x3 (ix2 (Ffn.hidden t f) k) = (Ffn.layer x0 x1 x2 x3 x4).dwd t f k := by
  rw [val_main_v49_apply, at_v49, val_main_v35_apply, at_v35, val_main_v34_apply]
  have h28 : ∀ s, val_main_v28 (F := Ideal) x0 x2 x3 (ix3 t s f) = (Ffn.layer x0 x1 x2 x3 x4).act t s f * (Ffn.layer x0 x1 x2 x3 x4).up t s f := fun s => by
    rw [val_main_v28_apply, act x0 x1 x2 x3 x4, up x0 x1 x2 x3 x4]
    rfl
  simp only [at_l34, at_r34, dy x0 x1 x2 x3 x4, h28]
  exact Finset.sum_congr rfl fun s _ => mul_comm _ _

end Cert.FfnRefIdeal.Layer
-- ==== Proof.FfnHost.lean ====
/-
  WHAT THE LAUNCH FINDS IN THE ARRAYS THAT THE HOST PREPARES: the gate and the up product of the forward pass.
-/
module

public import proofs.«01_k».proof.Proof.FfnRef
public import proofs.«01_k».proof.Proof.Gen.FfnIdeal.Value
public import Idealize.ShloMosaic.Lib.Pipeline.ValueKit
public import Idealize.ShloMosaic.Lib.Claim

@[expose] public section

set_option maxRecDepth 16384

noncomputable section

namespace Cert.FfnIdeal.Saved

open Cert.FfnIdeal Cert.FfnIdeal.Gen Idealize.ShloMosaic Idealize.ShloMosaic.TcCoe
open scoped BigOperators

/-- The eight shards of layer 0's two products' weights. -/
def weights (x3 : FVec Ideal S8x4x1024x704 .bf16) : FVec Ideal S8x1024x704 .f32 :=
  extf .f32 (shapeCast S8x1024x704 (extractStridedSlice S8x1x1024x704 ![0, 0, 0, 0] x3 slices_S8x4x1024x704_S8x1x1024x704_0_0_0_0)
    shapeCasts_S8x1x1024x704_S8x1024x704) bitsLt_bf16_f32

/-- A product of the normed stream `y` and four shards of weights, as the launch finds it. -/
def product (y : FVec Ideal S8192x1024 .f32) (w : FVec Ideal S4x1024x704 .f32) : FVec Ideal S4x8192x704 .bf16 :=
  truncf .bf16 (transpose S4x8192x704 [0, 2, 1] (Host.dotGeneral dot_S4x1024x704_S8192x1024_S4x704x8192_1_1_02_0_n_n none w y)
    transposes_S4x704x8192_S4x8192x704_0_2_1) bitsLt_bf16_f32

theorem weights_apply (x3 : FVec Ideal S8x4x1024x704 .bf16) (u : Fin 8) (k : Fin 1024) (f : Fin 704) :
    weights x3 (ix3 u k f) = x3 (ix4 u (0 : Fin 4) k f) := by
  pointwise [weights]

theorem product_apply (y : FVec Ideal S8192x1024 .f32) (w : FVec Ideal S4x1024x704 .f32) (t : Fin 4) (s : Fin 8192) (f : Fin 704) :
    product y w (ix3 t s f) = ∑ k, y (ix2 s k) * w (ix3 t k f) := by
  pointwise [product]
  exact Finset.sum_congr rfl fun k _ => mul_comm _ _

variable (m : (ℓ : Loc nD τ sig) → Buf (Elt Ideal) ℓ) (c : Dev nD)

open Cert.FfnRefIdeal.Read

theorem gate_eq : V m c main_v20 = product (val_main_v13 (F := Ideal) (m ((c : Thread nD τ).loc main_arg0)) (m ((c : Thread nD τ).loc main_arg2)))
    (extractStridedSlice S4x1024x704 ![0, 0, 0] (weights (m ((c : Thread nD τ).loc main_arg3))) slices_S8x1024x704_S4x1024x704_0_0_0) := by
  unfold V
  after_results_simp <;> rfl

theorem up_eq : V m c main_v24 = product (val_main_v13 (F := Ideal) (m ((c : Thread nD τ).loc main_arg0)) (m ((c : Thread nD τ).loc main_arg2)))
    (extractStridedSlice S4x1024x704 ![4, 0, 0] (weights (m ((c : Thread nD τ).loc main_arg3))) slices_S8x1024x704_S4x1024x704_4_0_0) := by
  unfold V
  after_results_simp <;> rfl

/-- The layer in the launch's arguments. -/
abbrev layer : Ffn.Layer :=
  Ffn.layer (m ((c : Thread nD τ).loc main_arg0)) (m ((c : Thread nD τ).loc main_arg1)) (m ((c : Thread nD τ).loc main_arg2))
    (m ((c : Thread nD τ).loc main_arg3)) (m ((c : Thread nD τ).loc main_arg4))

theorem slice_gate (w : FVec Ideal S8x1024x704 .f32) (t : Fin 4) (k : Fin 1024) (f : Fin 704) :
    extractStridedSlice S4x1024x704 ![0, 0, 0] w slices_S8x1024x704_S4x1024x704_0_0_0 (ix3 t k f) = w (ix3 (Ffn.gateShard t) k f) := by
  pointwise []
  refine congrArg w (funext fun a => Fin.ext ?_)
  match a with
  | ⟨0, _⟩ => rfl
  | ⟨1, _⟩ => rfl
  | ⟨2, _⟩ => rfl

theorem slice_up (w : FVec Ideal S8x1024x704 .f32) (t : Fin 4) (k : Fin 1024) (f : Fin 704) :
    extractStridedSlice S4x1024x704 ![4, 0, 0] w slices_S8x1024x704_S4x1024x704_4_0_0 (ix3 t k f) = w (ix3 (Ffn.upShard t) k f) := by
  pointwise []
  refine congrArg w (funext fun a => Fin.ext ?_)
  match a with
  | ⟨0, _⟩ => rfl
  | ⟨1, _⟩ => rfl
  | ⟨2, _⟩ => rfl

/-- The product with the gate's weights is the gate. -/
theorem product_gate (x0 x1 : (⟨S8192x1024, .f32⟩ : BufTy).Contents (Elt Ideal)) (x2 : (⟨S1x1024, .f32⟩ : BufTy).Contents (Elt Ideal))
    (x3 : (⟨S8x4x1024x704, .bf16⟩ : BufTy).Contents (Elt Ideal)) (x4 : (⟨S4x2816x1024, .bf16⟩ : BufTy).Contents (Elt Ideal))
    (t : Fin 4) (s : Fin 8192) (f : Fin 704) :
    product (val_main_v13 (F := Ideal) x0 x2) (extractStridedSlice S4x1024x704 ![0, 0, 0] (weights x3) slices_S8x1024x704_S4x1024x704_0_0_0) (ix3 t s f)
      = (Ffn.layer x0 x1 x2 x3 x4).gate t s f := by
  rw [product_apply]
  refine Finset.sum_congr rfl fun k _ => ?_
  rw [slice_gate, weights_apply]
  exact congrArg (· * _) (Cert.FfnRefIdeal.Layer.normed x0 x1 x2 x3 x4 s k)

/-- The product with the up weights is the up product. -/
theorem product_up (x0 x1 : (⟨S8192x1024, .f32⟩ : BufTy).Contents (Elt Ideal)) (x2 : (⟨S1x1024, .f32⟩ : BufTy).Contents (Elt Ideal))
    (x3 : (⟨S8x4x1024x704, .bf16⟩ : BufTy).Contents (Elt Ideal)) (x4 : (⟨S4x2816x1024, .bf16⟩ : BufTy).Contents (Elt Ideal))
    (t : Fin 4) (s : Fin 8192) (f : Fin 704) :
    product (val_main_v13 (F := Ideal) x0 x2) (extractStridedSlice S4x1024x704 ![4, 0, 0] (weights x3) slices_S8x1024x704_S4x1024x704_4_0_0) (ix3 t s f)
      = (Ffn.layer x0 x1 x2 x3 x4).up t s f := by
  rw [product_apply]
  refine Finset.sum_congr rfl fun k _ => ?_
  rw [slice_up, weights_apply]
  exact congrArg (· * _) (Cert.FfnRefIdeal.Layer.normed x0 x1 x2 x3 x4 s k)

/-- The saved gate. -/
theorem gate (t : Fin 4) (s : Fin 8192) (f : Fin 704) : V m c main_v20 (ix3 t s f) = (layer m c).gate t s f :=
  (congrFun (gate_eq m c) (ix3 t s f)).trans (product_gate _ _ _ _ _ t s f)

/-- The saved up product. -/
theorem up (t : Fin 4) (s : Fin 8192) (f : Fin 704) : V m c main_v24 (ix3 t s f) = (layer m c).up t s f :=
  (congrFun (up_eq m c) (ix3 t s f)).trans (product_up _ _ _ _ _ t s f)

end Cert.FfnIdeal.Saved
-- ==== Proof.FfnBlocks.lean ====
/-
  WHERE THE LAUNCH'S BLOCKS LIE: each window's block at a grid point, read in the coordinates of `Ffn.Layer`.
-/
module

public import proofs.«01_k».proof.Proof.FfnTile
public import proofs.«01_k».proof.Proof.FfnHost
public import proofs.«01_k».proof.Proof.Gen.FfnIdeal.Value
public import Idealize.ShloMosaic.Lib.Pipeline.ValueKit
public import Idealize.ShloMosaic.Lib.Claim

@[expose] public section

set_option maxRecDepth 16384

noncomputable section

namespace Cert.FfnIdeal.Blocks

open Cert.FfnIdeal Cert.FfnIdeal.Gen Idealize.ShloMosaic Idealize.ShloMosaic.TcCoe
open scoped BigOperators

variable (m : (ℓ : Loc nD τ sig) → Buf (Elt Ideal) ℓ) (c : Dev nD)

/-! ## The grid point's coordinates -/

/-- The shard of a grid point. -/
def shard (t : Fin cfg0.N) : Fin 4 := ⟨t.val / 16, by have h1 : t.val < 64 := lt_of_lt_of_eq t.isLt N_0; omega⟩
/-- A row of the grid point's block of rows. -/
def row (t : Fin cfg0.N) (r : Fin 512) : Fin 8192 := ⟨t.val % 16 * 512 + r.val, by omega⟩

theorem index_h : ∀ t : Fin cfg0.N, win0_0.index t = ![t.val % 16, 0] :=
  (by decide +kernel : ∀ t : Fin grid0.N, win0_0.index t = ![t.val % 16, 0])
theorem index_go : ∀ t : Fin cfg0.N, win0_1.index t = ![t.val % 16, 0] :=
  (by decide +kernel : ∀ t : Fin grid0.N, win0_1.index t = ![t.val % 16, 0])
theorem index_gain : ∀ t : Fin cfg0.N, win0_2.index t = ![0, 0] :=
  (by decide +kernel : ∀ t : Fin grid0.N, win0_2.index t = ![0, 0])
theorem index_gate : ∀ t : Fin cfg0.N, win0_3.index t = ![t.val / 16, t.val % 16, 0] :=
  (by decide +kernel : ∀ t : Fin grid0.N, win0_3.index t = ![t.val / 16, t.val % 16, 0])
theorem index_up : ∀ t : Fin cfg0.N, win0_4.index t = ![t.val / 16, t.val % 16, 0] :=
  (by decide +kernel : ∀ t : Fin grid0.N, win0_4.index t = ![t.val / 16, t.val % 16, 0])
theorem index_wg : ∀ t : Fin cfg0.N, win0_5.index t = ![t.val / 16, 0, 0, 0] :=
  (by decide +kernel : ∀ t : Fin grid0.N, win0_5.index t = ![t.val / 16, 0, 0, 0])
theorem index_wu : ∀ t : Fin cfg0.N, win0_6.index t = ![4 + t.val / 16, 0, 0, 0] :=
  (by decide +kernel : ∀ t : Fin grid0.N, win0_6.index t = ![4 + t.val / 16, 0, 0, 0])
theorem index_wd : ∀ t : Fin cfg0.N, win0_7.index t = ![0, t.val / 16, 0] :=
  (by decide +kernel : ∀ t : Fin grid0.N, win0_7.index t = ![0, t.val / 16, 0])
theorem index_dn : ∀ t : Fin cfg0.N, win0_8.index t = ![t.val / 16, t.val % 16, 0] :=
  (by decide +kernel : ∀ t : Fin grid0.N, win0_8.index t = ![t.val / 16, t.val % 16, 0])
theorem index_dwg : ∀ t : Fin cfg0.N, win0_9.index t = ![t.val / 16, 0, 0] :=
  (by decide +kernel : ∀ t : Fin grid0.N, win0_9.index t = ![t.val / 16, 0, 0])
theorem index_dwu : ∀ t : Fin cfg0.N, win0_10.index t = ![t.val / 16, 0, 0] :=
  (by decide +kernel : ∀ t : Fin grid0.N, win0_10.index t = ![t.val / 16, 0, 0])
theorem index_dwd : ∀ t : Fin cfg0.N, win0_11.index t = ![t.val / 16, 0] :=
  (by decide +kernel : ∀ t : Fin grid0.N, win0_11.index t = ![t.val / 16, 0])

/-! ## The blocks read at coordinates -/

/-- The layer in the launch's arguments. -/
abbrev D : Ffn.Layer := Saved.layer m c

variable (t : Fin cfg0.N)

theorem block_h (r : Fin 512) (k : Fin 1024) : iblk m c 0 t (ix2 r k) = (D m c).h (row t r) k := by
  blk_simp [iblk]
  rw [V_main_arg0]
  refine congrArg (m ((c : Thread nD τ).loc main_arg0)) ?_
  blk_ext [index_h t, row]

theorem block_go (r : Fin 512) (k : Fin 1024) : iblk m c 1 t (ix2 r k) = (D m c).go (row t r) k := by
  blk_simp [iblk]
  rw [V_main_arg1]
  refine congrArg (m ((c : Thread nD τ).loc main_arg1)) ?_
  blk_ext [index_go t, row]

theorem block_gain (k : Fin 1024) : iblk m c 2 t (ix2 (0 : Fin 1) k) = (D m c).gain k := by
  blk_simp [iblk]
  rw [V_main_arg2]
  refine congrArg (m ((c : Thread nD τ).loc main_arg2)) ?_
  blk_ext [index_gain t]

theorem block_gate (r : Fin 512) (f : Fin 704) : iblk m c 3 t (ix3 (0 : Fin 1) r f) = (D m c).gate (shard t) (row t r) f := by
  rw [← Saved.gate]
  blk_simp [iblk]
  refine congrArg (V m c main_v20) ?_
  blk_ext [index_gate t, row, shard]

theorem block_up (r : Fin 512) (f : Fin 704) : iblk m c 4 t (ix3 (0 : Fin 1) r f) = (D m c).up (shard t) (row t r) f := by
  rw [← Saved.up]
  blk_simp [iblk]
  refine congrArg (V m c main_v24) ?_
  blk_ext [index_up t, row, shard]

theorem block_wg (k : Fin 1024) (f : Fin 704) : iblk m c 5 t (ix4 (0 : Fin 1) (0 : Fin 1) k f) = (D m c).wg (shard t) k f := by
  blk_simp [iblk]
  rw [V_main_arg3]
  refine congrArg (m ((c : Thread nD τ).loc main_arg3)) ?_
  blk_ext [index_wg t, shard, Ffn.gateShard]

theorem block_wu (k : Fin 1024) (f : Fin 704) : iblk m c 6 t (ix4 (0 : Fin 1) (0 : Fin 1) k f) = (D m c).wu (shard t) k f := by
  blk_simp [iblk]
  rw [V_main_arg3]
  refine congrArg (m ((c : Thread nD τ).loc main_arg3)) ?_
  blk_ext [index_wu t, shard, Ffn.upShard]

theorem block_wd (f : Fin 704) (k : Fin 1024) : iblk m c 7 t (ix3 (0 : Fin 1) f k) = (D m c).wd (shard t) f k := by
  blk_simp [iblk]
  rw [V_main_arg4]
  refine congrArg (m ((c : Thread nD τ).loc main_arg4)) ?_
  blk_ext [index_wd t, shard, Ffn.hidden]

/-- The blocks of a grid point hold the layer's values at its shard and rows. -/
theorem reads : Tile.Reads (iblk m c 0 t) (iblk m c 1 t) (iblk m c 2 t) (iblk m c 3 t) (iblk m c 4 t)
    (iblk m c 5 t) (iblk m c 6 t) (iblk m c 7 t) (D m c) (shard t) (row t) :=
  ⟨block_h m c t, block_go m c t, block_gain m c t, block_gate m c t, block_up m c t, block_wg m c t, block_wu m c t, block_wd m c t⟩

end Cert.FfnIdeal.Blocks
-- ==== Proof.FfnArray.lean ====
/-
  WHAT THE ARRAYS OF THE FEED-FORWARD GRADIENT KERNEL HOLD.

  At grid point `t` (shard `t / 16`, block of rows `t % 16`) the first output block is the shard's part of the gradient at the block's
  rows of the normed stream; the other three hold the sums over the rows of the blocks up to `t % 16`, and the last block of rows
  completes them.
-/
module

public import proofs.«01_k».proof.Proof.FfnBlocks
public import Idealize.ShloMosaic.Lib.Pipeline.ValueKit

@[expose] public section

set_option maxRecDepth 16384

noncomputable section

namespace Cert.FfnIdeal.Arrays

open Cert.FfnIdeal Cert.FfnIdeal.Gen Cert.FfnIdeal.Blocks Idealize.ShloMosaic Idealize.ShloMosaic.TcCoe
open scoped BigOperators

theorem blockSum_row (g : Fin 8192 → EReal) (t : Fin cfg0.N) : Ffn.blockSum g (t.val % 16) = ∑ r, g (row t r) := by
  unfold Ffn.blockSum
  exact Finset.sum_congr rfl fun r _ => by rw [dif_pos (by omega)]; rfl

variable (m : (ℓ : Loc nD τ sig) → Buf (Elt Ideal) ℓ) (c : Dev nD) (t : Fin cfg0.N)

/-! ## The blocks after each grid point -/

/-- What the four output blocks hold after grid point `t`. -/
def After (D : Ffn.Layer) (t : Fin cfg0.N)
    (o : (S1x512x1024.Idx → EReal) × (S1x1024x704.Idx → EReal) × (S1x1024x704.Idx → EReal) × (S704x1024.Idx → EReal)) : Prop :=
  (∀ r k, o.1 (ix3 (0 : Fin 1) r k) = D.dn (shard t) (row t r) k)
  ∧ (∀ k f, o.2.1 (ix3 (0 : Fin 1) k f) = Ffn.upTo (fun s => D.n s k * D.dgate (shard t) s f) (t.val % 16 + 1))
  ∧ (∀ k f, o.2.2.1 (ix3 (0 : Fin 1) k f) = Ffn.upTo (fun s => D.n s k * D.dup (shard t) s f) (t.val % 16 + 1))
  ∧ (∀ f k, o.2.2.2 (ix2 f k) = Ffn.upTo (fun s => D.act (shard t) s f * D.up (shard t) s f * D.dy s k) (t.val % 16 + 1))

theorem add_first {g : Fin 8192 → EReal} (h0 : t.val % 16 = 0) : 0 + ∑ r, g (row t r) = Ffn.upTo g (t.val % 16 + 1) := by
  rw [← blockSum_row, h0, Ffn.upTo_one]

theorem add_next {g : Fin 8192 → EReal} : Ffn.upTo g (t.val % 16) + ∑ r, g (row t r) = Ffn.upTo g (t.val % 16 + 1) := by
  rw [← blockSum_row, Ffn.upTo_succ]

theorem after_A (h0 : t.val % 16 = 0) : After (D m c) t (outsAt0 m c t.val t.isLt) := by
  rw [outsAt0_A m c t h0]
  refine ⟨fun r k => ?_, fun k f => ?_, fun k f => ?_, fun f k => ?_⟩
  · dsimp only
    rw [Tile.out_A_8]
    exact (reads m c t).outN r k
  · dsimp only
    rw [Tile.out_A_9]
    rw [(reads m c t).addG k f]
    exact add_first (g := fun s => (D m c).n s k * (D m c).dgate (shard t) s f) t h0
  · dsimp only
    rw [Tile.out_A_10]
    rw [(reads m c t).addU k f]
    exact add_first (g := fun s => (D m c).n s k * (D m c).dup (shard t) s f) t h0
  · dsimp only
    rw [Tile.out_A_11]
    rw [(reads m c t).addD f k]
    exact add_first (g := fun s => (D m c).act (shard t) s f * (D m c).up (shard t) s f * (D m c).dy s k) t h0

/-- A point that is not the first of its run follows a point of the same shard. -/
theorem prev (h0 : ¬ t.val % 16 = 0) : ∃ p : Fin cfg0.N, p.val = t.val - 1 ∧ shard p = shard t ∧ p.val % 16 + 1 = t.val % 16 := by
  refine ⟨⟨t.val - 1, lt_of_le_of_lt (Nat.sub_le _ _) t.isLt⟩, rfl, ?_, ?_⟩
  · apply Fin.ext; simp only [shard]; omega
  · show (t.val - 1) % 16 + 1 = t.val % 16; omega

theorem after_B (h0 : ¬ t.val % 16 = 0)
    (ih : ∀ p : Fin cfg0.N, p.val = t.val - 1 → After (D m c) p (outsAt0 m c p.val p.isLt)) : After (D m c) t (outsAt0 m c t.val t.isLt) := by
  obtain ⟨p, hp, eh, ei⟩ := prev t h0
  obtain ⟨_, i9, i10, i11⟩ := ih p hp
  rw [outsAt0_B m c t h0]
  simp only [eh, ei] at i9 i10 i11
  simp only [hp] at i9 i10 i11
  refine ⟨fun r k => ?_, fun k f => ?_, fun k f => ?_, fun f k => ?_⟩
  · dsimp only
    rw [Tile.out_B_8]
    exact (reads m c t).outN r k
  · dsimp only
    rw [Tile.out_B_9]
    rw [(reads m c t).addG k f, i9, add_next t]
  · dsimp only
    rw [Tile.out_B_10]
    rw [(reads m c t).addU k f, i10, add_next t]
  · dsimp only
    rw [Tile.out_B_11]
    rw [(reads m c t).addD f k, i11, add_next t]

/-- After every grid point the blocks hold the sums over the rows walked so far. -/
theorem after_all (n : ℕ) : ∀ t : Fin cfg0.N, t.val = n → After (D m c) t (outsAt0 m c t.val t.isLt) := by
  induction n using Nat.strong_induction_on with
  | _ n ih =>
    intro t ht
    by_cases h0 : t.val % 16 = 0
    · exact after_A m c t h0
    · exact after_B m c t h0 fun p hp => ih p.val (by omega) p rfl

/-- After the last block of rows the three blocks of weights hold the gradients. -/
theorem after_last (ht : t.val % 16 = 15) :
    (∀ k f, (outsAt0 m c t.val t.isLt).2.1 (ix3 (0 : Fin 1) k f) = (D m c).dwg (shard t) k f)
    ∧ (∀ k f, (outsAt0 m c t.val t.isLt).2.2.1 (ix3 (0 : Fin 1) k f) = (D m c).dwu (shard t) k f)
    ∧ (∀ f k, (outsAt0 m c t.val t.isLt).2.2.2 (ix2 f k) = (D m c).dwd (shard t) f k) := by
  obtain ⟨_, i9, i10, i11⟩ := after_all m c t.val t rfl
  simp only [ht, show 15 + 1 = 16 from rfl, Ffn.upTo_all] at i9 i10 i11
  exact ⟨i9, i10, i11⟩

/-! ## The arrays -/

/-- The array of the stream's gradient, given as any array `G` that reads it. -/
theorem array_dn (G : Buf (Elt Ideal) ((c : Thread nD τ).loc main_v25_0))
    (hG : ∀ u s k, G (ix3 u s k) = (D m c).dn u s k) : (dats m 0 c).arrAt 8 cfg0.N = G := by
  refine (dats m 0 c).arrAt_eq_of_covers 8 G (by decide +kernel) fun t hf y => ?_
  blk_simp
  rw [after0_8]
  idx_vars y
  obtain rfl : y0 = 0 := Subsingleton.elim _ _
  refine ((after_all m c t.val t rfl).1 y1 y2).trans ((hG _ _ _).symm.trans (congrArg G ?_))
  blk_ext [index_dn t, row, shard]

/-- The array of the gate weights' gradient. -/
theorem array_dwg (G : Buf (Elt Ideal) ((c : Thread nD τ).loc main_v25_1))
    (hG : ∀ u k f, G (ix3 u k f) = (D m c).dwg u k f) : (dats m 0 c).arrAt 9 cfg0.N = G := by
  refine (dats m 0 c).arrAt_eq_of_covers 9 G (by decide +kernel) fun t hf y => ?_
  blk_simp
  rw [after0_9]
  idx_vars y
  obtain rfl : y0 = 0 := Subsingleton.elim _ _
  refine ((after_last m c t ((flush0_9 t).mp hf)).1 y1 y2).trans ((hG _ _ _).symm.trans (congrArg G ?_))
  blk_ext [index_dwg t, shard]

/-- The array of the up weights' gradient. -/
theorem array_dwu (G : Buf (Elt Ideal) ((c : Thread nD τ).loc main_v25_2))
    (hG : ∀ u k f, G (ix3 u k f) = (D m c).dwu u k f) : (dats m 0 c).arrAt 10 cfg0.N = G := by
  refine (dats m 0 c).arrAt_eq_of_covers 10 G (by decide +kernel) fun t hf y => ?_
  blk_simp
  rw [after0_10]
  idx_vars y
  obtain rfl : y0 = 0 := Subsingleton.elim _ _
  refine ((after_last m c t ((flush0_10 t).mp hf)).2.1 y1 y2).trans ((hG _ _ _).symm.trans (congrArg G ?_))
  blk_ext [index_dwu t, shard]

/-- The array of the down weights' gradient. -/
theorem array_dwd (G : Buf (Elt Ideal) ((c : Thread nD τ).loc main_v25_3))
    (hG : ∀ u f k, G (ix2 (Ffn.hidden u f) k) = (D m c).dwd u f k) : (dats m 0 c).arrAt 11 cfg0.N = G := by
  refine (dats m 0 c).arrAt_eq_of_covers 11 G (by decide +kernel) fun t hf y => ?_
  blk_simp
  rw [after0_11]
  idx_vars y
  refine ((after_last m c t ((flush0_11 t).mp hf)).2.2 y0 y1).trans ((hG _ _ _).symm.trans (congrArg G ?_))
  blk_ext [index_dwd t, shard, Ffn.hidden]

end Cert.FfnIdeal.Arrays
-- ==== Proof.FfnFinite.lean ====
/-
  THE PRECONDITION OF THE FEED-FORWARD GRADIENTS: arguments that satisfy it have a real cotangent, gain, up and down weights.
-/
module

public import proofs.«01_k».proof.Proof.FoxFinite
public import proofs.«01_k».proof.Proof.FfnMath
public import proofs.«01_k».proof.Proof.Gen.Pre_ffn_finite
public import Idealize.ShloMosaic.Lib.Pointwise

@[expose] public section

set_option maxRecDepth 16384

noncomputable section

namespace Ffn

open Idealize.ShloMosaic Cert.Pre_ffn_finite

variable (x0 x1 : FVec Ideal S8192x1024 .f32) (x2 : FVec Ideal S1x1024 .f32) (x3 : FVec Ideal S8x4x1024x704 .bf16) (x4 : FVec Ideal S4x2816x1024 .bf16)

/-- The precondition's first rows test the cotangent and the gain. -/
theorem fn_rows (s : Fin 8192) (k : Fin 1024) :
    fn (F := Ideal) x0 x1 x2 x3 x4 (ix2 (⟨s.val, by omega⟩ : Fin 11008) k) = Fox.test (x1 (ix2 s k)) &&& Fox.test (x2 (ix2 (0 : Fin 1) k)) := by
  pointwise [fn, fn_part1, Fox.test]
  rfl

/-- The precondition's last rows test the up and the down weights. -/
theorem fn_weights (r : Fin 2816) (k : Fin 1024) :
    fn (F := Ideal) x0 x1 x2 x3 x4 (ix2 (⟨8192 + r.val, by omega⟩ : Fin 11008) k)
      = Fox.test (x3 (ix4 (⟨4 + r.val / 704, by omega⟩ : Fin 8) (0 : Fin 4) (⟨(r.val * 1024 + k.val) / 704 % 1024, by omega⟩ : Fin 1024)
          (⟨(r.val * 1024 + k.val) % 704, by omega⟩ : Fin 704)))
        &&& Fox.test (x4 (ix3 (0 : Fin 4) r k)) := by
  pointwise [fn, fn_part1, Fox.test]
  rfl

/-- The layer of arguments that satisfy the precondition has a real cotangent, gain, up and down weights. -/
theorem layer_finite (h : fn (F := Ideal) x0 x1 x2 x3 x4 = fun _ => 1#1) :
    (∀ k, ∃ r : ℝ, (layer x0 x1 x2 x3 x4).gain k = r) ∧ (∀ s k, ∃ r : ℝ, (layer x0 x1 x2 x3 x4).go s k = r)
      ∧ (∀ t k f, ∃ r : ℝ, (layer x0 x1 x2 x3 x4).wu t k f = r) ∧ ∀ t f k, ∃ r : ℝ, (layer x0 x1 x2 x3 x4).wd t f k = r := by
  have rows := fun s k => Fox.both ((fn_rows x0 x1 x2 x3 x4 s k).symm.trans (congrFun h _))
  have weights := fun r k => Fox.both ((fn_weights x0 x1 x2 x3 x4 r k).symm.trans (congrFun h _))
  refine ⟨fun k => ⟨_, Fox.real_of_test (rows 0 k).2⟩, fun s k => ⟨_, Fox.real_of_test (rows s k).1⟩, fun t k f => ?_,
    fun t f k => ⟨_, Fox.real_of_test (weights (hidden t f) k).2⟩⟩
  have key := (weights ⟨((t.val * 1024 + k.val) * 704 + f.val) / 1024, by omega⟩ ⟨((t.val * 1024 + k.val) * 704 + f.val) % 1024, by omega⟩).1
  have e : (ix4 (⟨4 + ((t.val * 1024 + k.val) * 704 + f.val) / 1024 / 704, by omega⟩ : Fin 8) (0 : Fin 4)
      (⟨(((t.val * 1024 + k.val) * 704 + f.val) / 1024 * 1024 + ((t.val * 1024 + k.val) * 704 + f.val) % 1024) / 704 % 1024, by omega⟩ : Fin 1024)
      (⟨(((t.val * 1024 + k.val) * 704 + f.val) / 1024 * 1024 + ((t.val * 1024 + k.val) * 704 + f.val) % 1024) % 704, by omega⟩ : Fin 704))
      = ix4 (upShard t) (0 : Fin 4) k f := by
    refine congr (congr (congr (congrArg ix4 (Fin.ext ?_)) rfl) (Fin.ext ?_)) (Fin.ext ?_)
    · show 4 + ((t.val * 1024 + k.val) * 704 + f.val) / 1024 / 704 = 4 + t.val; omega
    · show (((t.val * 1024 + k.val) * 704 + f.val) / 1024 * 1024 + ((t.val * 1024 + k.val) * 704 + f.val) % 1024) / 704 % 1024 = k.val; omega
    · show (((t.val * 1024 + k.val) * 704 + f.val) / 1024 * 1024 + ((t.val * 1024 + k.val) * 704 + f.val) % 1024) % 704 = f.val; omega
  exact ⟨_, (congrArg x3 e.symm).trans (Fox.real_of_test key)⟩

end Ffn
-- ==== Proof.FfnClaims.lean ====
/-
  THE CLAIMS ABOUT THE FEED-FORWARD LAYER'S GRADIENTS, assembled.
-/
module

public import proofs.«01_k».proof.Defs
public import proofs.«01_k».proof.Proof.FfnArray
public import proofs.«01_k».proof.Proof.FfnRef
public import proofs.«01_k».proof.Proof.FfnFinite
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import Idealize.ShloMosaic.Adequacy
public import Idealize.ShloMosaic.Init

@[expose] public section

noncomputable section

namespace Cert.Proof.FfnClaims

open Idealize.ShloMosaic Idealize.SL.Sem

/-- The kernel's frame. -/
theorem frame_kernel : Cert.quiescent_Ffn := fun m ρ _ => Cert.Ffn.Gen.frame m ρ
/-- The ideal kernel's frame. -/
theorem frame_ideal : Cert.quiescent_FfnIdeal := fun m ρ _ => Cert.FfnIdeal.Gen.frame m ρ
/-- The ideal kernel's frame under the precondition. -/
theorem frame_ideal_pre : Cert.quiescent_FfnIdeal_pre_ffn_finite := fun m ρ _ => Cert.FfnIdeal.Gen.frame m ρ

/-- The reference's frame. -/
theorem frame_ref : Cert.quiescent_FfnRefIdeal := fun m ρ _ =>
  (θ_run Cert.FfnRefIdeal.defs _ _).mono (fun r h => ⟨fun c => (h c).2.2.2.2, sem_eq_zero_of_no_sems (by decide) r.2⟩)
    (Cert.FfnRefIdeal.Value.run (F := Ideal) m ρ)
/-- The reference's frame under the precondition. -/
theorem frame_ref_pre : Cert.quiescent_FfnRefIdeal_pre_ffn_finite := fun m ρ _ => frame_ref m ρ trivial

/-- The ideal program is the kernel, with nothing rewritten. -/
theorem preserves : Cert.preserves_Ffn_FfnIdeal := trivial

/-- Kernel and reference compute the same gradients. -/
theorem algebraic : Cert.algebraic_FfnIdeal_FfnRefIdeal_pre_ffn_finite := by
  intro m ρ m' ρ' hpre hagree
  refine ⟨fun c => (Cert.FfnIdeal.Gen.dats m 0 c).arrAt 8 Cert.FfnIdeal.cfg0.N, fun c => (Cert.FfnIdeal.Gen.dats m 0 c).arrAt 9 Cert.FfnIdeal.cfg0.N,
    fun c => (Cert.FfnIdeal.Gen.dats m 0 c).arrAt 10 Cert.FfnIdeal.cfg0.N, fun c => (Cert.FfnIdeal.Gen.dats m 0 c).arrAt 11 Cert.FfnIdeal.cfg0.N,
    Cert.FfnIdeal.Value.run_blocks (F := Ideal) m ρ, ?_⟩
  refine (θ_run Cert.FfnRefIdeal.defs _ _).mono (fun r h c => ?_) (Cert.FfnRefIdeal.Value.run (F := Ideal) m' ρ')
  obtain ⟨e0, e1, e2, e3, e4⟩ := hagree c
  obtain ⟨hg, hgo, hu, hd⟩ := Ffn.layer_finite _ _ _ _ _ (hpre c)
  have hs := Ffn.Layer.dgateSum_eq _ hg hgo hu hd
  obtain ⟨h1, h2, h3, h4, hrest⟩ := h c
  refine ⟨h1.trans ?_, h2.trans ?_, h3.trans ?_, h4.trans ?_, hrest⟩
  · rw [Cert.FfnRefIdeal.Read.val_main_v48_eq, e0, e1, e2, e3, e4]
    exact (Cert.FfnIdeal.Arrays.array_dn m c _ fun t s k => Cert.FfnRefIdeal.Layer.dn _ _ _ _ _ hs t s k).symm
  · rw [Cert.FfnRefIdeal.Read.val_main_v45_eq, e0, e1, e2, e3, e4]
    exact (Cert.FfnIdeal.Arrays.array_dwg m c _ fun t k f => Cert.FfnRefIdeal.Layer.dwg _ _ _ _ _ hs t k f).symm
  · rw [Cert.FfnRefIdeal.Read.val_main_v42_eq, e0, e1, e2, e3, e4]
    exact (Cert.FfnIdeal.Arrays.array_dwu m c _ fun t k f => Cert.FfnRefIdeal.Layer.dwu _ _ _ _ _ t k f).symm
  · rw [Cert.FfnRefIdeal.Read.val_main_v49_eq, e0, e1, e2, e3]
    exact (Cert.FfnIdeal.Arrays.array_dwd m c _ fun t f k => Cert.FfnRefIdeal.Layer.dwd _ _ _ _ _ t f k).symm

end Cert.Proof.FfnClaims
-- ==== Proof.FwdMath.lean ====
/-
  A HALF-STEP FEED-FORWARD LAYER, over the extended reals.

  `Ffn.Layer` names the layer's values at coordinates; here are the layer's result and the sum over the shards of hidden units that it
  adds to the stream.
-/
module

public import proofs.«01_k».proof.Proof.FfnMath

@[expose] public section

noncomputable section

namespace Ffn

open Idealize.ShloMosaic
open scoped BigOperators

/-- The forward layer that a launch's arguments hold: no cotangent belongs to it. -/
abbrev forward (x0 : (⟨2, ![8192, 1024]⟩ : Shape).Idx → EReal) (x1 : (⟨2, ![1, 1024]⟩ : Shape).Idx → EReal)
    (x2 : (⟨4, ![8, 4, 1024, 704]⟩ : Shape).Idx → EReal) (x3 : (⟨3, ![4, 2816, 1024]⟩ : Shape).Idx → EReal) : Layer :=
  layer x0 (fun _ => 0) x1 x2 x3

namespace Layer
variable (D : Layer)

/-- A shard's part of the down product. -/
def down (t : Fin 4) (s : Fin 8192) (k : Fin 1024) : EReal := ∑ f, D.act t s f * D.up t s f * D.wd t f k
/-- The layer's result: the stream and half the down product. -/
def out (s : Fin 8192) (k : Fin 1024) : EReal := D.h s k + Ideal.ofBits .f32 0x3F000000#32 * ∑ t, D.down t s k
/-- The down product of the first `n` shards. -/
def downTo (n : ℕ) (s : Fin 8192) (k : Fin 1024) : EReal := ∑ u ∈ Finset.range n, if h : u < 4 then D.down ⟨u, h⟩ s k else 0

theorem downTo_zero (s : Fin 8192) (k : Fin 1024) : D.downTo 0 s k = 0 := rfl
theorem downTo_succ (t : Fin 4) (s : Fin 8192) (k : Fin 1024) : D.downTo t.val s k + D.down t s k = D.downTo (t.val + 1) s k := by
  unfold downTo
  rw [Finset.sum_range_succ, dif_pos t.isLt]
/-- The four shards are the whole down product. -/
theorem downTo_all (s : Fin 8192) (k : Fin 1024) : D.downTo 4 s k = ∑ t, D.down t s k := by
  unfold downTo
  rw [← Fin.sum_univ_eq_sum_range (fun u => if h : u < 4 then D.down ⟨u, h⟩ s k else 0) 4]
  exact Finset.sum_congr rfl fun t _ => by rw [dif_pos t.isLt]

end Layer

end Ffn
-- ==== Proof.FwdTile.lean ====
/-
  WHAT ONE TILE OF THE FEED-FORWARD KERNEL LEAVES IN ITS OUTPUT BLOCKS AND IN THE TWO BUFFERS THAT IT CARRIES.

  The grid walks, for each block of 1024 rows, the four shards of 704 hidden units. `x0` is the block of the stream, `x1` the gain,
  `x2`, `x3` and `x4` the shard's gate, up and down weights. The first shard's tile leaves the normed rows in one carried buffer; the
  other carried buffer sums the shards' parts of the down product, and the last shard's tile stores the rows of the result.
-/
module

public import proofs.«01_k».proof.Proof.FwdMath
public import proofs.«01_k».proof.Proof.Gen.FwdIdeal.Value
public import Idealize.ShloMosaic.Lib.Pointwise

@[expose] public section

set_option maxRecDepth 16384

noncomputable section

namespace Cert.FwdIdeal.Tile

open Cert.FwdIdeal Cert.FwdIdeal.Gen Idealize.ShloMosaic Idealize.ShloMosaic.TcCoe Idealize.ShloMosaic.Tactic
open scoped BigOperators

/-- What the blocks of a tile hold, and the normed rows `y` that it reads: the layer `D` at shard `u` and the rows `s`. -/
structure Reads (x0 : Vec Ideal S1024x1024 .f32) (x1 : Vec Ideal S1x1024 .f32) (x2 x3 : Vec Ideal S1x1x1024x704 .bf16)
    (x4 : Vec Ideal S1x704x1024 .bf16) (D : Ffn.Layer) (u : Fin 4) (s : Fin 1024 → Fin 8192) : Prop where
  h : ∀ r k, x0 (ix2 r k) = D.h (s r) k
  gain : ∀ k, x1 (ix2 (0 : Fin 1) k) = D.gain k
  wg : ∀ k f, x2 (ix4 (0 : Fin 1) (0 : Fin 1) k f) = D.wg u k f
  wu : ∀ k f, x3 (ix4 (0 : Fin 1) (0 : Fin 1) k f) = D.wu u k f
  wd : ∀ f k, x4 (ix3 (0 : Fin 1) f k) = D.wd u f k

namespace Reads
variable {x0 : Vec Ideal S1024x1024 .f32} {x1 : Vec Ideal S1x1024 .f32} {x2 x3 : Vec Ideal S1x1x1024x704 .bf16}
  {x4 : Vec Ideal S1x704x1024 .bf16} {D : Ffn.Layer} {u : Fin 4} {s : Fin 1024 → Fin 8192} (R : Reads x0 x1 x2 x3 x4 D u s)
  {y : Vec Ideal S1024x1024 .bf16} (hy : ∀ r k, y (ix2 r k) = D.n (s r) k)
include R

/-- The normed rows. -/
theorem normed (r : Fin 1024) (k : Fin 1024) : k0_pay3 x0 x1 (ix2 r k) = D.n (s r) k := by
  have e : k0_pay3 x0 x1 (ix2 r k) = x0 (ix2 r k)
      * Ideal.rsqrt (Ideal.div (∑ k, x0 (ix2 r k) * x0 (ix2 r k)) (Ideal.ofBits .f32 0x44800000#32) + Ideal.ofBits .f32 0x358637BD#32)
      * x1 (ix2 (0 : Fin 1) k) := by
    pointwise [k0_pay3]
    try rfl
  rw [e]
  simp only [R.h, R.gain]
  rfl

include hy

/-- The gate. -/
theorem gate (r : Fin 1024) (f : Fin 704) : k0_pay5 y x2 (ix2 r f) = D.gate u (s r) f := by
  have e : k0_pay5 y x2 (ix2 r f) = ∑ k, y (ix2 r k) * x2 (ix4 (0 : Fin 1) (0 : Fin 1) k f) := by
    pointwise [k0_pay5]
    try simp only [zero_add]
    try rfl
  rw [e]
  simp only [hy, R.wg]
  rfl

/-- The up product. -/
theorem up (r : Fin 1024) (f : Fin 704) : k0_pay6 y x3 (ix2 r f) = D.up u (s r) f := by
  have e : k0_pay6 y x3 (ix2 r f) = ∑ k, y (ix2 r k) * x3 (ix4 (0 : Fin 1) (0 : Fin 1) k f) := by
    pointwise [k0_pay6]
    try simp only [zero_add]
    try rfl
  rw [e]
  simp only [hy, R.wu]
  rfl

/-- The gate as it is stored. -/
theorem gate_stored (r : Fin 1024) (f : Fin 704) : k0_pay7 y x2 (ix3 (0 : Fin 1) r f) = D.gate u (s r) f := by
  rw [← R.gate hy]
  pointwise [k0_pay7]
  try rfl

/-- The up product as it is stored. -/
theorem up_stored (r : Fin 1024) (f : Fin 704) : k0_pay8 y x3 (ix3 (0 : Fin 1) r f) = D.up u (s r) f := by
  rw [← R.up hy]
  pointwise [k0_pay8]
  try rfl

/-- The hidden units. -/
theorem hidden (r : Fin 1024) (f : Fin 704) : k0_pay9 y x2 x3 (ix2 r f) = D.act u (s r) f * D.up u (s r) f := by
  have e : k0_pay9 y x2 x3 (ix2 r f) = k0_pay5 y x2 (ix2 r f)
      * Ideal.div (Ideal.ofBits .f32 0x3F800000#32) (Ideal.ofBits .f32 0x3F800000#32 + Ideal.exp (Ideal.ofBits .f32 0x00000000#32 - k0_pay5 y x2 (ix2 r f)))
      * k0_pay6 y x3 (ix2 r f) := by
    pointwise [k0_pay9]
    try rfl
  rw [e, R.gate hy, R.up hy, Ideal.ofBits_one_f32, Ideal.ofBits_zero_f32, zero_sub]
  rfl

/-- The carried sum after the tile: what it held and the shard's part of the down product. -/
theorem summed (a : Vec Ideal S1024x1024 .f32) (r : Fin 1024) (k : Fin 1024) :
    k0_pay1 a (k0_pay9 y x2 x3) x4 (ix2 r k) = a (ix2 r k) + D.down u (s r) k := by
  have e : ∀ p : FVec Ideal S1024x704 .f32, k0_pay1 a p x4 (ix2 r k)
      = a (ix2 r k) + ∑ f, p (ix2 r f) * x4 (ix3 (0 : Fin 1) f k) := by
    intro p
    pointwise [k0_pay1]
    try simp only [zero_add]
    try rfl
  rw [e]
  simp only [R.hidden hy, R.wd]
  rfl

omit hy
/-- The rows of the result. -/
theorem result (a : Vec Ideal S1024x1024 .f32) (r : Fin 1024) (k : Fin 1024) :
    k0_pay2 x0 a (ix2 r k) = D.h (s r) k + Ideal.ofBits .f32 0x3F000000#32 * a (ix2 r k) := by
  rw [← R.h]
  pointwise [k0_pay2]
  try rfl

end Reads

/-- The carried sum begins at zero. -/
theorem zeros (r : Fin 1024) (k : Fin 1024) : k0_pay4 (F := Ideal) (ix2 r k) = 0 := by
  pointwise [k0_pay4]
  try exact Ideal.ofBits_zero_f32

end Cert.FwdIdeal.Tile
-- ==== Proof.FwdArray.lean ====
/-
  WHAT THE ARRAYS OF THE FEED-FORWARD KERNEL HOLD.

  At grid point `t` (block of rows `t / 4`, shard `t % 4`) the stored gate and up product are the shard's, the first carried buffer holds
  the block's normed rows, and the second the down product of the shards up to `t % 4`; the last shard's point completes the result.
-/
module

public import proofs.«01_k».proof.Proof.FwdTile
public import proofs.«01_k».proof.Proof.Gen.FwdIdeal.Value
public import Idealize.ShloMosaic.Lib.Pipeline.ValueKit
public import Idealize.ShloMosaic.Lib.Claim

@[expose] public section

set_option maxRecDepth 16384

noncomputable section

namespace Cert.FwdIdeal.Arrays

open Cert.FwdIdeal Cert.FwdIdeal.Gen Idealize.ShloMosaic Idealize.ShloMosaic.TcCoe
open scoped BigOperators

variable (m : (ℓ : Loc nD τ sig) → Buf (Elt Ideal) ℓ) (c : Dev nD)

/-! ## The grid point's coordinates -/

/-- The shard of a grid point. -/
def shard (t : Fin cfg0.N) : Fin 4 := ⟨t.val % 4, by omega⟩
/-- A row of the grid point's block of rows. -/
def row (t : Fin cfg0.N) (r : Fin 1024) : Fin 8192 :=
  ⟨t.val / 4 * 1024 + r.val, by have h1 : t.val < 32 := lt_of_lt_of_eq t.isLt N_0; omega⟩

theorem index_h : ∀ t : Fin cfg0.N, win0_0.index t = ![t.val / 4, 0] :=
  (by decide +kernel : ∀ t : Fin grid0.N, win0_0.index t = ![t.val / 4, 0])
theorem index_gain : ∀ t : Fin cfg0.N, win0_1.index t = ![0, 0] :=
  (by decide +kernel : ∀ t : Fin grid0.N, win0_1.index t = ![0, 0])
theorem index_wg : ∀ t : Fin cfg0.N, win0_2.index t = ![t.val % 4, 0, 0, 0] :=
  (by decide +kernel : ∀ t : Fin grid0.N, win0_2.index t = ![t.val % 4, 0, 0, 0])
theorem index_wu : ∀ t : Fin cfg0.N, win0_3.index t = ![4 + t.val % 4, 0, 0, 0] :=
  (by decide +kernel : ∀ t : Fin grid0.N, win0_3.index t = ![4 + t.val % 4, 0, 0, 0])
theorem index_wd : ∀ t : Fin cfg0.N, win0_4.index t = ![0, t.val % 4, 0] :=
  (by decide +kernel : ∀ t : Fin grid0.N, win0_4.index t = ![0, t.val % 4, 0])
theorem index_out : ∀ t : Fin cfg0.N, win0_5.index t = ![t.val / 4, 0] :=
  (by decide +kernel : ∀ t : Fin grid0.N, win0_5.index t = ![t.val / 4, 0])
theorem index_gate : ∀ t : Fin cfg0.N, win0_6.index t = ![t.val % 4, t.val / 4, 0] :=
  (by decide +kernel : ∀ t : Fin grid0.N, win0_6.index t = ![t.val % 4, t.val / 4, 0])
theorem index_up : ∀ t : Fin cfg0.N, win0_7.index t = ![t.val % 4, t.val / 4, 0] :=
  (by decide +kernel : ∀ t : Fin grid0.N, win0_7.index t = ![t.val % 4, t.val / 4, 0])

/-! ## The blocks read at coordinates -/

/-- The layer in the launch's arguments. -/
abbrev D : Ffn.Layer :=
  Ffn.forward (m ((c : Thread nD τ).loc main_arg0)) (m ((c : Thread nD τ).loc main_arg1)) (m ((c : Thread nD τ).loc main_arg2))
    (m ((c : Thread nD τ).loc main_arg3))

variable (t : Fin cfg0.N)

theorem block_h (r : Fin 1024) (k : Fin 1024) : iblk m c 0 t (ix2 r k) = (D m c).h (row t r) k := by
  blk_simp [iblk]
  rw [V_main_arg0]
  refine congrArg (m ((c : Thread nD τ).loc main_arg0)) ?_
  blk_ext [index_h t, row]

theorem block_gain (k : Fin 1024) : iblk m c 1 t (ix2 (0 : Fin 1) k) = (D m c).gain k := by
  blk_simp [iblk]
  rw [V_main_arg1]
  refine congrArg (m ((c : Thread nD τ).loc main_arg1)) ?_
  blk_ext [index_gain t]

theorem block_wg (k : Fin 1024) (f : Fin 704) : iblk m c 2 t (ix4 (0 : Fin 1) (0 : Fin 1) k f) = (D m c).wg (shard t) k f := by
  blk_simp [iblk]
  rw [V_main_arg2]
  refine congrArg (m ((c : Thread nD τ).loc main_arg2)) ?_
  blk_ext [index_wg t, shard, Ffn.gateShard]

theorem block_wu (k : Fin 1024) (f : Fin 704) : iblk m c 3 t (ix4 (0 : Fin 1) (0 : Fin 1) k f) = (D m c).wu (shard t) k f := by
  blk_simp [iblk]
  rw [V_main_arg2]
  refine congrArg (m ((c : Thread nD τ).loc main_arg2)) ?_
  blk_ext [index_wu t, shard, Ffn.upShard]

theorem block_wd (f : Fin 704) (k : Fin 1024) : iblk m c 4 t (ix3 (0 : Fin 1) f k) = (D m c).wd (shard t) f k := by
  blk_simp [iblk]
  rw [V_main_arg3]
  refine congrArg (m ((c : Thread nD τ).loc main_arg3)) ?_
  blk_ext [index_wd t, shard, Ffn.hidden]

/-- The blocks of a grid point hold the layer's values at its shard and rows. -/
theorem reads : Tile.Reads (iblk m c 0 t) (iblk m c 1 t) (iblk m c 2 t) (iblk m c 3 t) (iblk m c 4 t) (D m c) (shard t) (row t) :=
  ⟨block_h m c t, block_gain m c t, block_wg m c t, block_wu m c t, block_wd m c t⟩

/-! ## After each grid point -/

/-- What the stored gate and up product and the two carried buffers hold after grid point `t`. -/
def After (D : Ffn.Layer) (t : Fin cfg0.N)
    (o : (S1024x1024.Idx → EReal) × (S1x1024x704.Idx → EReal) × (S1x1024x704.Idx → EReal) × (S1024x1024.Idx → EReal) × (S1024x1024.Idx → EReal)) : Prop :=
  (∀ r f, o.2.1 (ix3 (0 : Fin 1) r f) = D.gate (shard t) (row t r) f)
  ∧ (∀ r f, o.2.2.1 (ix3 (0 : Fin 1) r f) = D.up (shard t) (row t r) f)
  ∧ (∀ r k, o.2.2.2.1 (ix2 r k) = D.n (row t r) k)
  ∧ (∀ r k, o.2.2.2.2 (ix2 r k) = D.downTo (t.val % 4 + 1) (row t r) k)

theorem after_A (h0 : t.val % 4 = 0) : After (D m c) t (outsAt0 m c t.val t.isLt) := by
  have R := reads m c t
  rw [outsAt0_A m c t h0 (by omega)]
  refine ⟨fun r f => ?_, fun r f => ?_, fun r k => ?_, fun r k => ?_⟩
  · dsimp only
    frame_out
    exact R.gate_stored R.normed r f
  · dsimp only
    frame_out
    exact R.up_stored R.normed r f
  · dsimp only
    frame_out
    exact R.normed r k
  · dsimp only
    frame_out
    refine (R.summed R.normed _ r k).trans ?_
    rw [Tile.zeros, ← Ffn.Layer.downTo_zero]
    exact ((congrArg (fun n => (D m c).downTo n (row t r) k + _) h0).symm).trans ((D m c).downTo_succ (shard t) (row t r) k)

/-- A point that is not the first of its run follows a point of the same rows and the shard before. -/
theorem prev (h0 : ¬ t.val % 4 = 0) : ∃ p : Fin cfg0.N, p.val = t.val - 1 ∧ row p = row t ∧ p.val % 4 + 1 = t.val % 4 := by
  refine ⟨⟨t.val - 1, lt_of_le_of_lt (Nat.sub_le _ _) t.isLt⟩, rfl, ?_, ?_⟩
  · funext r; apply Fin.ext; simp only [row]; omega
  · show (t.val - 1) % 4 + 1 = t.val % 4; omega

/-- What the normed rows' buffer was left with is what it is read with. -/
theorem read_normed (y : Vec Ideal S1024x1024 .bf16) :
    View.read (Elt Ideal) (View.whole cc0_scratch0) ((Memref.isWhole_whole (κ := .tc) cc0_scratch0).unread y) = y :=
  (Memref.isWhole_whole (κ := .tc) cc0_scratch0).read_unread y
/-- What the carried sum's buffer was left with is what it is read with. -/
theorem read_sum (a : Vec Ideal S1024x1024 .f32) :
    View.read (Elt Ideal) (View.whole cc0_scratch1) ((Memref.isWhole_whole (κ := .tc) cc0_scratch1).unread a) = a :=
  (Memref.isWhole_whole (κ := .tc) cc0_scratch1).read_unread a

/-- The carried buffers as a later shard's point finds them. -/
def Found (D : Ffn.Layer) (t : Fin cfg0.N) (y a : S1024x1024.Idx → EReal) : Prop :=
  (∀ r k, y (ix2 r k) = D.n (row t r) k) ∧ (∀ r k, a (ix2 r k) = D.downTo (t.val % 4) (row t r) k)

theorem found (h0 : ¬ t.val % 4 = 0)
    (ih : ∀ p : Fin cfg0.N, p.val = t.val - 1 → After (D m c) p (outsAt0 m c p.val p.isLt)) :
    Found (D m c) t (outsAt0 m c (t.val - 1) (Nat.lt_of_le_of_lt (Nat.sub_le _ _) t.isLt)).2.2.2.1
      (outsAt0 m c (t.val - 1) (Nat.lt_of_le_of_lt (Nat.sub_le _ _) t.isLt)).2.2.2.2 := by
  obtain ⟨p, hp, er, es⟩ := prev t h0
  obtain ⟨_, _, i3, i4⟩ := ih p hp
  simp only [er, es] at i3 i4
  simp only [hp] at i3 i4
  exact ⟨i3, i4⟩

theorem summed_next {y a : S1024x1024.Idx → EReal} (hf : Found (D m c) t y a) (r k : Fin 1024) :
    k0_pay1 (F := Ideal) a (k0_pay9 y (iblk m c 2 t) (iblk m c 3 t)) (iblk m c 4 t) (ix2 r k) = (D m c).downTo (t.val % 4 + 1) (row t r) k := by
  refine ((reads m c t).summed hf.1 a r k).trans ?_
  rw [hf.2]
  exact (D m c).downTo_succ (shard t) (row t r) k

theorem after_B (h0 : ¬ t.val % 4 = 0) (h1 : ¬ t.val % 4 = 3)
    (hf : Found (D m c) t (outsAt0 m c (t.val - 1) (Nat.lt_of_le_of_lt (Nat.sub_le _ _) t.isLt)).2.2.2.1
      (outsAt0 m c (t.val - 1) (Nat.lt_of_le_of_lt (Nat.sub_le _ _) t.isLt)).2.2.2.2) : After (D m c) t (outsAt0 m c t.val t.isLt) := by
  have R := reads m c t
  rw [outsAt0_B m c t h0 h1]
  refine ⟨fun r f => ?_, fun r f => ?_, fun r k => ?_, fun r k => ?_⟩
  · dsimp only
    frame_out
    simp only [read_normed, read_sum]
    exact R.gate_stored hf.1 r f
  · dsimp only
    frame_out
    simp only [read_normed, read_sum]
    exact R.up_stored hf.1 r f
  · exact hf.1 r k
  · dsimp only
    frame_out
    simp only [read_normed, read_sum]
    exact summed_next m c t hf r k

/-- The last shard's point leaves the result's rows too. -/
theorem after_C (h0 : ¬ t.val % 4 = 0) (h1 : t.val % 4 = 3)
    (hf : Found (D m c) t (outsAt0 m c (t.val - 1) (Nat.lt_of_le_of_lt (Nat.sub_le _ _) t.isLt)).2.2.2.1
      (outsAt0 m c (t.val - 1) (Nat.lt_of_le_of_lt (Nat.sub_le _ _) t.isLt)).2.2.2.2) :
    After (D m c) t (outsAt0 m c t.val t.isLt) ∧ ∀ r k, (outsAt0 m c t.val t.isLt).1 (ix2 r k) = (D m c).out (row t r) k := by
  have R := reads m c t
  rw [outsAt0_C m c t h0 h1]
  refine ⟨⟨fun r f => ?_, fun r f => ?_, fun r k => ?_, fun r k => ?_⟩, fun r k => ?_⟩
  · dsimp only
    frame_out
    simp only [read_normed, read_sum]
    exact R.gate_stored hf.1 r f
  · dsimp only
    frame_out
    simp only [read_normed, read_sum]
    exact R.up_stored hf.1 r f
  · exact hf.1 r k
  · dsimp only
    frame_out
    simp only [read_normed, read_sum]
    exact summed_next m c t hf r k
  · dsimp only
    frame_out
    simp only [read_normed, read_sum]
    refine (R.result _ r k).trans ?_
    rw [summed_next m c t hf r k, h1]
    exact congrArg (fun z => _ + _ * z) ((D m c).downTo_all (row t r) k)

/-- After every grid point the buffers hold the layer's values. -/
theorem after_all (n : ℕ) : ∀ t : Fin cfg0.N, t.val = n → After (D m c) t (outsAt0 m c t.val t.isLt) := by
  induction n using Nat.strong_induction_on with
  | _ n ih =>
    intro t ht
    by_cases h0 : t.val % 4 = 0
    · exact after_A m c t h0
    · have hf := found m c t h0 fun p hp => ih p.val (by omega) p rfl
      by_cases h1 : t.val % 4 = 3
      · exact (after_C m c t h0 h1 hf).1
      · exact after_B m c t h0 h1 hf

/-- After the last shard the result's block holds the layer's result. -/
theorem after_last (h1 : t.val % 4 = 3) (r k : Fin 1024) : (outsAt0 m c t.val t.isLt).1 (ix2 r k) = (D m c).out (row t r) k :=
  (after_C m c t (by omega) h1 (found m c t (by omega) fun p _ => after_all m c p.val p rfl)).2 r k

/-! ## The arrays -/

/-- The array of the result, given as any array `G` that reads it. -/
theorem array_out (G : Buf (Elt Ideal) ((c : Thread nD τ).loc main_v0_0))
    (hG : ∀ s k, G (ix2 s k) = (D m c).out s k) : (dats m 0 c).arrAt 5 cfg0.N = G := by
  refine (dats m 0 c).arrAt_eq_of_covers 5 G (by decide +kernel) fun t hf y => ?_
  blk_simp
  rw [after0_5]
  idx_vars y
  refine (after_last m c t ((flush0_5 t).mp hf) y0 y1).trans ((hG _ _).symm.trans (congrArg G ?_))
  blk_ext [index_out t, row]

/-- The array of the saved gate. -/
theorem array_gate (G : Buf (Elt Ideal) ((c : Thread nD τ).loc main_v0_1))
    (hG : ∀ u s f, G (ix3 u s f) = (D m c).gate u s f) : (dats m 0 c).arrAt 6 cfg0.N = G := by
  refine (dats m 0 c).arrAt_eq_of_covers 6 G (by decide +kernel) fun t hf y => ?_
  blk_simp
  rw [after0_6]
  idx_vars y
  obtain rfl : y0 = 0 := Subsingleton.elim _ _
  refine ((after_all m c t.val t rfl).1 y1 y2).trans ((hG _ _ _).symm.trans (congrArg G ?_))
  blk_ext [index_gate t, row, shard]

/-- The array of the saved up product. -/
theorem array_up (G : Buf (Elt Ideal) ((c : Thread nD τ).loc main_v0_2))
    (hG : ∀ u s f, G (ix3 u s f) = (D m c).up u s f) : (dats m 0 c).arrAt 7 cfg0.N = G := by
  refine (dats m 0 c).arrAt_eq_of_covers 7 G (by decide +kernel) fun t hf y => ?_
  blk_simp
  rw [after0_7]
  idx_vars y
  obtain rfl : y0 = 0 := Subsingleton.elim _ _
  refine ((after_all m c t.val t rfl).2.1 y1 y2).trans ((hG _ _ _).symm.trans (congrArg G ?_))
  blk_ext [index_up t, row, shard]

end Cert.FwdIdeal.Arrays
-- ==== Proof.FwdRef.lean ====
/-
  WHAT THE FORWARD REFERENCE COMPUTES: the stream plus half the plain feed-forward layer of its normed rows, value by value, in the
  coordinates of `Ffn.Layer`.
-/
module

public import proofs.«01_k».proof.Proof.FwdMath
public import proofs.«01_k».proof.Proof.Gen.FwdRefIdeal.Read
public import Idealize.ShloMosaic.Lib.Pointwise

@[expose] public section

set_option maxRecDepth 16384

noncomputable section

namespace Cert.FwdRefIdeal.Layer

open Cert.FwdRefIdeal Cert.FwdRefIdeal.Gen Cert.FwdRefIdeal.Read Idealize.ShloMosaic
open scoped BigOperators

/-! ### Where each operation reads -/

theorem at_v1 (s : Fin 8192) (k : Fin 1024) : idx_main_v1 (ix1 s) k = (ix2 s k) :=
  funext fun a => Fin.ext (by match a with
    | ⟨0, _⟩ => rfl
    | ⟨1, _⟩ => rfl)
theorem at_v2 (s : Fin 8192) : idx_main_v2 (ix2 s (0 : Fin 1)) = (ix1 s) :=
  funext fun a => Fin.ext (by match a with
    | ⟨0, _⟩ => rfl)
theorem at_v8 (s : Fin 8192) (k : Fin 1024) : idx_main_v8 (ix2 s k) = (ix2 s (0 : Fin 1)) :=
  funext fun a => Fin.ext (by match a with
    | ⟨0, _⟩ => rfl
    | ⟨1, _⟩ => rfl)
theorem at_v10 (s : Fin 8192) (k : Fin 1024) : idx_main_v10 (ix2 s k) = (ix2 (0 : Fin 1) k) :=
  funext fun a => Fin.ext (by match a with
    | ⟨0, _⟩ => rfl
    | ⟨1, _⟩ => rfl)
theorem at_v15 (t : Fin 4) (k : Fin 1024) (f : Fin 704) : idx_main_v15 (ix3 t k f) = (ix4 t (0 : Fin 1) k f) :=
  funext fun a => Fin.ext (by match a with
    | ⟨0, _⟩ => show ((t.val * 1024 + k.val) * 704 + f.val) / 720896 = t.val; omega
    | ⟨1, _⟩ => rfl
    | ⟨2, _⟩ => show ((t.val * 1024 + k.val) * 704 + f.val) / 704 % 1024 = k.val; omega
    | ⟨3, _⟩ => show ((t.val * 1024 + k.val) * 704 + f.val) % 704 = f.val; omega)
theorem at_v14 (t : Fin 4) (k : Fin 1024) (f : Fin 704) : idx_main_v14 (ix4 t (0 : Fin 1) k f) = (ix4 (Ffn.gateShard t) (0 : Fin 4) k f) :=
  funext fun a => Fin.ext (by match a with
    | ⟨0, _⟩ => rfl
    | ⟨1, _⟩ => rfl
    | ⟨2, _⟩ => rfl
    | ⟨3, _⟩ => rfl)
theorem at_v18 (t : Fin 4) (k : Fin 1024) (f : Fin 704) : idx_main_v18 (ix3 t k f) = (ix4 t (0 : Fin 1) k f) :=
  funext fun a => Fin.ext (by match a with
    | ⟨0, _⟩ => show ((t.val * 1024 + k.val) * 704 + f.val) / 720896 = t.val; omega
    | ⟨1, _⟩ => rfl
    | ⟨2, _⟩ => show ((t.val * 1024 + k.val) * 704 + f.val) / 704 % 1024 = k.val; omega
    | ⟨3, _⟩ => show ((t.val * 1024 + k.val) * 704 + f.val) % 704 = f.val; omega)
theorem at_v17 (t : Fin 4) (k : Fin 1024) (f : Fin 704) : idx_main_v17 (ix4 t (0 : Fin 1) k f) = (ix4 (Ffn.upShard t) (0 : Fin 4) k f) :=
  funext fun a => Fin.ext (by match a with
    | ⟨0, _⟩ => rfl
    | ⟨1, _⟩ => rfl
    | ⟨2, _⟩ => rfl
    | ⟨3, _⟩ => rfl)
theorem at_v23 (t : Fin 4) (f : Fin 704) (k : Fin 1024) : idx_main_v23 (ix3 t f k) = (ix2 (Ffn.hidden t f) k) :=
  funext fun a => Fin.ext (by match a with
    | ⟨0, _⟩ => show ((t.val * 704 + f.val) * 1024 + k.val) / 1024 = t.val * 704 + f.val; omega
    | ⟨1, _⟩ => show ((t.val * 704 + f.val) * 1024 + k.val) % 1024 = k.val; omega)
theorem at_v21 (t : Fin 4) (f : Fin 704) (k : Fin 1024) : idx_main_v21 (ix2 (Ffn.hidden t f) k) = (ix3 (0 : Fin 1) (Ffn.hidden t f) k) :=
  funext fun a => Fin.ext (by match a with
    | ⟨0, _⟩ => rfl
    | ⟨1, _⟩ => show ((t.val * 704 + f.val) * 1024 + k.val) / 1024 % 2816 = t.val * 704 + f.val; omega
    | ⟨2, _⟩ => show ((t.val * 704 + f.val) * 1024 + k.val) % 1024 = k.val; omega)
theorem at_v20 (t : Fin 4) (f : Fin 704) (k : Fin 1024) : idx_main_v20 (ix3 (0 : Fin 1) (Ffn.hidden t f) k) = (ix3 (0 : Fin 4) (Ffn.hidden t f) k) :=
  funext fun a => Fin.ext (by match a with
    | ⟨0, _⟩ => rfl
    | ⟨1, _⟩ => rfl
    | ⟨2, _⟩ => rfl)
theorem at_l24 (t : Fin 4) (s : Fin 8192) (f : Fin 704) (k : Fin 1024) : lidx_main_v24 (ix3 t f s) k = (ix3 t k f) :=
  funext fun a => Fin.ext (by match a with
    | ⟨0, _⟩ => rfl
    | ⟨1, _⟩ => rfl
    | ⟨2, _⟩ => rfl)
theorem at_r24 (t : Fin 4) (s : Fin 8192) (f : Fin 704) (k : Fin 1024) : ridx_main_v24 (ix3 t f s) k = (ix2 s k) :=
  funext fun a => Fin.ext (by match a with
    | ⟨0, _⟩ => rfl
    | ⟨1, _⟩ => rfl)
theorem at_v25 (t : Fin 4) (s : Fin 8192) (f : Fin 704) : idx_main_v25 (ix3 t s f) = (ix3 t f s) :=
  funext fun a => Fin.ext (by match a with
    | ⟨0, _⟩ => rfl
    | ⟨1, _⟩ => rfl
    | ⟨2, _⟩ => rfl)
theorem at_l26 (t : Fin 4) (s : Fin 8192) (f : Fin 704) (k : Fin 1024) : lidx_main_v26 (ix3 t f s) k = (ix3 t k f) :=
  funext fun a => Fin.ext (by match a with
    | ⟨0, _⟩ => rfl
    | ⟨1, _⟩ => rfl
    | ⟨2, _⟩ => rfl)
theorem at_r26 (t : Fin 4) (s : Fin 8192) (f : Fin 704) (k : Fin 1024) : ridx_main_v26 (ix3 t f s) k = (ix2 s k) :=
  funext fun a => Fin.ext (by match a with
    | ⟨0, _⟩ => rfl
    | ⟨1, _⟩ => rfl)
theorem at_v27 (t : Fin 4) (s : Fin 8192) (f : Fin 704) : idx_main_v27 (ix3 t s f) = (ix3 t f s) :=
  funext fun a => Fin.ext (by match a with
    | ⟨0, _⟩ => rfl
    | ⟨1, _⟩ => rfl
    | ⟨2, _⟩ => rfl)

variable (x0 : (⟨S8192x1024, .f32⟩ : BufTy).Contents (Elt Ideal)) (x1 : (⟨S1x1024, .f32⟩ : BufTy).Contents (Elt Ideal))
  (x2 : (⟨S8x4x1024x704, .bf16⟩ : BufTy).Contents (Elt Ideal)) (x3 : (⟨S4x2816x1024, .bf16⟩ : BufTy).Contents (Elt Ideal))

/-! ### The values -/

/-- The normed stream. -/
theorem normed (s : Fin 8192) (k : Fin 1024) : val_main_v13 (F := Ideal) x0 x1 (ix2 s k) = (Ffn.forward x0 x1 x2 x3).n s k := by
  have h1 : val_main_v1 (F := Ideal) x0 (ix1 s) = ∑ k, x0 (ix2 s k) * x0 (ix2 s k) := by
    rw [val_main_v1_apply, val_main_cst_apply]
    simp only [at_v1, val_main_v0_apply]
    exact (congrArg (· + _) Ideal.ofBits_zero_f32).trans (zero_add _)
  rw [val_main_v13_apply, val_main_v12_apply, val_main_v11_apply, val_main_v10_apply, at_v10, val_main_v9_apply, val_main_v8_apply, at_v8,
    val_main_v7_apply, val_main_v6_apply, val_main_v5_apply, val_main_cst_1_apply, val_main_v4_apply, val_main_v3_apply,
    val_main_cst_0_apply, val_main_v2_apply, at_v2, h1]
  rfl

/-- The gate's weights. -/
theorem gateWeight (t : Fin 4) (k : Fin 1024) (f : Fin 704) : val_main_v16 (F := Ideal) x2 (ix3 t k f) = (Ffn.forward x0 x1 x2 x3).wg t k f := by
  rw [val_main_v16_apply, val_main_v15_apply, at_v15, val_main_v14_apply, at_v14]
  rfl
/-- The weights of the up product. -/
theorem upWeight (t : Fin 4) (k : Fin 1024) (f : Fin 704) : val_main_v19 (F := Ideal) x2 (ix3 t k f) = (Ffn.forward x0 x1 x2 x3).wu t k f := by
  rw [val_main_v19_apply, val_main_v18_apply, at_v18, val_main_v17_apply, at_v17]
  rfl
/-- The weights of the down product. -/
theorem downWeight (t : Fin 4) (f : Fin 704) (k : Fin 1024) : val_main_v23 (F := Ideal) x3 (ix3 t f k) = (Ffn.forward x0 x1 x2 x3).wd t f k := by
  rw [val_main_v23_apply, at_v23, val_main_v22_apply, val_main_v21_apply, at_v21, val_main_v20_apply, at_v20]
  rfl
/-- The gate. -/
theorem gate (t : Fin 4) (s : Fin 8192) (f : Fin 704) : val_main_v25 (F := Ideal) x0 x1 x2 (ix3 t s f) = (Ffn.forward x0 x1 x2 x3).gate t s f := by
  rw [val_main_v25_apply, at_v25, val_main_v24_apply]
  simp only [at_l24, at_r24, normed x0 x1 x2 x3, gateWeight x0 x1 x2 x3]
  exact Finset.sum_congr rfl fun k _ => mul_comm _ _
/-- The up product. -/
theorem up (t : Fin 4) (s : Fin 8192) (f : Fin 704) : val_main_v27 (F := Ideal) x0 x1 x2 (ix3 t s f) = (Ffn.forward x0 x1 x2 x3).up t s f := by
  rw [val_main_v27_apply, at_v27, val_main_v26_apply]
  simp only [at_l26, at_r26, normed x0 x1 x2 x3, upWeight x0 x1 x2 x3]
  exact Finset.sum_congr rfl fun k _ => mul_comm _ _
/-- The gate's activation. -/
theorem act (t : Fin 4) (s : Fin 8192) (f : Fin 704) : val_main_v28 (F := Ideal) x0 x1 x2 (ix3 t s f) = (Ffn.forward x0 x1 x2 x3).act t s f := by
  rw [val_main_v28_apply, val_main_call0_v5_apply, val_main_call0_v4_apply, val_main_call0_cst_0_apply, val_main_call0_v3_apply, val_main_call0_v2_apply,
    val_main_call0_cst_apply, val_main_call0_v1_apply, val_main_call0_v0_apply, gate x0 x1 x2 x3]
  unfold Ffn.Layer.act
  generalize (Ffn.forward x0 x1 x2 x3).gate t s f = g
  show g * Ideal.div (Ideal.ofBits .f32 0x3F800000#32) (Ideal.ofBits .f32 0x3F800000#32 + Ideal.exp (-g)) = _
  rw [Ideal.ofBits_one_f32]
  rfl
/-- The hidden units. -/
theorem hidden (t : Fin 4) (s : Fin 8192) (f : Fin 704) : val_main_v29 (F := Ideal) x0 x1 x2 (ix3 t s f)
    = (Ffn.forward x0 x1 x2 x3).act t s f * (Ffn.forward x0 x1 x2 x3).up t s f := by
  rw [val_main_v29_apply, act x0 x1 x2 x3, up x0 x1 x2 x3]
  rfl

/-- A sum over the shards and their hidden units. -/
theorem contract (a : FVec Ideal S4x8192x704 .f32) (w : FVec Ideal S4x704x1024 .f32) (s : Fin 8192) (k : Fin 1024) :
    Host.dotGeneral dot_S4x8192x704_S4x704x1024_S8192x1024_20_10_1_2_n_n none a w (ix2 s k) = ∑ t, ∑ f, a (ix3 t s f) * w (ix3 t f k) := by
  pointwise []
  exact Finset.sum_comm

/-- The down product. -/
theorem down (s : Fin 8192) (k : Fin 1024) : val_main_v30 (F := Ideal) x0 x1 x2 x3 (ix2 s k) = ∑ t, (Ffn.forward x0 x1 x2 x3).down t s k := by
  unfold val_main_v30
  rw [contract]
  simp only [hidden x0 x1 x2 x3, downWeight x0 x1 x2 x3]
  rfl

/-! ### The results -/

/-- The layer's result. -/
theorem out (s : Fin 8192) (k : Fin 1024) : val_main_v33 (F := Ideal) x0 x1 x2 x3 (ix2 s k) = (Ffn.forward x0 x1 x2 x3).out s k := by
  rw [val_main_v33_apply, val_main_v32_apply, val_main_v31_apply, val_main_cst_2_apply, down]
  rfl
/-- The saved gate. -/
theorem gate_saved (t : Fin 4) (s : Fin 8192) (f : Fin 704) : val_main_v34 (F := Ideal) x0 x1 x2 (ix3 t s f) = (Ffn.forward x0 x1 x2 x3).gate t s f := by
  rw [val_main_v34_apply]
  exact gate x0 x1 x2 x3 t s f
/-- The saved up product. -/
theorem up_saved (t : Fin 4) (s : Fin 8192) (f : Fin 704) : val_main_v35 (F := Ideal) x0 x1 x2 (ix3 t s f) = (Ffn.forward x0 x1 x2 x3).up t s f := by
  rw [val_main_v35_apply]
  exact up x0 x1 x2 x3 t s f

end Cert.FwdRefIdeal.Layer
-- ==== Proof.FwdClaims.lean ====
/-
  THE CLAIMS ABOUT THE FEED-FORWARD LAYER'S FORWARD CALL, assembled.
-/
module

public import proofs.«01_k».proof.Defs
public import proofs.«01_k».proof.Proof.FwdArray
public import proofs.«01_k».proof.Proof.FwdRef
public import proofs.«01_k».proof.Proof.Gen.Fwd.Frame
public import proofs.«01_k».proof.Proof.Gen.FwdIdeal.Value
public import proofs.«01_k».proof.Proof.Gen.FwdRefIdeal.Run
public import proofs.«01_k».proof.Proof.Gen.FwdRefIdeal.Read
public import Idealize.ShloMosaic.Adequacy
public import Idealize.ShloMosaic.Init

@[expose] public section

noncomputable section

namespace Cert.Proof.FwdClaims

open Idealize.ShloMosaic Idealize.SL.Sem

/-- The kernel's frame. -/
theorem frame_kernel : Cert.quiescent_Fwd := fun m ρ _ => Cert.Fwd.Gen.frame m ρ
/-- The ideal kernel's frame. -/
theorem frame_ideal : Cert.quiescent_FwdIdeal := fun m ρ _ => Cert.FwdIdeal.Gen.frame m ρ

/-- The reference's frame. -/
theorem frame_ref : Cert.quiescent_FwdRefIdeal := fun m ρ _ =>
  (θ_run Cert.FwdRefIdeal.defs _ _).mono (fun r h => ⟨fun c => (h c).2.2.2, sem_eq_zero_of_no_sems (by decide) r.2⟩)
    (Cert.FwdRefIdeal.Value.run (F := Ideal) m ρ)

/-- The ideal program is the kernel, with nothing rewritten. -/
theorem preserves : Cert.preserves_Fwd_FwdIdeal := trivial

/-- Kernel and reference compute the same layer. -/
theorem algebraic : Cert.algebraic_FwdIdeal_FwdRefIdeal := by
  intro m ρ m' ρ' hpre hagree
  refine ⟨fun c => (Cert.FwdIdeal.Gen.dats m 0 c).arrAt 5 Cert.FwdIdeal.cfg0.N, fun c => (Cert.FwdIdeal.Gen.dats m 0 c).arrAt 6 Cert.FwdIdeal.cfg0.N,
    fun c => (Cert.FwdIdeal.Gen.dats m 0 c).arrAt 7 Cert.FwdIdeal.cfg0.N, Cert.FwdIdeal.Value.run_blocks (F := Ideal) m ρ, ?_⟩
  refine (θ_run Cert.FwdRefIdeal.defs _ _).mono (fun r h c => ?_) (Cert.FwdRefIdeal.Value.run (F := Ideal) m' ρ')
  obtain ⟨e0, e1, e2, e3⟩ := hagree c
  obtain ⟨h1, h2, h3, hrest⟩ := h c
  refine ⟨h1.trans ?_, h2.trans ?_, h3.trans ?_, hrest⟩
  · rw [Cert.FwdRefIdeal.Read.val_main_v33_eq, e0, e1, e2, e3]
    exact (Cert.FwdIdeal.Arrays.array_out m c _ fun s k => Cert.FwdRefIdeal.Layer.out _ _ _ _ s k).symm
  · rw [Cert.FwdRefIdeal.Read.val_main_v34_eq, e0, e1, e2]
    exact (Cert.FwdIdeal.Arrays.array_gate m c _ fun t s f => Cert.FwdRefIdeal.Layer.gate_saved _ _ _ _ t s f).symm
  · rw [Cert.FwdRefIdeal.Read.val_main_v35_eq, e0, e1, e2]
    exact (Cert.FwdIdeal.Arrays.array_up m c _ fun t s f => Cert.FwdRefIdeal.Layer.up_saved _ _ _ _ t s f).symm

end Cert.Proof.FwdClaims
-- ==== Proof.AttTile.lean ====
/-
  WHAT ONE TILE OF THE ATTENTION'S FORWARD KERNEL LEAVES IN ITS SCRATCH AND IN ITS TWO OUTPUT BLOCKS.

  The grid walks, for each group of three heads and each block `i` of 1024 rows (queries), the blocks `j` of 1024 columns
  (keys). `x0`, `x1`, `x2` are the blocks of q, k and v, `x3` the columns' gates in base 2. The scratch carries, for each row,
  the running maximum of the scores, the running sum of the weights and the running weighted sum of the values. A tile on or
  below the diagonal rescales the sums to the new maximum and adds its own; the last column block divides and stores.
  Each theorem `scr_κ_k` reads scratch `k` of case `κ`, each `out_κ_W` output `W`, at head `h` of the block.
-/
module

public import proofs.«01_k».proof.Proof.Gen.AttIdeal.Value
public import Idealize.ShloMosaic.Lib.Pointwise

@[expose] public section

set_option maxRecDepth 16384

noncomputable section

namespace Cert.AttIdeal.Tile

open Cert.AttIdeal Cert.AttIdeal.Gen Idealize.ShloMosaic Idealize.ShloMosaic.TcCoe Idealize.ShloMosaic.Tactic
open scoped BigOperators

/-! ## Stores of one head, read back at an index -/

section Stores
variable {Val : EltTy → Type} {e : EltTy} [∀ e, Nonempty (Val e)]

/-- A store of 128 columns from column `o`, read at column `k`. -/
theorem canon_cols (o : ℕ) (inb : ∀ a, (![0, o] : Fin 2 → ℕ) a + (![1024, 128] : Fin 2 → ℕ) a ≤ S1024x384.size a)
    (w : (⟨2, ![1024, 128]⟩ : Shape).Idx → Val e) (L : List (View.Piece Val S1024x384 e)) (r : Fin 1024) (k : Fin 384) :
    View.canon ((⟨Rect.unit ![0, o] ![1024, 128] inb, w⟩ : View.Piece Val S1024x384 e) :: L) (ix2 r k)
      = if h : o ≤ k.val ∧ k.val < o + 128 then w (ix2 r (⟨k.val - o, by omega⟩ : Fin 128)) else View.canon L (ix2 r k) := by
  split
  · rename_i h
    have e : (ix2 r k : S1024x384.Idx)
        = (Rect.unit (s := S1024x384) ![0, o] ![1024, 128] inb).emb (ix2 r (⟨k.val - o, by omega⟩ : Fin 128)) := by
      funext a; apply Fin.ext; rw [Rect.emb_apply]
      fin_cases a
      · show r.val = 0 + 1 * r.val; omega
      · show k.val = o + 1 * (k.val - o); omega
    rw [e, View.canon_cons_emb]
  · rename_i h
    refine View.canon_cons_of_not_mem _ L ?_
    intro hm
    obtain ⟨x, hx⟩ := (Rect.unit (s := S1024x384) ![0, o] ![1024, 128] inb).exists_idx_of_mem hm
    have h1 := congrArg (fun i : S1024x384.Idx => (i 1).val) hx
    have hlt : (x 1).val < 128 := (x 1).isLt
    have h2 : o + 1 * (x 1).val = k.val := h1
    omega

/-- A store of head `o`'s column of rows, read at head `k`. -/
theorem canon_rows (o : ℕ) (inb : ∀ a, (![o, 0, 0] : Fin 3 → ℕ) a + (![1, 1024, 1] : Fin 3 → ℕ) a ≤ S3x1024x1.size a)
    (w : (⟨3, ![1, 1024, 1]⟩ : Shape).Idx → Val e) (L : List (View.Piece Val S3x1024x1 e)) (k : Fin 3) (r : Fin 1024) (z : Fin 1) :
    View.canon ((⟨Rect.unit ![o, 0, 0] ![1, 1024, 1] inb, w⟩ : View.Piece Val S3x1024x1 e) :: L) (ix3 k r z)
      = if k.val = o then w (ix3 (0 : Fin 1) r (0 : Fin 1)) else View.canon L (ix3 k r z) := by
  obtain rfl : z = 0 := Subsingleton.elim _ _
  split
  · rename_i h
    have e : (ix3 k r (0 : Fin 1) : S3x1024x1.Idx)
        = (Rect.unit (s := S3x1024x1) ![o, 0, 0] ![1, 1024, 1] inb).emb (ix3 (0 : Fin 1) r (0 : Fin 1)) := by
      funext a; apply Fin.ext; rw [Rect.emb_apply]
      fin_cases a
      · show k.val = o + 1 * 0; omega
      · show r.val = 0 + 1 * r.val; omega
      · show 0 = 0 + 1 * 0; omega
    rw [e, View.canon_cons_emb]
  · rename_i h
    refine View.canon_cons_of_not_mem _ L ?_
    intro hm
    obtain ⟨x, hx⟩ := (Rect.unit (s := S3x1024x1) ![o, 0, 0] ![1, 1024, 1] inb).exists_idx_of_mem hm
    have h1 := congrArg (fun i : S3x1024x1.Idx => (i 0).val) hx
    have hlt : (x 0).val < 1 := (x 0).isLt
    have h2 : o + 1 * (x 0).val = k.val := h1
    omega

/-- A store of the whole block is what the block holds. -/
theorem canon_whole2 (inb : ∀ a, (![0, 0] : Fin 2 → ℕ) a + (![1024, 384] : Fin 2 → ℕ) a ≤ S1024x384.size a)
    (w : S1024x384.Idx → Val e) (L : List (View.Piece Val S1024x384 e)) :
    View.canon ((⟨Rect.unit ![0, 0] ![1024, 384] inb, w⟩ : View.Piece Val S1024x384 e) :: L) = w :=
  View.canon_cons_unit_zero (by funext a; fin_cases a <;> rfl) inb w L

/-- A store of all three heads' rows is what they hold. -/
theorem canon_whole3 (inb : ∀ a, (![0, 0, 0] : Fin 3 → ℕ) a + (![3, 1024, 1] : Fin 3 → ℕ) a ≤ S3x1024x1.size a)
    (w : S3x1024x1.Idx → Val e) (L : List (View.Piece Val S3x1024x1 e)) :
    View.canon ((⟨Rect.unit ![0, 0, 0] ![3, 1024, 1] inb, w⟩ : View.Piece Val S3x1024x1 e) :: L) = w :=
  View.canon_cons_unit_zero (by funext a; fin_cases a <;> rfl) inb w L

/-- A load where the last store was made reads what it stored. -/
theorem load_hit {s : Shape} (q : Rect s) (w : q.shape.Idx → Val e) (L : List (View.Piece Val s e)) :
    (fun j => View.canon ((⟨q, w⟩ : View.Piece Val s e) :: L) (q.idx j)) = w :=
  funext fun j => View.canon_cons_emb q w L j

/-- A load of one head's columns passes over a store of another head's. -/
theorem load_cols (o o' : ℕ) (inb : ∀ a, (![0, o] : Fin 2 → ℕ) a + (![1024, 128] : Fin 2 → ℕ) a ≤ S1024x384.size a)
    (inb' : ∀ a, (![0, o'] : Fin 2 → ℕ) a + (![1024, 128] : Fin 2 → ℕ) a ≤ S1024x384.size a)
    (w : (⟨2, ![1024, 128]⟩ : Shape).Idx → Val e) (L : List (View.Piece Val S1024x384 e)) (h : o + 128 ≤ o' ∨ o' + 128 ≤ o) :
    (fun j => View.canon ((⟨Rect.unit ![0, o] ![1024, 128] inb, w⟩ : View.Piece Val S1024x384 e) :: L) ((Rect.unit ![0, o'] ![1024, 128] inb').idx j))
      = fun j => View.canon L ((Rect.unit ![0, o'] ![1024, 128] inb').idx j) := by
  funext j
  refine View.canon_cons_of_not_mem _ L ?_
  intro hm
  obtain ⟨x, hx⟩ := (Rect.unit (s := S1024x384) ![0, o] ![1024, 128] inb).exists_idx_of_mem hm
  have h1 := congrArg (fun i : S1024x384.Idx => (i 1).val) hx
  have hlt : (x 1).val < 128 := (x 1).isLt
  have hlt' : (j 1).val < 128 := (j 1).isLt
  have h2 : o + 1 * (x 1).val = o' + 1 * (j 1).val := h1
  omega

/-- A load of one head's rows passes over a store of another head's. -/
theorem load_rows (o o' : ℕ) (inb : ∀ a, (![o, 0, 0] : Fin 3 → ℕ) a + (![1, 1024, 1] : Fin 3 → ℕ) a ≤ S3x1024x1.size a)
    (inb' : ∀ a, (![o', 0, 0] : Fin 3 → ℕ) a + (![1, 1024, 1] : Fin 3 → ℕ) a ≤ S3x1024x1.size a)
    (w : (⟨3, ![1, 1024, 1]⟩ : Shape).Idx → Val e) (L : List (View.Piece Val S3x1024x1 e)) (h : o + 1 ≤ o' ∨ o' + 1 ≤ o) :
    (fun j => View.canon ((⟨Rect.unit ![o, 0, 0] ![1, 1024, 1] inb, w⟩ : View.Piece Val S3x1024x1 e) :: L) ((Rect.unit ![o', 0, 0] ![1, 1024, 1] inb').idx j))
      = fun j => View.canon L ((Rect.unit ![o', 0, 0] ![1, 1024, 1] inb').idx j) := by
  funext j
  refine View.canon_cons_of_not_mem _ L ?_
  intro hm
  obtain ⟨x, hx⟩ := (Rect.unit (s := S3x1024x1) ![o, 0, 0] ![1, 1024, 1] inb).exists_idx_of_mem hm
  have h1 := congrArg (fun i : S3x1024x1.Idx => (i 0).val) hx
  have hlt : (x 0).val < 1 := (x 0).isLt
  have hlt' : (j 0).val < 1 := (j 0).isLt
  have h2 : o + 1 * (x 0).val = o' + 1 * (j 0).val := h1
  omega

/-- A load after a store of the whole block reads the stored contents. -/
theorem load_whole2 (inb : ∀ a, (![0, 0] : Fin 2 → ℕ) a + (![1024, 384] : Fin 2 → ℕ) a ≤ S1024x384.size a)
    (w : S1024x384.Idx → Val e) (L : List (View.Piece Val S1024x384 e)) (q : Rect S1024x384) :
    (fun j => View.canon ((⟨Rect.unit ![0, 0] ![1024, 384] inb, w⟩ : View.Piece Val S1024x384 e) :: L) (q.idx j)) = View.ld w q := by
  rw [canon_whole2]

theorem load_whole3 (inb : ∀ a, (![0, 0, 0] : Fin 3 → ℕ) a + (![3, 1024, 1] : Fin 3 → ℕ) a ≤ S3x1024x1.size a)
    (w : S3x1024x1.Idx → Val e) (L : List (View.Piece Val S3x1024x1 e)) (q : Rect S3x1024x1) :
    (fun j => View.canon ((⟨Rect.unit ![0, 0, 0] ![3, 1024, 1] inb, w⟩ : View.Piece Val S3x1024x1 e) :: L) (q.idx j)) = View.ld w q := by
  rw [canon_whole3]

end Stores

/-! ## One tile -/

/-- Feature `d` of head `h` in a block of three heads. -/
def col (h : Fin 3) (d : Fin 128) : Fin 384 := ⟨h.val * 128 + d.val, by omega⟩

theorem col_zero (d : Fin 128) : col 0 d = ⟨d.val, by omega⟩ := Fin.ext (by simp [col])
theorem col_one (d : Fin 128) : col 1 d = ⟨128 + d.val, by omega⟩ := Fin.ext (by simp [col])
theorem col_two (d : Fin 128) : col 2 d = ⟨256 + d.val, by omega⟩ := Fin.ext (by simp [col])

section Three
variable {Val : EltTy → Type} {e : EltTy} [∀ e, Nonempty (Val e)]

/-- The stores of the three heads' columns, read at a feature of head `h`. -/
theorem canon_three_cols (i0 : ∀ a, (![0, 0] : Fin 2 → ℕ) a + (![1024, 128] : Fin 2 → ℕ) a ≤ S1024x384.size a)
    (i1 : ∀ a, (![0, 128] : Fin 2 → ℕ) a + (![1024, 128] : Fin 2 → ℕ) a ≤ S1024x384.size a)
    (i2 : ∀ a, (![0, 256] : Fin 2 → ℕ) a + (![1024, 128] : Fin 2 → ℕ) a ≤ S1024x384.size a)
    (w0 w1 w2 : (⟨2, ![1024, 128]⟩ : Shape).Idx → Val e) (L : List (View.Piece Val S1024x384 e)) (h : Fin 3) (r : Fin 1024) (d : Fin 128) :
    View.canon ((⟨Rect.unit ![0, 256] ![1024, 128] i2, w2⟩ : View.Piece Val S1024x384 e) :: (⟨Rect.unit ![0, 128] ![1024, 128] i1, w1⟩ : View.Piece Val S1024x384 e)
        :: (⟨Rect.unit ![0, 0] ![1024, 128] i0, w0⟩ : View.Piece Val S1024x384 e) :: L) (ix2 r (col h d))
      = (![w0, w1, w2] : Fin 3 → (⟨2, ![1024, 128]⟩ : Shape).Idx → Val e) h (ix2 r d) := by
  have key : ∀ (o : ℕ) (b : o ≤ (col h d).val ∧ (col h d).val < o + 128), o = h.val * 128 →
      (⟨(col h d).val - o, by omega⟩ : Fin 128) = d := fun o b ho => Fin.ext (by simp only [col] at *; omega)
  obtain rfl | rfl | rfl : h = 0 ∨ h = 1 ∨ h = 2 := by omega
  · rw [canon_cols, dif_neg (by simp only [col, Fin.val_zero]; omega), canon_cols, dif_neg (by simp only [col, Fin.val_zero]; omega), canon_cols,
      dif_pos (by simp only [col, Fin.val_zero]; omega), key 0 (by simp only [col, Fin.val_zero]; omega) rfl]
    rfl
  · rw [canon_cols, dif_neg (by simp only [col, Fin.val_one]; omega), canon_cols, dif_pos (by simp only [col, Fin.val_one]; omega),
      key 128 (by simp only [col, Fin.val_one]; omega) rfl]
    rfl
  · rw [canon_cols, dif_pos (by simp only [col, Fin.val_two]; omega), key 256 (by simp only [col, Fin.val_two]; omega) rfl]
    rfl

/-- The stores of the three heads' rows, read at a row of head `h`. -/
theorem canon_three_rows (i0 : ∀ a, (![0, 0, 0] : Fin 3 → ℕ) a + (![1, 1024, 1] : Fin 3 → ℕ) a ≤ S3x1024x1.size a)
    (i1 : ∀ a, (![1, 0, 0] : Fin 3 → ℕ) a + (![1, 1024, 1] : Fin 3 → ℕ) a ≤ S3x1024x1.size a)
    (i2 : ∀ a, (![2, 0, 0] : Fin 3 → ℕ) a + (![1, 1024, 1] : Fin 3 → ℕ) a ≤ S3x1024x1.size a)
    (w0 w1 w2 : (⟨3, ![1, 1024, 1]⟩ : Shape).Idx → Val e) (L : List (View.Piece Val S3x1024x1 e)) (h : Fin 3) (r : Fin 1024) :
    View.canon ((⟨Rect.unit ![2, 0, 0] ![1, 1024, 1] i2, w2⟩ : View.Piece Val S3x1024x1 e) :: (⟨Rect.unit ![1, 0, 0] ![1, 1024, 1] i1, w1⟩ : View.Piece Val S3x1024x1 e)
        :: (⟨Rect.unit ![0, 0, 0] ![1, 1024, 1] i0, w0⟩ : View.Piece Val S3x1024x1 e) :: L) (ix3 h r 0)
      = (![w0, w1, w2] : Fin 3 → (⟨3, ![1, 1024, 1]⟩ : Shape).Idx → Val e) h (ix3 0 r 0) := by
  obtain rfl | rfl | rfl : h = 0 ∨ h = 1 ∨ h = 2 := by omega
  · rw [canon_rows, if_neg (by decide), canon_rows, if_neg (by decide), canon_rows, if_pos (by decide)]
    rfl
  · rw [canon_rows, if_neg (by decide), canon_rows, if_pos (by decide)]
    rfl
  · rw [canon_rows, if_pos (by decide)]
    rfl

end Three

/-- What the running maximum starts from: the mask. -/
def start : EReal := Named.named (F := Ideal) κ "mask" (φ := .f32) 0xF149F2CA#32

theorem pay_start (y : S3x1024x1.Idx) : k0_pay1 (F := Ideal) y = start := rfl
theorem pay_sum (y : S3x1024x1.Idx) : k0_pay2 (F := Ideal) y = (0 : EReal) := Ideal.ofBits_zero_f32
theorem pay_acc (y : S1024x384.Idx) : k0_pay3 (F := Ideal) y = (0 : EReal) := Ideal.ofBits_zero_f32

section Tile
variable (diag : Bool) (x0 x1 x2 : Vec Ideal S1024x384 .bf16) (x3 : Vec Ideal S3x1x1024 .f32)

/-- The score of row `r` and column `t` in base 2, less the gate of the column; on the diagonal tile the columns past the row
    hold the mask. -/
def score (h : Fin 3) (r t : Fin 1024) : EReal :=
  if diag then
    Scalar.select (IntOp.cmpi CmpIPredicate.sle (BitVec.ofNat 32 t.val) (BitVec.ofNat 32 r.val))
      ((∑ d, x0 (ix2 r (col h d)) * x1 (ix2 t (col h d))) * Named.named (F := Ideal) κ "scale2" (φ := .f32) 0x3E0293EE#32 - x3 (ix3 h 0 t))
      (Named.named (F := Ideal) κ "mask" (φ := .f32) 0xF149F2CA#32)
  else (∑ d, x0 (ix2 r (col h d)) * x1 (ix2 t (col h d))) * Named.named (F := Ideal) κ "scale2" (φ := .f32) 0x3E0293EE#32 - x3 (ix3 h 0 t)

/-- The running maximum after the tile, `o` before it. -/
def newMax (h : Fin 3) (r : Fin 1024) (o : EReal) : EReal :=
  max o (Finset.univ.fold max (Ideal.ofBits .f32 0xFF800000#32) fun t => score diag x0 x1 x3 h r t)

/-- The weight of column `t`. -/
def wt (h : Fin 3) (r : Fin 1024) (o : EReal) (t : Fin 1024) : EReal :=
  FloatOps.exp2 (F := Ideal) (φ := .f32) (score diag x0 x1 x3 h r t - newMax diag x0 x1 x3 h r o)

/-- What the sums before the tile are multiplied by. -/
def rescale (h : Fin 3) (r : Fin 1024) (o : EReal) : EReal :=
  FloatOps.exp2 (F := Ideal) (φ := .f32) (o - newMax diag x0 x1 x3 h r o)

/-- The running sum of the weights after the tile, `l` before it. -/
def newSum (h : Fin 3) (r : Fin 1024) (o l : EReal) : EReal :=
  rescale diag x0 x1 x3 h r o * l + ∑ t, wt diag x0 x1 x3 h r o t

/-- The running weighted sum of the values after the tile, `a` before it. -/
def newAcc (h : Fin 3) (r : Fin 1024) (d : Fin 128) (o a : EReal) : EReal :=
  rescale diag x0 x1 x3 h r o * a + ∑ t, wt diag x0 x1 x3 h r o t * x2 (ix2 t (col h d))

end Tile

/-- A row's logarithm of the sum in base 2, of its maximum and its sum. -/
def logSum (o l : EReal) : EReal := o + Ideal.div (Ideal.log l) (Ideal.log (Ideal.ofBits .f32 0x40000000#32))

/-! ## The three heads' payloads -/

section Payloads
variable (x0 x1 x2 : Vec Ideal S1024x384 .bf16) (x3 : Vec Ideal S3x1x1024 .f32) (xs0 xs1 : Vec Ideal S3x1024x1 .f32) (xs2 : Vec Ideal S1024x384 .f32)

/-- What a tile on the diagonal stores as the running maximum. -/
theorem max_diag (h : Fin 3) (r : Fin 1024) :
    (![k0_pay56 (k0_pay42 (k0_pay35
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (View.ld xs0 (Rect.unit ![0, 0, 0] ![1, 1024, 1] inb_S3x1024x1_S1x1024x1_0_0_0))),
          k0_pay60 (k0_pay43 (k0_pay36
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0))),
          k0_pay63 (k0_pay44 (k0_pay37
            (View.ld x0 (Rect.unit ![0, 256] ![1024, 128] inb_S1024x384_S1024x128_0_256)) (View.ld x1 (Rect.unit ![0, 256] ![1024, 128] inb_S1024x384_S1024x128_0_256))) (View.ld x3 (Rect.unit ![2, 0, 0] ![1, 1, 1024] inb_S3x1x1024_S1x1x1024_2_0_0)) (View.ld xs0 (Rect.unit ![2, 0, 0] ![1, 1024, 1] inb_S3x1024x1_S1x1024x1_2_0_0)))] :
        Fin 3 → (⟨3, ![1, 1024, 1]⟩ : Shape).Idx → EReal) h (ix3 0 r 0)
      = newMax true x0 x1 x3 h r (xs0 (ix3 h r 0)) := by
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

/-- What a tile on the diagonal stores as the running sum of the weights. -/
theorem sum_diag (h : Fin 3) (r : Fin 1024) :
    (![k0_pay54 (k0_pay45 (k0_pay35
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (View.ld xs0 (Rect.unit ![0, 0, 0] ![1, 1024, 1] inb_S3x1024x1_S1x1024x1_0_0_0))) (k0_pay48 (k0_pay35
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (View.ld xs0 (Rect.unit ![0, 0, 0] ![1, 1024, 1] inb_S3x1024x1_S1x1024x1_0_0_0))) (View.ld xs1 (Rect.unit ![0, 0, 0] ![1, 1024, 1] inb_S3x1024x1_S1x1024x1_0_0_0)),
          k0_pay58 (k0_pay57 (k0_pay46 (k0_pay36
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0))) (k0_pay49 (k0_pay36
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0))) (View.ld xs1 (Rect.unit ![1, 0, 0] ![1, 1024, 1] inb_S3x1024x1_S1x1024x1_1_0_0))),
          k0_pay61 (k0_pay47 (k0_pay37
            (View.ld x0 (Rect.unit ![0, 256] ![1024, 128] inb_S1024x384_S1024x128_0_256)) (View.ld x1 (Rect.unit ![0, 256] ![1024, 128] inb_S1024x384_S1024x128_0_256))) (View.ld x3 (Rect.unit ![2, 0, 0] ![1, 1, 1024] inb_S3x1x1024_S1x1x1024_2_0_0)) (View.ld xs0 (Rect.unit ![2, 0, 0] ![1, 1024, 1] inb_S3x1024x1_S1x1024x1_2_0_0))) (k0_pay50 (k0_pay37
            (View.ld x0 (Rect.unit ![0, 256] ![1024, 128] inb_S1024x384_S1024x128_0_256)) (View.ld x1 (Rect.unit ![0, 256] ![1024, 128] inb_S1024x384_S1024x128_0_256))) (View.ld x3 (Rect.unit ![2, 0, 0] ![1, 1, 1024] inb_S3x1x1024_S1x1x1024_2_0_0)) (View.ld xs0 (Rect.unit ![2, 0, 0] ![1, 1024, 1] inb_S3x1024x1_S1x1024x1_2_0_0))) (View.ld xs1 (Rect.unit ![2, 0, 0] ![1, 1024, 1] inb_S3x1024x1_S1x1024x1_2_0_0))] :
        Fin 3 → (⟨3, ![1, 1024, 1]⟩ : Shape).Idx → EReal) h (ix3 0 r 0)
      = newSum true x0 x1 x3 h r (xs0 (ix3 h r 0)) (xs1 (ix3 h r 0)) := by
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

/-- What a tile on the diagonal stores as the running weighted sum of the values. -/
theorem acc_diag (h : Fin 3) (r : Fin 1024) (d : Fin 128) :
    (![k0_pay55 (k0_pay48 (k0_pay35
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (View.ld xs0 (Rect.unit ![0, 0, 0] ![1, 1024, 1] inb_S3x1024x1_S1x1024x1_0_0_0))) (k0_pay51 (k0_pay35
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (View.ld xs0 (Rect.unit ![0, 0, 0] ![1, 1024, 1] inb_S3x1024x1_S1x1024x1_0_0_0)) (View.ld x2 (Rect.unit ![0, 0] ![1024, 128] inb_S1024x384_S1024x128_0_0))) (View.ld xs2 (Rect.unit ![0, 0] ![1024, 128] inb_S1024x384_S1024x128_0_0)),
          k0_pay59 (k0_pay49 (k0_pay36
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0))) (k0_pay52 (k0_pay46 (k0_pay36
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0))) (View.ld x2 (Rect.unit ![0, 128] ![1024, 128] inb_S1024x384_S1024x128_0_128))) (View.ld xs2 (Rect.unit ![0, 128] ![1024, 128] inb_S1024x384_S1024x128_0_128)),
          k0_pay62 (k0_pay50 (k0_pay37
            (View.ld x0 (Rect.unit ![0, 256] ![1024, 128] inb_S1024x384_S1024x128_0_256)) (View.ld x1 (Rect.unit ![0, 256] ![1024, 128] inb_S1024x384_S1024x128_0_256))) (View.ld x3 (Rect.unit ![2, 0, 0] ![1, 1, 1024] inb_S3x1x1024_S1x1x1024_2_0_0)) (View.ld xs0 (Rect.unit ![2, 0, 0] ![1, 1024, 1] inb_S3x1024x1_S1x1024x1_2_0_0))) (k0_pay53 (k0_pay47 (k0_pay37
            (View.ld x0 (Rect.unit ![0, 256] ![1024, 128] inb_S1024x384_S1024x128_0_256)) (View.ld x1 (Rect.unit ![0, 256] ![1024, 128] inb_S1024x384_S1024x128_0_256))) (View.ld x3 (Rect.unit ![2, 0, 0] ![1, 1, 1024] inb_S3x1x1024_S1x1x1024_2_0_0)) (View.ld xs0 (Rect.unit ![2, 0, 0] ![1, 1024, 1] inb_S3x1024x1_S1x1024x1_2_0_0))) (View.ld x2 (Rect.unit ![0, 256] ![1024, 128] inb_S1024x384_S1024x128_0_256))) (View.ld xs2 (Rect.unit ![0, 256] ![1024, 128] inb_S1024x384_S1024x128_0_256))] :
        Fin 3 → (⟨2, ![1024, 128]⟩ : Shape).Idx → EReal) h (ix2 r d)
      = newAcc true x0 x1 x2 x3 h r d (xs0 (ix3 h r 0)) (xs2 (ix2 r (col h d))) := by
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

/-- What a tile below the diagonal stores as the running maximum. -/
theorem max_below (h : Fin 3) (r : Fin 1024) :
    (![k0_pay32 (k0_pay17 (k0_pay11
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (k0_pay14 (View.ld xs0 (Rect.unit ![0, 0, 0] ![1, 1024, 1] inb_S3x1024x1_S1x1024x1_0_0_0)))),
          k0_pay4 (k0_pay18 (k0_pay12
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0))),
          k0_pay7 (k0_pay19 (k0_pay13
            (View.ld x0 (Rect.unit ![0, 256] ![1024, 128] inb_S1024x384_S1024x128_0_256)) (View.ld x1 (Rect.unit ![0, 256] ![1024, 128] inb_S1024x384_S1024x128_0_256)) (View.ld x3 (Rect.unit ![2, 0, 0] ![1, 1, 1024] inb_S3x1x1024_S1x1x1024_2_0_0))) (View.ld xs0 (Rect.unit ![2, 0, 0] ![1, 1024, 1] inb_S3x1024x1_S1x1024x1_2_0_0)))] :
        Fin 3 → (⟨3, ![1, 1024, 1]⟩ : Shape).Idx → EReal) h (ix3 0 r 0)
      = newMax false x0 x1 x3 h r (xs0 (ix3 h r 0)) := by
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

/-- What a tile below the diagonal stores as the running sum of the weights. -/
theorem sum_below (h : Fin 3) (r : Fin 1024) :
    (![k0_pay30 (k0_pay20 (k0_pay11
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (k0_pay14 (View.ld xs0 (Rect.unit ![0, 0, 0] ![1, 1024, 1] inb_S3x1024x1_S1x1024x1_0_0_0)))) (k0_pay29 (k0_pay11
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (k0_pay14 (View.ld xs0 (Rect.unit ![0, 0, 0] ![1, 1024, 1] inb_S3x1024x1_S1x1024x1_0_0_0))) (View.ld xs1 (Rect.unit ![0, 0, 0] ![1, 1024, 1] inb_S3x1024x1_S1x1024x1_0_0_0))),
          k0_pay33 (k0_pay21 (k0_pay12
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0))) (k0_pay24 (k0_pay12
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0))) (View.ld xs1 (Rect.unit ![1, 0, 0] ![1, 1024, 1] inb_S3x1024x1_S1x1024x1_1_0_0)),
          k0_pay5 (k0_pay22 (k0_pay13
            (View.ld x0 (Rect.unit ![0, 256] ![1024, 128] inb_S1024x384_S1024x128_0_256)) (View.ld x1 (Rect.unit ![0, 256] ![1024, 128] inb_S1024x384_S1024x128_0_256)) (View.ld x3 (Rect.unit ![2, 0, 0] ![1, 1, 1024] inb_S3x1x1024_S1x1x1024_2_0_0))) (View.ld xs0 (Rect.unit ![2, 0, 0] ![1, 1024, 1] inb_S3x1024x1_S1x1024x1_2_0_0))) (k0_pay25 (k0_pay13
            (View.ld x0 (Rect.unit ![0, 256] ![1024, 128] inb_S1024x384_S1024x128_0_256)) (View.ld x1 (Rect.unit ![0, 256] ![1024, 128] inb_S1024x384_S1024x128_0_256)) (View.ld x3 (Rect.unit ![2, 0, 0] ![1, 1, 1024] inb_S3x1x1024_S1x1x1024_2_0_0))) (View.ld xs0 (Rect.unit ![2, 0, 0] ![1, 1024, 1] inb_S3x1024x1_S1x1024x1_2_0_0))) (View.ld xs1 (Rect.unit ![2, 0, 0] ![1, 1024, 1] inb_S3x1024x1_S1x1024x1_2_0_0))] :
        Fin 3 → (⟨3, ![1, 1024, 1]⟩ : Shape).Idx → EReal) h (ix3 0 r 0)
      = newSum false x0 x1 x3 h r (xs0 (ix3 h r 0)) (xs1 (ix3 h r 0)) := by
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

/-- What a tile below the diagonal stores as the running weighted sum of the values. -/
theorem acc_below (h : Fin 3) (r : Fin 1024) (d : Fin 128) :
    (![k0_pay31 (k0_pay23 (k0_pay11
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (k0_pay14 (View.ld xs0 (Rect.unit ![0, 0, 0] ![1, 1024, 1] inb_S3x1024x1_S1x1024x1_0_0_0)))) (k0_pay26 (k0_pay11
            (View.ld x0 (Rect.unit ![0, 0] ![1024, 128] inb_S1024x384_S1024x128_0_0)) (View.ld x1 (Rect.unit ![0, 0] ![1024, 128] inb_S1024x384_S1024x128_0_0)) (View.ld x3 (Rect.unit ![0, 0, 0] ![1, 1, 1024] inb_S3x1x1024_S1x1x1024_0_0_0))) (k0_pay14 (View.ld xs0 (Rect.unit ![0, 0, 0] ![1, 1024, 1] inb_S3x1024x1_S1x1024x1_0_0_0))) (View.ld x2 (Rect.unit ![0, 0] ![1024, 128] inb_S1024x384_S1024x128_0_0))) (View.ld xs2 (Rect.unit ![0, 0] ![1024, 128] inb_S1024x384_S1024x128_0_0)),
          k0_pay34 (k0_pay24 (k0_pay12
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0))) (k0_pay27 (k0_pay12
            (View.ld x0 (Rect.unit ![0, 128] ![1024, 128] inb_S1024x384_S1024x128_0_128)) (View.ld x1 (Rect.unit ![0, 128] ![1024, 128] inb_S1024x384_S1024x128_0_128)) (View.ld x3 (Rect.unit ![1, 0, 0] ![1, 1, 1024] inb_S3x1x1024_S1x1x1024_1_0_0))) (View.ld xs0 (Rect.unit ![1, 0, 0] ![1, 1024, 1] inb_S3x1024x1_S1x1024x1_1_0_0)) (View.ld x2 (Rect.unit ![0, 128] ![1024, 128] inb_S1024x384_S1024x128_0_128))) (View.ld xs2 (Rect.unit ![0, 128] ![1024, 128] inb_S1024x384_S1024x128_0_128)),
          k0_pay6 (k0_pay25 (k0_pay13
            (View.ld x0 (Rect.unit ![0, 256] ![1024, 128] inb_S1024x384_S1024x128_0_256)) (View.ld x1 (Rect.unit ![0, 256] ![1024, 128] inb_S1024x384_S1024x128_0_256)) (View.ld x3 (Rect.unit ![2, 0, 0] ![1, 1, 1024] inb_S3x1x1024_S1x1x1024_2_0_0))) (View.ld xs0 (Rect.unit ![2, 0, 0] ![1, 1024, 1] inb_S3x1024x1_S1x1024x1_2_0_0))) (k0_pay28 (k0_pay13
            (View.ld x0 (Rect.unit ![0, 256] ![1024, 128] inb_S1024x384_S1024x128_0_256)) (View.ld x1 (Rect.unit ![0, 256] ![1024, 128] inb_S1024x384_S1024x128_0_256)) (View.ld x3 (Rect.unit ![2, 0, 0] ![1, 1, 1024] inb_S3x1x1024_S1x1x1024_2_0_0))) (View.ld xs0 (Rect.unit ![2, 0, 0] ![1, 1024, 1] inb_S3x1024x1_S1x1024x1_2_0_0)) (View.ld x2 (Rect.unit ![0, 256] ![1024, 128] inb_S1024x384_S1024x128_0_256))) (View.ld xs2 (Rect.unit ![0, 256] ![1024, 128] inb_S1024x384_S1024x128_0_256))] :
        Fin 3 → (⟨2, ![1024, 128]⟩ : Shape).Idx → EReal) h (ix2 r d)
      = newAcc false x0 x1 x2 x3 h r d (xs0 (ix3 h r 0)) (xs2 (ix2 r (col h d))) := by
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

end Payloads

variable (c : Dev nD) (i : grid0.Coords)
variable (arg3 : Memref sig .tc .vmem S1024x384 .bf16) (harg3 : arg3.IsWhole)
variable (arg4 : Memref sig .tc .vmem S1024x384 .bf16) (harg4 : arg4.IsWhole)
variable (arg5 : Memref sig .tc .vmem S1024x384 .bf16) (harg5 : arg5.IsWhole)
variable (arg6 : Memref sig .tc .vmem S3x1x1024 .f32) (harg6 : arg6.IsWhole)
variable (arg7 : Memref sig .tc .vmem S1024x384 .bf16) (harg7 : arg7.IsWhole)
variable (arg8 : Memref sig .tc .vmem S3x1024x1 .f32) (harg8 : arg8.IsWhole)
variable (arg9 : Memref sig .tc .vmem S3x1024x1 .f32) (harg9 : arg9.IsWhole)
variable (arg10 : Memref sig .tc .vmem S3x1024x1 .f32) (harg10 : arg10.IsWhole)
variable (arg11 : Memref sig .tc .vmem S1024x384 .f32) (harg11 : arg11.IsWhole)
variable (x0 x1 x2 : Vec Ideal S1024x384 .bf16) (x3 : Vec Ideal S3x1x1024 .f32) (xs0 xs1 : Vec Ideal S3x1024x1 .f32) (xs2 : Vec Ideal S1024x384 .f32)

/-- The first key block, on the diagonal: the running maximum. -/
theorem scr_A_0 (hc0 : cond0_0 i) (hc1 : ¬cond0_1 i) (hc2 : cond0_2 i) (hc3 : ¬cond0_3 i) (h : Fin 3) (r : Fin 1024) :
    sout0_A_0 c i arg3 harg3 arg4 harg4 arg5 harg5 arg6 harg6 arg7 harg7 arg8 harg8 arg9 harg9 arg10 harg10 arg11 harg11 hc0 hc1 hc2 hc3 x0 x1 x2 x3 (ix3 h r 0) = newMax true x0 x1 x3 h r (k0_pay1 (F := Ideal) (ix3 h r 0)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 hc2 hc3 x0 x1 x2 x3)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  generalize k0_pay1 (F := Ideal) = xs0
  generalize k0_pay2 (F := Ideal) = xs1
  generalize k0_pay3 (F := Ideal) = xs2
  rw [canon_three_rows]
  exact max_diag x0 x1 x3 xs0 h r

/-- The first key block, on the diagonal: the running sum of the weights. -/
theorem scr_A_1 (hc0 : cond0_0 i) (hc1 : ¬cond0_1 i) (hc2 : cond0_2 i) (hc3 : ¬cond0_3 i) (h : Fin 3) (r : Fin 1024) :
    sout0_A_1 c i arg3 harg3 arg4 harg4 arg5 harg5 arg6 harg6 arg7 harg7 arg8 harg8 arg9 harg9 arg10 harg10 arg11 harg11 hc0 hc1 hc2 hc3 x0 x1 x2 x3 (ix3 h r 0) = newSum true x0 x1 x3 h r (k0_pay1 (F := Ideal) (ix3 h r 0)) (k0_pay2 (F := Ideal) (ix3 h r 0)) := by
  unfold sout0_A_1
  rw [View.read_writes_eq_canon _ _ _ (scover0_A_1 c i arg3 harg3 arg4 harg4 arg5 harg5 arg6 harg6 arg7 harg7 arg8 harg8 arg9 harg9 arg10 harg10 arg11 harg11 hc0 hc1 hc2 hc3 x0 x1 x2 x3)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  generalize k0_pay1 (F := Ideal) = xs0
  generalize k0_pay2 (F := Ideal) = xs1
  generalize k0_pay3 (F := Ideal) = xs2
  rw [canon_three_rows]
  exact sum_diag x0 x1 x3 xs0 xs1 h r

/-- The first key block, on the diagonal: the running weighted sum of the values. -/
theorem scr_A_2 (hc0 : cond0_0 i) (hc1 : ¬cond0_1 i) (hc2 : cond0_2 i) (hc3 : ¬cond0_3 i) (h : Fin 3) (r : Fin 1024) (d : Fin 128) :
    sout0_A_2 c i arg3 harg3 arg4 harg4 arg5 harg5 arg6 harg6 arg7 harg7 arg8 harg8 arg9 harg9 arg10 harg10 arg11 harg11 hc0 hc1 hc2 hc3 x0 x1 x2 x3 (ix2 r (col h d)) = newAcc true x0 x1 x2 x3 h r d (k0_pay1 (F := Ideal) (ix3 h r 0)) (k0_pay3 (F := Ideal) (ix2 r (col h d))) := by
  unfold sout0_A_2
  rw [View.read_writes_eq_canon _ _ _ (scover0_A_2 c i arg3 harg3 arg4 harg4 arg5 harg5 arg6 harg6 arg7 harg7 arg8 harg8 arg9 harg9 arg10 harg10 arg11 harg11 hc0 hc1 hc2 hc3 x0 x1 x2 x3)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  generalize k0_pay1 (F := Ideal) = xs0
  generalize k0_pay2 (F := Ideal) = xs1
  generalize k0_pay3 (F := Ideal) = xs2
  rw [canon_three_cols]
  exact acc_diag x0 x1 x2 x3 xs0 xs2 h r d

/-- The first key block, below the diagonal: the running maximum. -/
theorem scr_D_0 (hc0 : cond0_0 i) (hc1 : cond0_1 i) (hc2 : ¬cond0_2 i) (hc3 : ¬cond0_3 i) (h : Fin 3) (r : Fin 1024) :
    sout0_D_0 c i arg3 harg3 arg4 harg4 arg5 harg5 arg6 harg6 arg7 harg7 arg8 harg8 arg9 harg9 arg10 harg10 arg11 harg11 hc0 hc1 hc2 hc3 x0 x1 x2 x3 (ix3 h r 0) = newMax false x0 x1 x3 h r (k0_pay1 (F := Ideal) (ix3 h r 0)) := by
  unfold sout0_D_0
  rw [View.read_writes_eq_canon _ _ _ (scover0_D_0 c i arg3 harg3 arg4 harg4 arg5 harg5 arg6 harg6 arg7 harg7 arg8 harg8 arg9 harg9 arg10 harg10 arg11 harg11 hc0 hc1 hc2 hc3 x0 x1 x2 x3)]
  unfold kernelRun0_D
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  generalize k0_pay1 (F := Ideal) = xs0
  generalize k0_pay2 (F := Ideal) = xs1
  generalize k0_pay3 (F := Ideal) = xs2
  rw [canon_three_rows]
  exact max_below x0 x1 x3 xs0 h r

/-- The first key block, below the diagonal: the running sum of the weights. -/
theorem scr_D_1 (hc0 : cond0_0 i) (hc1 : cond0_1 i) (hc2 : ¬cond0_2 i) (hc3 : ¬cond0_3 i) (h : Fin 3) (r : Fin 1024) :
    sout0_D_1 c i arg3 harg3 arg4 harg4 arg5 harg5 arg6 harg6 arg7 harg7 arg8 harg8 arg9 harg9 arg10 harg10 arg11 harg11 hc0 hc1 hc2 hc3 x0 x1 x2 x3 (ix3 h r 0) = newSum false x0 x1 x3 h r (k0_pay1 (F := Ideal) (ix3 h r 0)) (k0_pay2 (F := Ideal) (ix3 h r 0)) := by
  unfold sout0_D_1
  rw [View.read_writes_eq_canon _ _ _ (scover0_D_1 c i arg3 harg3 arg4 harg4 arg5 harg5 arg6 harg6 arg7 harg7 arg8 harg8 arg9 harg9 arg10 harg10 arg11 harg11 hc0 hc1 hc2 hc3 x0 x1 x2 x3)]
  unfold kernelRun0_D
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  generalize k0_pay1 (F := Ideal) = xs0
  generalize k0_pay2 (F := Ideal) = xs1
  generalize k0_pay3 (F := Ideal) = xs2
  rw [canon_three_rows]
  exact sum_below x0 x1 x3 xs0 xs1 h r

/-- The first key block, below the diagonal: the running weighted sum of the values. -/
theorem scr_D_2 (hc0 : cond0_0 i) (hc1 : cond0_1 i) (hc2 : ¬cond0_2 i) (hc3 : ¬cond0_3 i) (h : Fin 3) (r : Fin 1024) (d : Fin 128) :
    sout0_D_2 c i arg3 harg3 arg4 harg4 arg5 harg5 arg6 harg6 arg7 harg7 arg8 harg8 arg9 harg9 arg10 harg10 arg11 harg11 hc0 hc1 hc2 hc3 x0 x1 x2 x3 (ix2 r (col h d)) = newAcc false x0 x1 x2 x3 h r d (k0_pay1 (F := Ideal) (ix3 h r 0)) (k0_pay3 (F := Ideal) (ix2 r (col h d))) := by
  unfold sout0_D_2
  rw [View.read_writes_eq_canon _ _ _ (scover0_D_2 c i arg3 harg3 arg4 harg4 arg5 harg5 arg6 harg6 arg7 harg7 arg8 harg8 arg9 harg9 arg10 harg10 arg11 harg11 hc0 hc1 hc2 hc3 x0 x1 x2 x3)]
  unfold kernelRun0_D
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  generalize k0_pay1 (F := Ideal) = xs0
  generalize k0_pay2 (F := Ideal) = xs1
  generalize k0_pay3 (F := Ideal) = xs2
  rw [canon_three_cols]
  exact acc_below x0 x1 x2 x3 xs0 xs2 h r d

/-- A later key block on the diagonal: the running maximum. -/
theorem scr_E_0 (hc0 : ¬cond0_0 i) (hc1 : ¬cond0_1 i) (hc2 : cond0_2 i) (hc3 : ¬cond0_3 i) (h : Fin 3) (r : Fin 1024) :
    sout0_E_0 c i arg3 harg3 arg4 harg4 arg5 harg5 arg6 harg6 arg7 harg7 arg8 harg8 arg9 harg9 arg10 harg10 arg11 harg11 hc0 hc1 hc2 hc3 x0 x1 x2 x3 xs0 xs1 xs2 (ix3 h r 0) = newMax true x0 x1 x3 h r (xs0 (ix3 h r 0)) := by
  unfold sout0_E_0
  rw [View.read_writes_eq_canon _ _ _ (scover0_E_0 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_E
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_rows]
  exact max_diag x0 x1 x3 xs0 h r

/-- A later key block on the diagonal: the running sum of the weights. -/
theorem scr_E_1 (hc0 : ¬cond0_0 i) (hc1 : ¬cond0_1 i) (hc2 : cond0_2 i) (hc3 : ¬cond0_3 i) (h : Fin 3) (r : Fin 1024) :
    sout0_E_1 c i arg3 harg3 arg4 harg4 arg5 harg5 arg6 harg6 arg7 harg7 arg8 harg8 arg9 harg9 arg10 harg10 arg11 harg11 hc0 hc1 hc2 hc3 x0 x1 x2 x3 xs0 xs1 xs2 (ix3 h r 0) = newSum true x0 x1 x3 h r (xs0 (ix3 h r 0)) (xs1 (ix3 h r 0)) := by
  unfold sout0_E_1
  rw [View.read_writes_eq_canon _ _ _ (scover0_E_1 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_E
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_rows]
  exact sum_diag x0 x1 x3 xs0 xs1 h r

/-- A later key block on the diagonal: the running weighted sum of the values. -/
theorem scr_E_2 (hc0 : ¬cond0_0 i) (hc1 : ¬cond0_1 i) (hc2 : cond0_2 i) (hc3 : ¬cond0_3 i) (h : Fin 3) (r : Fin 1024) (d : Fin 128) :
    sout0_E_2 c i arg3 harg3 arg4 harg4 arg5 harg5 arg6 harg6 arg7 harg7 arg8 harg8 arg9 harg9 arg10 harg10 arg11 harg11 hc0 hc1 hc2 hc3 x0 x1 x2 x3 xs0 xs1 xs2 (ix2 r (col h d)) = newAcc true x0 x1 x2 x3 h r d (xs0 (ix3 h r 0)) (xs2 (ix2 r (col h d))) := by
  unfold sout0_E_2
  rw [View.read_writes_eq_canon _ _ _ (scover0_E_2 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_E
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_cols]
  exact acc_diag x0 x1 x2 x3 xs0 xs2 h r d

/-- A later key block below the diagonal: the running maximum. -/
theorem scr_F_0 (hc0 : ¬cond0_0 i) (hc1 : cond0_1 i) (hc2 : ¬cond0_2 i) (hc3 : ¬cond0_3 i) (h : Fin 3) (r : Fin 1024) :
    sout0_F_0 c i arg3 harg3 arg4 harg4 arg5 harg5 arg6 harg6 arg7 harg7 arg8 harg8 arg9 harg9 arg10 harg10 arg11 harg11 hc0 hc1 hc2 hc3 x0 x1 x2 x3 xs0 xs1 xs2 (ix3 h r 0) = newMax false x0 x1 x3 h r (xs0 (ix3 h r 0)) := by
  unfold sout0_F_0
  rw [View.read_writes_eq_canon _ _ _ (scover0_F_0 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_F
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_rows]
  exact max_below x0 x1 x3 xs0 h r

/-- A later key block below the diagonal: the running sum of the weights. -/
theorem scr_F_1 (hc0 : ¬cond0_0 i) (hc1 : cond0_1 i) (hc2 : ¬cond0_2 i) (hc3 : ¬cond0_3 i) (h : Fin 3) (r : Fin 1024) :
    sout0_F_1 c i arg3 harg3 arg4 harg4 arg5 harg5 arg6 harg6 arg7 harg7 arg8 harg8 arg9 harg9 arg10 harg10 arg11 harg11 hc0 hc1 hc2 hc3 x0 x1 x2 x3 xs0 xs1 xs2 (ix3 h r 0) = newSum false x0 x1 x3 h r (xs0 (ix3 h r 0)) (xs1 (ix3 h r 0)) := by
  unfold sout0_F_1
  rw [View.read_writes_eq_canon _ _ _ (scover0_F_1 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_F
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_rows]
  exact sum_below x0 x1 x3 xs0 xs1 h r

/-- A later key block below the diagonal: the running weighted sum of the values. -/
theorem scr_F_2 (hc0 : ¬cond0_0 i) (hc1 : cond0_1 i) (hc2 : ¬cond0_2 i) (hc3 : ¬cond0_3 i) (h : Fin 3) (r : Fin 1024) (d : Fin 128) :
    sout0_F_2 c i arg3 harg3 arg4 harg4 arg5 harg5 arg6 harg6 arg7 harg7 arg8 harg8 arg9 harg9 arg10 harg10 arg11 harg11 hc0 hc1 hc2 hc3 x0 x1 x2 x3 xs0 xs1 xs2 (ix2 r (col h d)) = newAcc false x0 x1 x2 x3 h r d (xs0 (ix3 h r 0)) (xs2 (ix2 r (col h d))) := by
  unfold sout0_F_2
  rw [View.read_writes_eq_canon _ _ _ (scover0_F_2 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_F
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_cols]
  exact acc_below x0 x1 x2 x3 xs0 xs2 h r d

/-- The last key block, on the diagonal: the running maximum. -/
theorem scr_G_0 (hc0 : ¬cond0_0 i) (hc1 : ¬cond0_1 i) (hc2 : cond0_2 i) (hc3 : cond0_3 i) (h : Fin 3) (r : Fin 1024) :
    sout0_G_0 c i arg3 harg3 arg4 harg4 arg5 harg5 arg6 harg6 arg7 harg7 arg8 harg8 arg9 harg9 arg10 harg10 arg11 harg11 hc0 hc1 hc2 hc3 x0 x1 x2 x3 xs0 xs1 xs2 (ix3 h r 0) = newMax true x0 x1 x3 h r (xs0 (ix3 h r 0)) := by
  unfold sout0_G_0
  rw [View.read_writes_eq_canon _ _ _ (scover0_G_0 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_G
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_rows]
  exact max_diag x0 x1 x3 xs0 h r

/-- The last key block, on the diagonal: the running sum of the weights. -/
theorem scr_G_1 (hc0 : ¬cond0_0 i) (hc1 : ¬cond0_1 i) (hc2 : cond0_2 i) (hc3 : cond0_3 i) (h : Fin 3) (r : Fin 1024) :
    sout0_G_1 c i arg3 harg3 arg4 harg4 arg5 harg5 arg6 harg6 arg7 harg7 arg8 harg8 arg9 harg9 arg10 harg10 arg11 harg11 hc0 hc1 hc2 hc3 x0 x1 x2 x3 xs0 xs1 xs2 (ix3 h r 0) = newSum true x0 x1 x3 h r (xs0 (ix3 h r 0)) (xs1 (ix3 h r 0)) := by
  unfold sout0_G_1
  rw [View.read_writes_eq_canon _ _ _ (scover0_G_1 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_G
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_rows]
  exact sum_diag x0 x1 x3 xs0 xs1 h r

/-- The last key block, on the diagonal: the running weighted sum of the values. -/
theorem scr_G_2 (hc0 : ¬cond0_0 i) (hc1 : ¬cond0_1 i) (hc2 : cond0_2 i) (hc3 : cond0_3 i) (h : Fin 3) (r : Fin 1024) (d : Fin 128) :
    sout0_G_2 c i arg3 harg3 arg4 harg4 arg5 harg5 arg6 harg6 arg7 harg7 arg8 harg8 arg9 harg9 arg10 harg10 arg11 harg11 hc0 hc1 hc2 hc3 x0 x1 x2 x3 xs0 xs1 xs2 (ix2 r (col h d)) = newAcc true x0 x1 x2 x3 h r d (xs0 (ix3 h r 0)) (xs2 (ix2 r (col h d))) := by
  unfold sout0_G_2
  rw [View.read_writes_eq_canon _ _ _ (scover0_G_2 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_G
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_cols]
  exact acc_diag x0 x1 x2 x3 xs0 xs2 h r d

/-- The last key block, past the diagonal: the output. -/
theorem out_C_4 (hc0 : ¬cond0_0 i) (hc1 : ¬cond0_1 i) (hc2 : ¬cond0_2 i) (hc3 : cond0_3 i) (h : Fin 3) (r : Fin 1024) (d : Fin 128) :
    out0_C_4 c i arg3 harg3 arg4 harg4 arg5 harg5 arg6 harg6 arg7 harg7 arg8 harg8 arg9 harg9 arg10 harg10 arg11 harg11 hc0 hc1 hc2 hc3 x0 x1 x2 x3 xs0 xs1 xs2 (ix2 r (col h d)) = Ideal.div (xs2 (ix2 r (col h d))) (xs1 (ix3 h r 0)) := by
  unfold out0_C_4
  rw [View.read_writes_eq_canon _ _ _ (cover0_C_4 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_C
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_cols]
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, logSum, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

/-- The last key block, past the diagonal: the rows' logarithms of the sums. -/
theorem out_C_5 (hc0 : ¬cond0_0 i) (hc1 : ¬cond0_1 i) (hc2 : ¬cond0_2 i) (hc3 : cond0_3 i) (h : Fin 3) (r : Fin 1024) :
    out0_C_5 c i arg3 harg3 arg4 harg4 arg5 harg5 arg6 harg6 arg7 harg7 arg8 harg8 arg9 harg9 arg10 harg10 arg11 harg11 hc0 hc1 hc2 hc3 x0 x1 x2 x3 xs0 xs1 xs2 (ix3 h r 0) = logSum (xs0 (ix3 h r 0)) (xs1 (ix3 h r 0)) := by
  unfold out0_C_5
  rw [View.read_writes_eq_canon _ _ _ (cover0_C_5 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_C
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_rows]
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, logSum, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

/-- The last key block, on the diagonal: the output. -/
theorem out_G_4 (hc0 : ¬cond0_0 i) (hc1 : ¬cond0_1 i) (hc2 : cond0_2 i) (hc3 : cond0_3 i) (h : Fin 3) (r : Fin 1024) (d : Fin 128) :
    out0_G_4 c i arg3 harg3 arg4 harg4 arg5 harg5 arg6 harg6 arg7 harg7 arg8 harg8 arg9 harg9 arg10 harg10 arg11 harg11 hc0 hc1 hc2 hc3 x0 x1 x2 x3 xs0 xs1 xs2 (ix2 r (col h d)) = Ideal.div (newAcc true x0 x1 x2 x3 h r d (xs0 (ix3 h r 0)) (xs2 (ix2 r (col h d)))) (newSum true x0 x1 x3 h r (xs0 (ix3 h r 0)) (xs1 (ix3 h r 0))) := by
  unfold out0_G_4
  rw [View.read_writes_eq_canon _ _ _ (cover0_G_4 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_G
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_cols]
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, logSum, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

/-- The last key block, on the diagonal: the rows' logarithms of the sums. -/
theorem out_G_5 (hc0 : ¬cond0_0 i) (hc1 : ¬cond0_1 i) (hc2 : cond0_2 i) (hc3 : cond0_3 i) (h : Fin 3) (r : Fin 1024) :
    out0_G_5 c i arg3 harg3 arg4 harg4 arg5 harg5 arg6 harg6 arg7 harg7 arg8 harg8 arg9 harg9 arg10 harg10 arg11 harg11 hc0 hc1 hc2 hc3 x0 x1 x2 x3 xs0 xs1 xs2 (ix3 h r 0) = logSum (newMax true x0 x1 x3 h r (xs0 (ix3 h r 0))) (newSum true x0 x1 x3 h r (xs0 (ix3 h r 0)) (xs1 (ix3 h r 0))) := by
  unfold out0_G_5
  rw [View.read_writes_eq_canon _ _ _ (cover0_G_5 c i arg3 harg3 arg4 harg4 arg5 harg5 arg6 harg6 arg7 harg7 arg8 harg8 arg9 harg9 arg10 harg10 arg11 harg11 hc0 hc1 hc2 hc3 x0 x1 x2 x3 xs0 xs1 xs2)]
  unfold kernelRun0_G
  dsimp only
  sl_unfold_words
  simp only [View.readAt_eq_ld, harg3.read_unread, harg4.read_unread, harg5.read_unread, harg6.read_unread, harg7.read_unread, harg8.read_unread, harg9.read_unread, harg10.read_unread, harg11.read_unread, View.readCov_eq_canon']
  try simp (disch := omega) only [load_hit, load_cols, load_rows, load_whole2, load_whole3]
  rw [canon_three_rows]
  obtain rfl | rfl | rfl : h = 0 ∨ h = 1 ∨ h = 2 := by omega
  all_goals
    simp only [Matrix.cons_val_zero, Matrix.cons_val_one, Matrix.cons_val_two, Matrix.cons_val, Matrix.head_cons, Matrix.tail_cons]
    pointwise [newAcc, newSum, newMax, wt, rescale, logSum, score, col_zero, col_one, col_two, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
    try simp (disch := omega) only [Bool.false_eq_true, and_false, ↓reduceIte, ↓reduceDIte, dif_pos, dif_neg, if_pos, if_neg]
    try rfl

end Cert.AttIdeal.Tile
-- ==== Proof.AttReal.lean ====
/-
  THE MATHEMATICS OF THE STREAMED SOFTMAX.

  A row's weights less a running maximum, summed block by block against any array `f` of extended reals: moving to another
  maximum multiplies the sum by a power of two, and after the last block the quotient and the logarithm no longer depend on it.
-/
module

public import proofs.«01_k».proof.Proof.FoxIdeal
public import Idealize.ShloMosaic.Lib.Pipeline.ValueKit

@[expose] public section

set_option maxRecDepth 16384

noncomputable section

namespace Fox

open Idealize.ShloMosaic
open scoped BigOperators

/-! ## Moving a row of scores -/

section Row
variable {n : ℕ} (x : Fin n → ℝ) (s : Fin n)

theorem sum_weight_shift (a : ℝ) : ∑ u, weight (fun u => x u - a) s u = (∑ u, weight x s u) * Real.exp (-a) := by
  simp only [weight_shift, ← Finset.sum_mul]

/-- A row's logarithm of the sum of exponentials, computed from the scores less any number. -/
theorem log_sum_shift (a : ℝ) : a + Real.log (∑ u, weight (fun u => x u - a) s u) = Real.log (∑ u, weight x s u) := by
  rw [sum_weight_shift, Real.log_mul (sum_weight_pos x s).ne' (Real.exp_pos _).ne', Real.log_exp]
  ring

/-- A power of two of a masked score less a real is a weight. -/
theorem exp2_weight (M : ℝ) (t : Fin n) :
    Ideal.exp2 ((if t ≤ s then ((x t / Real.log 2 : ℝ) : EReal) else ⊥) - (M : EReal)) = (weight (fun u => x u - M * Real.log 2) s t : EReal) := by
  have hl : Real.log 2 ≠ 0 := (Real.log_pos (by norm_num)).ne'
  unfold weight
  by_cases h : t ≤ s
  · rw [if_pos h, if_pos h, ← EReal.coe_sub, Ideal.exp2_coe]
    congr 1
    rw [Real.rpow_eq_pow, Real.rpow_def_of_pos (by norm_num)]
    congr 1
    field_simp
  · rw [if_neg h, if_neg h, EReal.bot_sub, Ideal.exp2_bot, EReal.coe_zero]

end Row

/-- A power of two of a difference of reals. -/
theorem exp2_sub (o M : ℝ) : Ideal.exp2 ((o : EReal) - (M : EReal)) = (Real.exp ((o - M) * Real.log 2) : EReal) := by
  rw [← EReal.coe_sub, Ideal.exp2_coe, Real.rpow_eq_pow, Real.rpow_def_of_pos (by norm_num), mul_comm]

/-- A nonnegative real times a sum of extended reals. -/
theorem real_mul_sum {ι : Type*} (A : Finset ι) {r : ℝ} (hr : 0 ≤ r) (f : ι → EReal) : (r : EReal) * ∑ i ∈ A, f i = ∑ i ∈ A, (r : EReal) * f i := by
  classical
  induction A using Finset.induction_on with
  | empty => simp
  | insert a A ha ih =>
    rw [Finset.sum_insert ha, Finset.sum_insert ha, EReal.left_distrib_of_nonneg_of_ne_top (EReal.coe_nonneg.mpr hr) (EReal.coe_ne_top r), ih]

/-! ## Sums over the blocks of columns -/

/-- The sum of `f` over the columns of block `j`. -/
def block (f : Fin 8192 → EReal) (j : ℕ) : EReal := ∑ r : Fin 1024, if h : j * 1024 + r.val < 8192 then f ⟨j * 1024 + r.val, h⟩ else 0

/-- The eight blocks of columns are all columns. -/
theorem blocks_all (f : Fin 8192 → EReal) : ∑ j ∈ Finset.range 8, block f j = ∑ t, f t := by
  unfold block
  have e : ∀ j : ℕ, (∑ r : Fin 1024, if h : j * 1024 + r.val < 8192 then f ⟨j * 1024 + r.val, h⟩ else 0)
      = ∑ r ∈ Finset.range 1024, (fun n : ℕ => if h : n < 8192 then f ⟨n, h⟩ else 0) (j * 1024 + r) := fun j =>
    Fin.sum_univ_eq_sum_range (fun r => (fun n : ℕ => if h : n < 8192 then f ⟨n, h⟩ else 0) (j * 1024 + r)) 1024
  simp only [e]
  have e2 := Finset.sum_range_mul_split 8 1024 (fun n : ℕ => if h : n < 8192 then f ⟨n, h⟩ else 0)
  rw [← e2, show 8 * 1024 = 8192 from rfl, ← Fin.sum_univ_eq_sum_range]
  exact Finset.sum_congr rfl fun s _ => by rw [dif_pos s.isLt]

section Part
variable (x : Fin 8192 → ℝ) (s : Fin 8192) (f : Fin 8192 → EReal)

/-- One weighted value of row `s`, the scores less `a`. -/
def term (a : ℝ) (t : Fin 8192) : EReal := (weight (fun u => x u - a) s t : EReal) * f t
/-- The sum of the weighted values over the first `n` blocks of columns. -/
def part (a : ℝ) (n : ℕ) : EReal := ∑ j ∈ Finset.range n, block (term x s f a) j

theorem part_succ (a : ℝ) (n : ℕ) : part x s f a (n + 1) = part x s f a n + block (term x s f a) n := Finset.sum_range_succ _ _
theorem part_zero (a : ℝ) : part x s f a 0 = 0 := by simp [part]

/-- The sum moves from one maximum to another by a power of two. -/
theorem part_rescale (o M : ℝ) (n : ℕ) :
    (Real.exp ((o - M) * Real.log 2) : EReal) * part x s f (o * Real.log 2) n = part x s f (M * Real.log 2) n := by
  have hr := (Real.exp_pos ((o - M) * Real.log 2)).le
  unfold part
  rw [real_mul_sum _ hr]
  refine Finset.sum_congr rfl fun j _ => ?_
  unfold block
  rw [real_mul_sum _ hr]
  refine Finset.sum_congr rfl fun r _ => ?_
  split
  · unfold term
    rw [← mul_assoc, ← EReal.coe_mul, weight_shift, weight_shift]
    congr 2
    rw [mul_left_comm, ← Real.exp_add]
    congr 2
    ring
  · rw [mul_zero]

/-- After the last block the sum of the weights is a real. -/
theorem part_one (a : ℝ) : part x s (fun _ => 1) a 8 = ((∑ u, weight (fun u => x u - a) s u : ℝ) : EReal) := by
  unfold part term
  rw [blocks_all]
  simp only [mul_one, coe_sum]

/-- After the last block the quotient of the sums is the average of `f` under the softmax. -/
theorem part_div (a : ℝ) : Ideal.div (part x s f a 8) (part x s (fun _ => 1) a 8) = ∑ t, f t * (soft x s t : EReal) := by
  have hp := sum_weight_pos (fun u => x u - a) s
  rw [part_one, Ideal.div_coe hp.ne', mul_comm]
  unfold part
  rw [blocks_all, real_mul_sum _ (by positivity)]
  refine Finset.sum_congr rfl fun t _ => ?_
  unfold term
  rw [← mul_assoc, ← EReal.coe_mul, mul_comm, ← soft_shift x s a t]
  unfold soft
  congr 2
  ring

/-- A row's logarithm of the sum in base two. -/
def logSum : ℝ := Real.log (∑ u, weight x s u) / Real.log 2

/-- After the last block the maximum and the logarithm of the sum give the row's logarithm of the sum. -/
theorem part_log (M : ℝ) :
    (M : EReal) + Ideal.div (Ideal.log (part x s (fun _ => 1) (M * Real.log 2) 8)) (Ideal.log (Ideal.ofBits .f32 0x40000000#32))
      = (logSum x s : EReal) := by
  have hl : Real.log 2 ≠ 0 := (Real.log_pos (by norm_num)).ne'
  rw [part_one, Ideal.log_coe, if_neg (not_le.mpr (sum_weight_pos _ _)), log_two, div_real _ _ hl, ← EReal.coe_add]
  congr 1
  unfold logSum
  rw [← log_sum_shift x s (M * Real.log 2)]
  field_simp

end Part

end Fox
-- ==== Proof.AttArray.lean ====
/-
  WHAT THE ARRAYS OF THE ATTENTION'S FORWARD KERNEL HOLD, for queries, keys and gates that hold the real data `D`.

  At grid point `t` (group of heads `t / 64`, query block `t / 8 % 8`, key block `t % 8`) the scratch holds, for every row of the
  query block, a real maximum and the sums of the row's weights less that maximum over the key blocks up to `t % 8`: a tile below
  or on the diagonal moves the sums to the new maximum and adds its columns, a skipped tile's columns add nothing since their
  weights are zero. The last key block completes the sums; the quotient and the logarithm no longer depend on the maximum.
-/
module

public import proofs.«01_k».proof.Proof.AttTile
public import proofs.«01_k».proof.Proof.AttReal
public import proofs.«01_k».proof.Proof.DkvSaved
public import proofs.«01_k».proof.Proof.Gen.AttIdeal.Value
public import Idealize.ShloMosaic.Lib.Pipeline.ValueKit
public import Idealize.ShloMosaic.Lib.Claim

@[expose] public section

set_option maxRecDepth 16384

noncomputable section

namespace Cert.AttIdeal.Real

open Cert.AttIdeal Cert.AttIdeal.Gen Idealize.ShloMosaic Idealize.ShloMosaic.TcCoe
open scoped BigOperators

/-! ## One row's running state -/

/-- A row's state after `n` blocks of columns: a real maximum `o`, the sum `l` of the weights and the sums `a` of the weighted
    values `f`, both of the scores less the maximum. -/
def Row (x : Fin 8192 → ℝ) (s : Fin 8192) (f : Fin 128 → Fin 8192 → EReal) (n : ℕ) (o l : EReal) (a : Fin 128 → EReal) : Prop :=
  ∃ M : ℝ, o = (M : EReal) ∧ l = Fox.part x s (fun _ => 1) (M * Real.log 2) n ∧ ∀ d, a d = Fox.part x s (f d) (M * Real.log 2) n

section Row
variable {x : Fin 8192 → ℝ} {s : Fin 8192} {f : Fin 128 → Fin 8192 → EReal} {n : ℕ} {o l : EReal} {a : Fin 128 → EReal}

/-- A complete row's quotient is the average of the values under the softmax. -/
theorem Row.output (H : Row x s f 8 o l a) (d : Fin 128) : Ideal.div (a d) l = ∑ t, f d t * (Fox.soft x s t : EReal) := by
  obtain ⟨M, _, hl, ha⟩ := H
  rw [hl, ha d, Fox.part_div]

/-- A complete row's logarithm of the sum. -/
theorem Row.logSum (H : Row x s f 8 o l a) : Tile.logSum o l = (Fox.logSum x s : EReal) := by
  obtain ⟨M, ho, hl, _⟩ := H
  unfold Tile.logSum
  rw [ho, hl, Fox.part_log]

end Row

variable (m : (ℓ : Loc nD τ sig) → Buf (Elt Ideal) ℓ) (c : Dev nD)

/-! ## The grid point's coordinates -/

/-- The head of a grid point and one of its three heads. -/
def head (t : Fin cfg0.N) (h : Fin 3) : Fin 6 := ⟨3 * (t.val / 64) + h.val, by have h1 : t.val < 128 := lt_of_lt_of_eq t.isLt N_0; omega⟩
/-- The row of the keys and values. -/
def keyRow (t : Fin cfg0.N) (a : Fin 1024) : Fin 8192 := ⟨t.val % 8 * 1024 + a.val, by omega⟩
/-- The row of the queries. -/
def queryRow (t : Fin cfg0.N) (r : Fin 1024) : Fin 8192 := ⟨t.val / 8 % 8 * 1024 + r.val, by omega⟩

theorem index_q : ∀ t : Fin cfg0.N, win0_0.index t = ![t.val / 8 % 8, t.val / 64] :=
  (by decide +kernel : ∀ t : Fin grid0.N, win0_0.index t = ![t.val / 8 % 8, t.val / 64])
theorem index_k : ∀ t : Fin cfg0.N, t.val % 8 ≤ t.val / 8 % 8 → win0_1.index t = ![t.val % 8, t.val / 64] :=
  (by decide +kernel : ∀ t : Fin grid0.N, t.val % 8 ≤ t.val / 8 % 8 → win0_1.index t = ![t.val % 8, t.val / 64])
theorem index_v : ∀ t : Fin cfg0.N, t.val % 8 ≤ t.val / 8 % 8 → win0_2.index t = ![t.val % 8, t.val / 64] :=
  (by decide +kernel : ∀ t : Fin grid0.N, t.val % 8 ≤ t.val / 8 % 8 → win0_2.index t = ![t.val % 8, t.val / 64])
theorem index_c : ∀ t : Fin cfg0.N, t.val % 8 ≤ t.val / 8 % 8 → win0_3.index t = ![t.val / 64, 0, t.val % 8] :=
  (by decide +kernel : ∀ t : Fin grid0.N, t.val % 8 ≤ t.val / 8 % 8 → win0_3.index t = ![t.val / 64, 0, t.val % 8])
theorem index_o : ∀ t : Fin cfg0.N, win0_4.index t = ![t.val / 8 % 8, t.val / 64] :=
  (by decide +kernel : ∀ t : Fin grid0.N, win0_4.index t = ![t.val / 8 % 8, t.val / 64])
theorem index_l : ∀ t : Fin cfg0.N, win0_5.index t = ![t.val / 64, t.val / 8 % 8, 0] :=
  (by decide +kernel : ∀ t : Fin grid0.N, win0_5.index t = ![t.val / 64, t.val / 8 % 8, 0])

/-! ## The blocks read at coordinates -/

section Blocks
variable (t : Fin cfg0.N) (h : Fin 3) (d : Fin 128)

theorem block_q (r : Fin 1024) :
    X0_0 m c t (ix2 r (Tile.col h d)) = m ((c : Thread nD τ).loc main_arg0) (ix2 (queryRow t r) (Fox.colP (head t h) d)) := by
  unfold X0_0 Pipeline.Window.fill
  rw [dif_pos (moved0_0 t _)]
  blk_simp [iblk]
  rw [V_main_arg0]
  refine congrArg (m ((c : Thread nD τ).loc main_arg0)) ?_
  blk_ext [index_q t, queryRow, head, Fox.colP, Tile.col]

theorem block_k (hd : t.val % 8 ≤ t.val / 8 % 8) (a : Fin 1024) :
    iblk m c 1 t (ix2 a (Tile.col h d)) = m ((c : Thread nD τ).loc main_arg1) (ix2 (keyRow t a) (Fox.col (head t h) d)) := by
  blk_simp [iblk]
  rw [V_main_arg1]
  refine congrArg (m ((c : Thread nD τ).loc main_arg1)) ?_
  blk_ext [index_k t hd, keyRow, head, Fox.col, Tile.col]

theorem block_v (hd : t.val % 8 ≤ t.val / 8 % 8) (a : Fin 1024) :
    iblk m c 2 t (ix2 a (Tile.col h d)) = m ((c : Thread nD τ).loc main_arg2) (ix2 (keyRow t a) (Fox.col (head t h) d)) := by
  blk_simp [iblk]
  rw [V_main_arg2]
  refine congrArg (m ((c : Thread nD τ).loc main_arg2)) ?_
  blk_ext [index_v t hd, keyRow, head, Fox.col, Tile.col]

theorem block_c (hd : t.val % 8 ≤ t.val / 8 % 8) (a : Fin 1024) :
    iblk m c 3 t (ix3 h 0 a) = V m c main_v3 (ix3 (head t h) 0 (keyRow t a)) := by
  blk_simp [iblk]
  refine congrArg (V m c main_v3) ?_
  blk_ext [index_c t hd, keyRow, head]

end Blocks

/-- The log-gates, base two: the same array as the gradients' saved values use. -/
theorem gates : V m c main_v3 = Cert.DkvSavedIdeal.Read.val_main_v3 (F := Ideal) (m ((c : Thread nD τ).loc main_arg3)) := by
  unfold V
  after_results_simp <;> rfl

/-! ## The tile's constants -/

theorem scale2 : Named.named (F := Ideal) κ "scale2" (φ := .f32) 0x3E0293EE#32 = ((Fox.scale * (Real.log 2)⁻¹ : ℝ) : EReal) :=
  IdealRules.named_const.ideal_named_scalar _ _ _ _ rfl
theorem mask : Named.named (F := Ideal) κ "mask" (φ := .f32) 0xF149F2CA#32 = (⊥ : EReal) :=
  IdealRules.named_const.ideal_named_scalar _ _ _ _ rfl

variable {m c} {D : Fox.Data} {y4 : (⟨2, ![8192, 1024]⟩ : Shape).Idx → EReal} {y2 : (⟨2, ![8192, 768]⟩ : Shape).Idx → EReal}

/-- The values of one head's features, as the launch finds them. -/
def vals (m : (ℓ : Loc nD τ sig) → Buf (Elt Ideal) ℓ) (c : Dev nD) (g : Fin 6) (d : Fin 128) (u : Fin 8192) : EReal :=
  m ((c : Thread nD τ).loc main_arg2) (ix2 u (Fox.col g d))

variable (R : Fox.Reads D (m ((c : Thread nD τ).loc main_arg0)) y4 (m ((c : Thread nD τ).loc main_arg1)) y2 (m ((c : Thread nD τ).loc main_arg3)))
variable (t : Fin cfg0.N) (h : Fin 3)

/-! ## One tile over the reals -/

/-- A sum of products of reals. -/
theorem dot_real {x y : Fin 128 → EReal} {a b : Fin 128 → ℝ} (hx : ∀ d, x d = (a d : EReal)) (hy : ∀ d, y d = (b d : EReal)) :
    ∑ d, x d * y d = ((∑ d, a d * b d : ℝ) : EReal) := by
  rw [← Fox.coe_sum]
  exact Finset.sum_congr rfl fun d _ => by rw [hx, hy, EReal.coe_mul]

include R in
/-- The scores of a tile below or on the diagonal, base two, masked. -/
theorem score_real (diag : Bool) (r a : Fin 1024) (hd : t.val % 8 ≤ t.val / 8 % 8) (hdiag : diag = true ↔ t.val / 8 % 8 = t.val % 8) :
    Tile.score diag (X0_0 m c t) (iblk m c 1 t) (iblk m c 3 t) h r a
      = if keyRow t a ≤ queryRow t r then ((D.logit (head t h) (queryRow t r) (keyRow t a) / Real.log 2 : ℝ) : EReal) else ⊥ := by
  have e : ∀ (x0 x1 : S1024x384.Idx → EReal) (x3 : S3x1x1024.Idx → EReal), x0 = X0_0 m c t → x1 = iblk m c 1 t → x3 = iblk m c 3 t →
      (∑ d, x0 (ix2 r (Tile.col h d)) * x1 (ix2 a (Tile.col h d))) * Named.named (F := Ideal) κ "scale2" (φ := .f32) 0x3E0293EE#32 - x3 (ix3 h 0 a)
      = ((D.logit (head t h) (queryRow t r) (keyRow t a) / Real.log 2 : ℝ) : EReal) := by
    intro x0 x1 x3 e0 e1 e3
    subst e0 e1 e3
    rw [dot_real (fun d => (block_q m c t h d r).trans (R.q _ _ _)) (fun d => (block_k m c t h d hd a).trans (R.k _ _ _)),
      block_c m c t h hd, gates, Cert.DkvSavedIdeal.Real.gate R, scale2, ← EReal.coe_mul, ← EReal.coe_sub]
    congr 1
    unfold Fox.Data.logit
    rw [R.sc, sub_div, ← mul_assoc, div_eq_mul_inv ((∑ d, _) * _)]
  unfold Tile.score
  rw [e _ _ _ rfl rfl rfl, mask]
  cases diag with
  | true =>
    have e := hdiag.mp rfl
    rw [if_pos rfl, Fox.select_le (by norm_num)]
    refine if_congr ?_ rfl rfl
    simp only [Fin.le_def, keyRow, queryRow]
    omega
  | false =>
    have e : ¬ t.val / 8 % 8 = t.val % 8 := fun h => by simpa using hdiag.mpr h
    rw [if_neg (by simp), if_pos]
    simp only [Fin.le_def, keyRow, queryRow]
    omega

include R in
/-- The new maximum is a real. -/
theorem newMax_real (diag : Bool) (r : Fin 1024) (hd : t.val % 8 ≤ t.val / 8 % 8) (hdiag : diag = true ↔ t.val / 8 % 8 = t.val % 8)
    {o : EReal} (ho : o ≠ ⊤) : ∃ M : ℝ, Tile.newMax diag (X0_0 m c t) (iblk m c 1 t) (iblk m c 3 t) h r o = (M : EReal) := by
  obtain ⟨M, hM⟩ := Fox.fold_max_real (fun a => Tile.score diag (X0_0 m c t) (iblk m c 1 t) (iblk m c 3 t) h r a)
    (fun a => by rw [score_real R t h diag r a hd hdiag]; split <;> simp)
    r (by
      rw [score_real R t h diag r r hd hdiag, if_pos (by simp only [Fin.le_def, keyRow, queryRow]; omega)]
      simp)
  unfold Tile.newMax
  rw [Fox.ofBits_negInf, hM]
  induction o using EReal.rec with
  | bot => exact ⟨M, max_eq_right bot_le⟩
  | coe o => exact ⟨max o M, (EReal.coe_strictMono.monotone.map_max).symm⟩
  | top => exact absurd rfl ho

theorem block_key (f : Fin 8192 → EReal) : Fox.block f (t.val % 8) = ∑ a, f (keyRow t a) := by
  unfold Fox.block
  exact Finset.sum_congr rfl fun a _ => by rw [dif_pos (by omega)]; rfl

include R in
/-- A tile's weights, once the new maximum is known. -/
theorem wt_real (diag : Bool) (r a : Fin 1024) (hd : t.val % 8 ≤ t.val / 8 % 8) (hdiag : diag = true ↔ t.val / 8 % 8 = t.val % 8)
    {o : EReal} {M : ℝ} (hM : Tile.newMax diag (X0_0 m c t) (iblk m c 1 t) (iblk m c 3 t) h r o = (M : EReal)) :
    Tile.wt diag (X0_0 m c t) (iblk m c 1 t) (iblk m c 3 t) h r o a
      = (Fox.weight (fun u => D.logit (head t h) (queryRow t r) u - M * Real.log 2) (queryRow t r) (keyRow t a) : EReal) := by
  unfold Tile.wt
  rw [hM, score_real R t h diag r a hd hdiag]
  exact Fox.exp2_weight _ _ M (keyRow t a)

include R in
/-- The first tile of a row starts its state. -/
theorem row_first (diag : Bool) (r : Fin 1024) (hd : t.val % 8 ≤ t.val / 8 % 8) (hdiag : diag = true ↔ t.val / 8 % 8 = t.val % 8)
    (h0 : t.val % 8 = 0) {o l : EReal} {a : Fin 128 → EReal} (ho : o = ⊥) (hl : l = 0) (ha : ∀ d, a d = 0) :
    Row (D.logit (head t h) (queryRow t r)) (queryRow t r) (vals m c (head t h)) (t.val % 8 + 1)
      (Tile.newMax diag (X0_0 m c t) (iblk m c 1 t) (iblk m c 3 t) h r o)
      (Tile.newSum diag (X0_0 m c t) (iblk m c 1 t) (iblk m c 3 t) h r o l)
      (fun d => Tile.newAcc diag (X0_0 m c t) (iblk m c 1 t) (iblk m c 2 t) (iblk m c 3 t) h r d o (a d)) := by
  obtain ⟨M, hM⟩ := newMax_real R t h diag r hd hdiag (o := o) (by rw [ho]; simp)
  refine ⟨M, hM, ?_, fun d => ?_⟩
  · unfold Tile.newSum
    rw [hl, mul_zero, zero_add, Fox.part_succ, block_key, h0, Fox.part_zero, zero_add]
    refine Finset.sum_congr rfl fun a _ => ?_
    rw [wt_real R t h diag r a hd hdiag hM]
    exact (mul_one _).symm
  · dsimp only
    unfold Tile.newAcc
    rw [ha, mul_zero, zero_add, Fox.part_succ, block_key, h0, Fox.part_zero, zero_add]
    refine Finset.sum_congr rfl fun a _ => ?_
    rw [wt_real R t h diag r a hd hdiag hM, block_v m c t h d hd]
    rfl

include R in
/-- A later tile of a row takes its state one block further. -/
theorem row_next (diag : Bool) (r : Fin 1024) (hd : t.val % 8 ≤ t.val / 8 % 8) (hdiag : diag = true ↔ t.val / 8 % 8 = t.val % 8)
    {o l : EReal} {a : Fin 128 → EReal}
    (H : Row (D.logit (head t h) (queryRow t r)) (queryRow t r) (vals m c (head t h)) (t.val % 8) o l a) :
    Row (D.logit (head t h) (queryRow t r)) (queryRow t r) (vals m c (head t h)) (t.val % 8 + 1)
      (Tile.newMax diag (X0_0 m c t) (iblk m c 1 t) (iblk m c 3 t) h r o)
      (Tile.newSum diag (X0_0 m c t) (iblk m c 1 t) (iblk m c 3 t) h r o l)
      (fun d => Tile.newAcc diag (X0_0 m c t) (iblk m c 1 t) (iblk m c 2 t) (iblk m c 3 t) h r d o (a d)) := by
  obtain ⟨O, ho, hl, ha⟩ := H
  obtain ⟨M, hM⟩ := newMax_real R t h diag r hd hdiag (o := o) (by rw [ho]; simp)
  have hr : Tile.rescale diag (X0_0 m c t) (iblk m c 1 t) (iblk m c 3 t) h r o = (Real.exp ((O - M) * Real.log 2) : EReal) := by
    unfold Tile.rescale
    rw [hM, ho]
    exact Fox.exp2_sub O M
  refine ⟨M, hM, ?_, fun d => ?_⟩
  · unfold Tile.newSum
    rw [hr, hl, Fox.part_rescale, Fox.part_succ, block_key]
    refine congrArg (Fox.part _ _ _ _ _ + ·) (Finset.sum_congr rfl fun a _ => ?_)
    rw [wt_real R t h diag r a hd hdiag hM]
    exact (mul_one _).symm
  · dsimp only
    unfold Tile.newAcc
    rw [hr, ha, Fox.part_rescale, Fox.part_succ, block_key]
    refine congrArg (Fox.part _ _ _ _ _ + ·) (Finset.sum_congr rfl fun a _ => ?_)
    rw [wt_real R t h diag r a hd hdiag hM, block_v m c t h d hd]
    rfl

/-- A tile above the diagonal adds nothing to a row. -/
theorem row_skip (r : Fin 1024) (hd : ¬ t.val % 8 ≤ t.val / 8 % 8) {x : Fin 8192 → ℝ} {f : Fin 128 → Fin 8192 → EReal} {o l : EReal} {a : Fin 128 → EReal}
    (H : Row x (queryRow t r) f (t.val % 8) o l a) : Row x (queryRow t r) f (t.val % 8 + 1) o l a := by
  have z : ∀ (g : Fin 8192 → EReal) (b : ℝ), Fox.block (Fox.term x (queryRow t r) g b) (t.val % 8) = 0 := fun g b => by
    rw [block_key]
    refine Finset.sum_eq_zero fun a _ => ?_
    unfold Fox.term Fox.weight
    rw [if_neg (by simp only [Fin.le_def, keyRow, queryRow]; omega), EReal.coe_zero, zero_mul]
  obtain ⟨M, ho, hl, ha⟩ := H
  refine ⟨M, ho, ?_, fun d => ?_⟩
  · rw [hl, Fox.part_succ, z, add_zero]
  · rw [ha, Fox.part_succ, z, add_zero]

/-! ## The scratch after each grid point -/

/-- What the scratch holds of every row after `n` key blocks. -/
def State (m : (ℓ : Loc nD τ sig) → Buf (Elt Ideal) ℓ) (c : Dev nD) (D : Fox.Data) (t : Fin cfg0.N) (n : ℕ)
    (s0 s1 : S3x1024x1.Idx → EReal) (s2 : S1024x384.Idx → EReal) : Prop :=
  ∀ (h : Fin 3) (r : Fin 1024), Row (D.logit (head t h) (queryRow t r)) (queryRow t r) (vals m c (head t h)) n
    (s0 (ix3 h r 0)) (s1 (ix3 h r 0)) (fun d => s2 (ix2 r (Tile.col h d)))

/-- What the scratch holds after grid point `t`. -/
def After (m : (ℓ : Loc nD τ sig) → Buf (Elt Ideal) ℓ) (c : Dev nD) (D : Fox.Data) (t : Fin cfg0.N) : Prop :=
  State m c D t (t.val % 8 + 1) (outsAt0 m c t.val t.isLt).2.2.1 (outsAt0 m c t.val t.isLt).2.2.2.1 (outsAt0 m c t.val t.isLt).2.2.2.2

/-- What a point that is not the first of its run finds in the scratch. -/
theorem before (h0 : ¬ t.val % 8 = 0) (ih : ∀ p : Fin cfg0.N, p.val = t.val - 1 → After m c D p) :
    State m c D t (t.val % 8) (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2 := by
  have H := ih ⟨t.val - 1, lt_of_le_of_lt (Nat.sub_le _ _) t.isLt⟩ rfl
  have eh : head ⟨t.val - 1, lt_of_le_of_lt (Nat.sub_le _ _) t.isLt⟩ = head t := by
    funext h; apply Fin.ext; simp only [head]; omega
  have eq : queryRow ⟨t.val - 1, lt_of_le_of_lt (Nat.sub_le _ _) t.isLt⟩ = queryRow t := by
    funext a; apply Fin.ext; simp only [queryRow]; omega
  have en : (t.val - 1) % 8 + 1 = t.val % 8 := by omega
  intro h r
  have H := H h r
  rw [eh, eq] at H
  simp only [en] at H
  exact H

theorem start_bot (h : Fin 3) (r : Fin 1024) : k0_pay1 (F := Ideal) (ix3 h r 0) = (⊥ : EReal) := by
  rw [Tile.pay_start]
  exact mask

include R

theorem after_A (h0 : t.val % 8 = 0) (h2 : t.val / 8 % 8 = t.val % 8) : After m c D t := by
  have hg : (true = true) ↔ t.val / 8 % 8 = t.val % 8 := ⟨fun _ => h2, fun _ => rfl⟩
  unfold After
  rw [outsAt0_A m c t h0 (by omega) h2 (by omega)]
  intro h r
  dsimp only
  simp only [Tile.scr_A_0, Tile.scr_A_1, Tile.scr_A_2]
  exact row_first R t h true r (by omega) hg h0 (start_bot h r) (Tile.pay_sum _) fun d => Tile.pay_acc _

theorem after_D (h0 : t.val % 8 = 0) (h1 : t.val % 8 + 1 ≤ t.val / 8 % 8) : After m c D t := by
  have hg : (false = true) ↔ t.val / 8 % 8 = t.val % 8 := ⟨fun h => by simp at h, fun h => by omega⟩
  unfold After
  rw [outsAt0_D m c t h0 h1 (by omega) (by omega)]
  intro h r
  dsimp only
  simp only [Tile.scr_D_0, Tile.scr_D_1, Tile.scr_D_2]
  exact row_first R t h false r (by omega) hg h0 (start_bot h r) (Tile.pay_sum _) fun d => Tile.pay_acc _

theorem after_E (h0 : ¬ t.val % 8 = 0) (h2 : t.val / 8 % 8 = t.val % 8) (h3 : ¬ t.val % 8 = 7)
    (ih : ∀ p : Fin cfg0.N, p.val = t.val - 1 → After m c D p) : After m c D t := by
  have hg : (true = true) ↔ t.val / 8 % 8 = t.val % 8 := ⟨fun _ => h2, fun _ => rfl⟩
  have H := before t h0 ih
  unfold After
  rw [outsAt0_E m c t h0 (by omega) h2 h3]
  intro h r
  dsimp only
  simp only [Tile.scr_E_0, Tile.scr_E_1, Tile.scr_E_2]
  exact row_next R t h true r (by omega) hg (H h r)

theorem after_F (h0 : ¬ t.val % 8 = 0) (h1 : t.val % 8 + 1 ≤ t.val / 8 % 8)
    (ih : ∀ p : Fin cfg0.N, p.val = t.val - 1 → After m c D p) : After m c D t := by
  have hg : (false = true) ↔ t.val / 8 % 8 = t.val % 8 := ⟨fun h => by simp at h, fun h => by omega⟩
  have H := before t h0 ih
  unfold After
  rw [outsAt0_F m c t h0 h1 (by omega) (by omega)]
  intro h r
  dsimp only
  simp only [Tile.scr_F_0, Tile.scr_F_1, Tile.scr_F_2]
  exact row_next R t h false r (by omega) hg (H h r)

theorem after_G (h2 : t.val / 8 % 8 = t.val % 8) (h3 : t.val % 8 = 7)
    (ih : ∀ p : Fin cfg0.N, p.val = t.val - 1 → After m c D p) : After m c D t := by
  have hg : (true = true) ↔ t.val / 8 % 8 = t.val % 8 := ⟨fun _ => h2, fun _ => rfl⟩
  have H := before t (by omega) ih
  unfold After
  rw [outsAt0_G m c t (by omega) (by omega) h2 h3]
  intro h r
  dsimp only
  simp only [Tile.scr_G_0, Tile.scr_G_1, Tile.scr_G_2]
  exact row_next R t h true r (by omega) hg (H h r)

omit R in
theorem after_B (h0 : ¬ t.val % 8 = 0) (h1 : ¬ t.val % 8 ≤ t.val / 8 % 8) (h3 : ¬ t.val % 8 = 7)
    (ih : ∀ p : Fin cfg0.N, p.val = t.val - 1 → After m c D p) : After m c D t := by
  have H := before t h0 ih
  unfold After
  rw [outsAt0_B m c t h0 (by omega) (by omega) h3]
  exact fun h r => row_skip t r h1 (H h r)

omit R in
theorem after_C (h1 : ¬ t.val % 8 ≤ t.val / 8 % 8) (h3 : t.val % 8 = 7)
    (ih : ∀ p : Fin cfg0.N, p.val = t.val - 1 → After m c D p) : After m c D t := by
  have H := before t (by omega) ih
  unfold After
  rw [outsAt0_C m c t (by omega) (by omega) (by omega) h3]
  exact fun h r => row_skip t r h1 (H h r)

/-- After every grid point the scratch holds the sums over the key blocks walked so far. -/
theorem after_all (n : ℕ) : ∀ t : Fin cfg0.N, t.val = n → After m c D t := by
  induction n using Nat.strong_induction_on with
  | _ n ih =>
    intro t ht
    have ih' : ¬ t.val % 8 = 0 → ∀ p : Fin cfg0.N, p.val = t.val - 1 → After m c D p := fun h0 p hp => ih p.val (by omega) p rfl
    by_cases h0 : t.val % 8 = 0
    · by_cases h2 : t.val / 8 % 8 = t.val % 8
      · exact after_A R t h0 h2
      · exact after_D R t h0 (by omega)
    · by_cases h2 : t.val / 8 % 8 = t.val % 8
      · by_cases h3 : t.val % 8 = 7
        · exact after_G R t h2 h3 (ih' h0)
        · exact after_E R t h0 h2 h3 (ih' h0)
      · by_cases h1 : t.val % 8 + 1 ≤ t.val / 8 % 8
        · exact after_F R t h0 h1 (ih' h0)
        · by_cases h3 : t.val % 8 = 7
          · exact after_C t (by omega) h3 (ih' h0)
          · exact after_B t h0 (by omega) h3 (ih' h0)

/-- After the last key block the output blocks hold the rows' averages of the values and logarithms of the sums. -/
theorem after_last (ht : t.val % 8 = 7) :
    (∀ (h : Fin 3) (r : Fin 1024) (d : Fin 128), (outsAt0 m c t.val t.isLt).1 (ix2 r (Tile.col h d))
        = ∑ u, vals m c (head t h) d u * (Fox.soft (D.logit (head t h) (queryRow t r)) (queryRow t r) u : EReal))
    ∧ (∀ (h : Fin 3) (r : Fin 1024), (outsAt0 m c t.val t.isLt).2.1 (ix3 h r 0)
        = (Fox.logSum (D.logit (head t h) (queryRow t r)) (queryRow t r) : EReal)) := by
  have H := before t (by omega) fun p _ => after_all R p.val p rfl
  have e8 : t.val % 8 + 1 = 8 := by omega
  by_cases h2 : t.val / 8 % 8 = t.val % 8
  · have hg : (true = true) ↔ t.val / 8 % 8 = t.val % 8 := ⟨fun _ => h2, fun _ => rfl⟩
    have N := fun (h : Fin 3) (r : Fin 1024) => row_next R t h true r (by omega) hg (H h r)
    rw [e8] at N
    rw [outsAt0_G m c t (by omega) (by omega) h2 ht]
    refine ⟨fun h r d => ?_, fun h r => ?_⟩
    · dsimp only
      rw [Tile.out_G_4]
      exact (N h r).output d
    · dsimp only
      rw [Tile.out_G_5]
      exact (N h r).logSum
  · have N := fun (h : Fin 3) (r : Fin 1024) => row_skip t r (by omega) (H h r)
    rw [e8] at N
    rw [outsAt0_C m c t (by omega) (by omega) h2 ht]
    refine ⟨fun h r d => ?_, fun h r => ?_⟩
    · dsimp only
      rw [Tile.out_C_4]
      exact (N h r).output d
    · dsimp only
      rw [Tile.out_C_5]
      exact (N h r).logSum

/-! ## The arrays -/

omit R in
/-- Every column of a block is a feature of one of its heads. -/
theorem col_exists (e : Fin 384) : ∃ h d, e = Tile.col h d :=
  ⟨⟨e.val / 128, by omega⟩, ⟨e.val % 128, by omega⟩, Fin.ext (by simp only [Tile.col]; omega)⟩

/-- The array of the outputs, given as any array `G` that reads the averages of the values under the softmax. -/
theorem array_out (G : Buf (Elt Ideal) ((c : Thread nD τ).loc main_v4_0))
    (hG : ∀ g d s, G (ix2 s (Fox.col g d)) = ∑ u, vals m c g d u * (Fox.soft (D.logit g s) s u : EReal)) : (dats m 0 c).arrAt 4 cfg0.N = G := by
  refine (dats m 0 c).arrAt_eq_of_covers 4 G (by decide +kernel) fun t hf y => ?_
  blk_simp
  rw [after0_4]
  idx_vars y
  obtain ⟨h, d, rfl⟩ := col_exists y1
  refine ((after_last R t ((flush0_4 t).mp hf)).1 h y0 d).trans ((hG _ _ _).symm.trans (congrArg G ?_))
  blk_ext [index_o t, queryRow, head, Fox.col, Tile.col]

/-- The array of the rows' logarithms of the sums, given as any array `G` that reads them. -/
theorem array_log (G : Buf (Elt Ideal) ((c : Thread nD τ).loc main_v4_1))
    (hG : ∀ (g : Fin 6) (s : Fin 8192), G (ix3 g s 0) = (Fox.logSum (D.logit g s) s : EReal)) : (dats m 0 c).arrAt 5 cfg0.N = G := by
  refine (dats m 0 c).arrAt_eq_of_covers 5 G (by decide +kernel) fun t hf y => ?_
  blk_simp
  rw [after0_5]
  idx_vars y
  obtain rfl : y2 = 0 := Subsingleton.elim _ _
  refine ((after_last R t ((flush0_5 t).mp hf)).2 y0 y1).trans ((hG _ _).symm.trans (congrArg G ?_))
  blk_ext [index_l t, queryRow, head]

end Cert.AttIdeal.Real
-- ==== Proof.AttRef.lean ====
/-
  WHAT THE REFERENCE OF THE ATTENTION'S FORWARD PASS COMPUTES: each row's average of the values under the causal softmax of the
  scores, and the row's logarithm of the sum in base two. The queries, keys and gates are reals; the values are any extended
  reals.
-/
module

public import proofs.«01_k».proof.Proof.AttReal
public import proofs.«01_k».proof.Proof.Gen.AttRefIdeal.Read
public import Idealize.ShloMosaic.Lib.Pointwise

@[expose] public section

set_option maxRecDepth 16384

noncomputable section

namespace Cert.AttRefIdeal.Real

open Cert.AttRefIdeal Cert.AttRefIdeal.Gen Cert.AttRefIdeal.Read Idealize.ShloMosaic
open scoped BigOperators

variable (x0 : (⟨S8192x1024, .bf16⟩ : BufTy).Contents (Elt Ideal)) (x1 x2 : (⟨S8192x768, .bf16⟩ : BufTy).Contents (Elt Ideal)) (x3 : (⟨S6x8192, .f32⟩ : BufTy).Contents (Elt Ideal))

section Raw

theorem raw_v15 (g : Fin 6) (s t : Fin 8192) : val_main_v15 (F := Ideal) x0 x1 x3 (ix3 g s t)
    = (∑ d, x0 (ix2 s (Fox.colP g d)) * x1 (ix2 t (Fox.col g d))) * Ideal.ofBits .f32 0x3DB504F3#32 + x3 (ix2 g s) - x3 (ix2 g t) := by
  pointwise [val_main_v15, val_main_v14, val_main_v13, val_main_v12, val_main_v11, val_main_v10, val_main_v9, val_main_v8, val_main_cst,
    val_main_v7, val_main_v4, val_main_v3, val_main_v2, val_main_v1, val_main_v0]
  rfl

theorem raw_v24 (g : Fin 6) (s t : Fin 8192) : val_main_v24 (F := Ideal) x0 x1 x3 (ix3 g s t)
    = Scalar.select (IntOp.cmpi .sle (BitVec.ofNat 32 t.val) (BitVec.ofNat 32 s.val)) (val_main_v15 (F := Ideal) x0 x1 x3 (ix3 g s t))
        (Ideal.ofBits .f32 0xFF800000#32) := by
  pointwise [val_main_v24, val_main_v23, val_main_v22, val_main_v21, val_main_v20, val_main_v19, val_main_v18, val_main_v17, val_main_v16, val_main_cst_0]

theorem raw_v25 (g : Fin 6) (s : Fin 8192) : val_main_v25 (F := Ideal) x0 x1 x3 (ix2 g s)
    = Finset.fold max (Ideal.ofBits .f32 0xFF800000#32) (fun t : Fin 8192 => val_main_v24 (F := Ideal) x0 x1 x3 (ix3 g s t)) Finset.univ := by
  pointwise [val_main_v25, val_main_cst_1]

theorem raw_v29 (g : Fin 6) (s t : Fin 8192) : val_main_v29 (F := Ideal) x0 x1 x3 (ix3 g s t)
    = Ideal.exp (val_main_v24 (F := Ideal) x0 x1 x3 (ix3 g s t) - val_main_v25 (F := Ideal) x0 x1 x3 (ix2 g s)) := by
  pointwise [val_main_v29, val_main_v28, val_main_v27, val_main_v26]

theorem idx_v30 (g : Fin 6) (s t : Fin 8192) : idx_main_v30 (ix2 g s) t = ix3 g s t :=
  funext fun a => Fin.ext (by match a with | ⟨0, _⟩ => rfl | ⟨1, _⟩ => rfl | ⟨2, _⟩ => rfl)

theorem raw_v30 (g : Fin 6) (s : Fin 8192) : val_main_v30 (F := Ideal) x0 x1 x3 (ix2 g s)
    = ∑ t : Fin 8192, val_main_v29 (F := Ideal) x0 x1 x3 (ix3 g s t) := by
  have e := val_main_v30_apply x0 x1 x3 (ix2 g s)
  have h0 : (val_main_cst_2 (F := Ideal)) (Shape.Idx.first h_S_) = 0 := by rw [val_main_cst_2_apply]; exact Ideal.ofBits_zero_f32
  generalize val_main_v30 (F := Ideal) x0 x1 x3 (ix2 g s) = a at e ⊢
  generalize val_main_v29 (F := Ideal) x0 x1 x3 = y at e ⊢
  rw [e, h0, zero_add]
  simp only [idx_v30]

theorem raw_v34 (g : Fin 6) (d : Fin 128) (s : Fin 8192) : val_main_v34 (F := Ideal) x0 x1 x2 x3 (ix3 g d s)
    = ∑ t : Fin 8192, x2 (ix2 t (Fox.col g d)) * Ideal.div (val_main_v29 (F := Ideal) x0 x1 x3 (ix3 g s t)) (val_main_v30 (F := Ideal) x0 x1 x3 (ix2 g s)) := by
  unfold val_main_v34 val_main_v33 val_main_v32 val_main_v31
  generalize val_main_v30 (F := Ideal) x0 x1 x3 = l
  generalize val_main_v29 (F := Ideal) x0 x1 x3 = e
  pointwise [val_main_v6, val_main_v5]
  rfl

theorem at_v36 (g : Fin 6) (s : Fin 8192) (d : Fin 128) : idx_main_v36 (ix2 s (Fox.col g d)) = ix3 s g d :=
  funext fun a => Fin.ext (by match a with
      | ⟨0, _⟩ => show (s.val * 768 + (g.val * 128 + d.val)) / 768 = s.val; omega
      | ⟨1, _⟩ => show (s.val * 768 + (g.val * 128 + d.val)) / 128 % 6 = g.val; omega
      | ⟨2, _⟩ => show (s.val * 768 + (g.val * 128 + d.val)) % 128 = d.val; omega)
theorem at_v35 (g : Fin 6) (s : Fin 8192) (d : Fin 128) : idx_main_v35 (ix3 s g d) = ix3 g d s :=
  funext fun a => Fin.ext (by match a with | ⟨0, _⟩ => rfl | ⟨1, _⟩ => rfl | ⟨2, _⟩ => rfl)

theorem raw_v36 (g : Fin 6) (d : Fin 128) (s : Fin 8192) : val_main_v36 (F := Ideal) x0 x1 x2 x3 (ix2 s (Fox.col g d))
    = val_main_v34 (F := Ideal) x0 x1 x2 x3 (ix3 g d s) := by
  rw [val_main_v36_apply, val_main_v35_apply, at_v36, at_v35]

theorem raw_v37 (g : Fin 6) (d : Fin 128) (s : Fin 8192) : val_main_v37 (F := Ideal) x0 x1 x2 x3 (ix2 s (Fox.col g d))
    = val_main_v34 (F := Ideal) x0 x1 x2 x3 (ix3 g d s) := by
  refine Eq.trans ?_ (raw_v36 x0 x1 x2 x3 g d s)
  rw [val_main_v37_apply]
  generalize val_main_v36 (F := Ideal) x0 x1 x2 x3 = e
  rfl

theorem raw_v44 (g : Fin 6) (s : Fin 8192) : val_main_v44 (F := Ideal) x0 x1 x3 (ix3 g s 0)
    = Ideal.div (val_main_v25 (F := Ideal) x0 x1 x3 (ix2 g s) + Ideal.log (val_main_v30 (F := Ideal) x0 x1 x3 (ix2 g s)) - x3 (ix2 g s))
        (Ideal.log (Ideal.ofBits .f32 0x40000000#32)) := by
  have i1 : idx_main_v31 (ix3 g s 0) = ix2 g s := funext fun a => Fin.ext (by match a with | ⟨0, _⟩ => rfl | ⟨1, _⟩ => rfl)
  have i2 : idx_main_v26 (ix3 g s 0) = ix2 g s := funext fun a => Fin.ext (by match a with | ⟨0, _⟩ => rfl | ⟨1, _⟩ => rfl)
  have i3 : idx_main_v40 (ix3 g s 0) = ix2 g s := funext fun a => Fin.ext (by match a with | ⟨0, _⟩ => rfl | ⟨1, _⟩ => rfl)
  rw [val_main_v44_apply, val_main_v41_apply, val_main_v39_apply, val_main_v38_apply, val_main_v31_apply, val_main_v26_apply, val_main_v40_apply,
    val_main_v43_apply, val_main_v42_apply, val_main_cst_3_apply, i1, i2, i3]
  generalize val_main_v30 (F := Ideal) x0 x1 x3 = l
  generalize val_main_v25 (F := Ideal) x0 x1 x3 = e
  rfl

end Raw

variable {x0 x1 x2 x3} {D : Fox.Data} {y2 : (⟨2, ![8192, 768]⟩ : Shape).Idx → EReal} {y4 : (⟨2, ![8192, 1024]⟩ : Shape).Idx → EReal}
  (R : Fox.Reads D x0 y4 x1 y2 x3)
include R

/-- The scores are reals: those of the kernel and the row's gate. -/
theorem logit (g : Fin 6) (s t : Fin 8192) : val_main_v15 (F := Ideal) x0 x1 x3 (ix3 g s t) = ((D.logit g s t + D.c g s : ℝ) : EReal) := by
  rw [raw_v15, R.c, R.c, Fox.ofBits_scale, ← R.sc]
  simp only [R.q, R.k, ← EReal.coe_mul, Fox.coe_sum, ← EReal.coe_sub, ← EReal.coe_add]
  congr 1
  unfold Fox.Data.logit
  ring

/-- The masked scores are a causal row. -/
theorem masked (g : Fin 6) (s t : Fin 8192) : val_main_v24 (F := Ideal) x0 x1 x3 (ix3 g s t) = Fox.row (fun t => D.logit g s t + D.c g s) s t := by
  rw [raw_v24, Fox.select_le (by norm_num), logit R, Fox.ofBits_negInf]
  rfl

/-- A row's maximum is a real. -/
theorem rowMax (g : Fin 6) (s : Fin 8192) : ∃ M : ℝ, val_main_v25 (F := Ideal) x0 x1 x3 (ix2 g s) = (M : EReal) := by
  rw [raw_v25, Fox.ofBits_negInf]
  simp only [masked R]
  exact Fox.row_max _ _

section Max
variable {g : Fin 6} {s : Fin 8192} {M : ℝ} (hM : val_main_v25 (F := Ideal) x0 x1 x3 (ix2 g s) = (M : EReal))
include hM

/-- The weights are those of the kernel's scores less a real. -/
theorem weights (t : Fin 8192) : val_main_v29 (F := Ideal) x0 x1 x3 (ix3 g s t) = (Fox.weight (fun u => D.logit g s u - (M - D.c g s)) s t : EReal) := by
  rw [raw_v29, hM, masked R, Fox.exp_row]
  exact congrArg (fun y : Fin 8192 → ℝ => ((Fox.weight y s t : ℝ) : EReal)) (funext fun u => by ring)

theorem sumWeights : val_main_v30 (F := Ideal) x0 x1 x3 (ix2 g s) = ((∑ u, Fox.weight (fun u => D.logit g s u - (M - D.c g s)) s u : ℝ) : EReal) := by
  rw [raw_v30]
  simp only [weights R hM, Fox.coe_sum]

end Max

/-- The attention's output. -/
theorem output (g : Fin 6) (d : Fin 128) (s : Fin 8192) : val_main_v37 (F := Ideal) x0 x1 x2 x3 (ix2 s (Fox.col g d))
    = ∑ t, x2 (ix2 t (Fox.col g d)) * (Fox.soft (D.logit g s) s t : EReal) := by
  obtain ⟨M, hM⟩ := rowMax R g s
  rw [raw_v37, raw_v34]
  simp only [weights R hM, sumWeights R hM, Fox.div_real _ _ (Fox.sum_weight_pos _ _).ne']
  exact Finset.sum_congr rfl fun t _ => congrArg (fun p : ℝ => x2 (ix2 t (Fox.col g d)) * (p : EReal)) (Fox.soft_shift (D.logit g s) s _ t)

/-- The row's logarithm of the sum, less the row's gate, in base two. -/
theorem logSums (g : Fin 6) (s : Fin 8192) : val_main_v44 (F := Ideal) x0 x1 x3 (ix3 g s 0) = (Fox.logSum (D.logit g s) s : EReal) := by
  obtain ⟨M, hM⟩ := rowMax R g s
  rw [raw_v44, Fox.log_two, hM, sumWeights R hM, R.c, Ideal.log_coe, if_neg (not_le.mpr (Fox.sum_weight_pos _ _)), ← EReal.coe_add, ← EReal.coe_sub,
    Fox.div_real _ _ (Real.log_pos (by norm_num)).ne']
  refine congrArg Real.toEReal ?_
  unfold Fox.logSum
  rw [← Fox.log_sum_shift (D.logit g s) s (M - D.c g s)]
  refine congrArg (· / Real.log 2) ?_
  ring

end Cert.AttRefIdeal.Real
-- ==== Proof.AttClaims.lean ====
/-
  THE CLAIMS ABOUT THE ATTENTION'S FORWARD CALL, assembled.
-/
module

public import proofs.«01_k».proof.Defs
public import proofs.«01_k».proof.Proof.AttArray
public import proofs.«01_k».proof.Proof.AttRef
public import proofs.«01_k».proof.Proof.FoxFinite
public import proofs.«01_k».proof.Proof.Gen.Att.Frame
public import proofs.«01_k».proof.Proof.Gen.AttIdeal.Value
public import proofs.«01_k».proof.Proof.Gen.AttRefIdeal.Run
public import proofs.«01_k».proof.Proof.Gen.AttRefIdeal.Read
public import proofs.«01_k».proof.Proof.Gen.Pre_fox_fwd_finite
public import Idealize.ShloMosaic.Adequacy
public import Idealize.ShloMosaic.Init
public import Idealize.ShloMosaic.Lib.Pointwise

@[expose] public section

noncomputable section

namespace Cert.Proof.AttClaims

open Idealize.ShloMosaic Idealize.SL.Sem

/-! ## The precondition -/

open Cert.Pre_fox_fwd_finite Fox in
/-- The precondition at one element is three tests. -/
theorem fn_apply (x0 : FVec Ideal S8192x1024 .bf16) (x1 x2 : FVec Ideal S8192x768 .bf16) (x3 : FVec Ideal S6x8192 .f32)
    (s : Fin 8192) (g : Fin 6) (d : Fin 128) :
    fn (F := Ideal) x0 x1 x2 x3 (ix2 s (col g d)) = test (x3 (ix2 g s)) &&& test (x0 (ix2 s (colP g d))) &&& test (x1 (ix2 s (col g d))) := by
  pointwise [fn, test, col, colP]
  rfl

open Cert.Pre_fox_fwd_finite Fox in
/-- Queries, keys and gates that satisfy the precondition hold real data; zeros stand in for what the forward call's scores do
    not read. -/
theorem reads_of_finite (x0 : FVec Ideal S8192x1024 .bf16) (x1 x2 : FVec Ideal S8192x768 .bf16) (x3 : FVec Ideal S6x8192 .f32)
    (h : fn (F := Ideal) x0 x1 x2 x3 = fun _ => 1#1) : ∃ D : Data, Reads D x0 (fun _ => 0) x1 (fun _ => 0) x3 := by
  have key : ∀ s g d, test (x3 (ix2 g s)) &&& test (x0 (ix2 s (colP g d))) &&& test (x1 (ix2 s (col g d))) = 1#1 :=
    fun s g d => (fn_apply x0 x1 x2 x3 s g d).symm.trans (congrFun h _)
  exact ⟨⟨fun s g d => (x0 (ix2 s (colP g d))).toReal, fun s g d => (x1 (ix2 s (col g d))).toReal, fun _ _ _ => 0,
      fun g s => (x3 (ix2 g s)).toReal, fun _ _ _ => 0, scale⟩,
    fun s g d => real_of_test (both (both (key s g d)).1).2,
    fun s g d => real_of_test (both (key s g d)).2,
    fun _ _ _ => EReal.coe_zero.symm,
    fun g s => real_of_test (both (both (key s g 0)).1).1,
    fun _ _ _ => EReal.coe_zero.symm, rfl⟩

/-! ## The claims -/

/-- The kernel's frame. -/
theorem frame_kernel : Cert.quiescent_Att := fun m ρ _ => Cert.Att.Gen.frame m ρ
/-- The ideal kernel's frame. -/
theorem frame_ideal : Cert.quiescent_AttIdeal := fun m ρ _ => Cert.AttIdeal.Gen.frame m ρ
/-- The ideal kernel's frame under the precondition. -/
theorem frame_ideal_pre : Cert.quiescent_AttIdeal_pre_fox_fwd_finite := fun m ρ _ => Cert.AttIdeal.Gen.frame m ρ

/-- The reference's frame. -/
theorem frame_ref : Cert.quiescent_AttRefIdeal := fun m ρ _ =>
  (θ_run Cert.AttRefIdeal.defs _ _).mono (fun r h => ⟨fun c => (h c).2.2, sem_eq_zero_of_no_sems (by decide) r.2⟩)
    (Cert.AttRefIdeal.Value.run (F := Ideal) m ρ)
/-- The reference's frame under the precondition. -/
theorem frame_ref_pre : Cert.quiescent_AttRefIdeal_pre_fox_fwd_finite := fun m ρ _ => frame_ref m ρ trivial

/-- The ideal program is the kernel with its two constants named. -/
theorem preserves : Cert.preserves_Att_AttIdeal :=
  ⟨IdealRules.named_const.statement _ _ _ _ _ rfl, IdealRules.named_const.statement _ _ _ _ _ rfl⟩

/-- Kernel and reference compute the same outputs and the same logarithms of the rows' sums. -/
theorem algebraic : Cert.algebraic_AttIdeal_AttRefIdeal_pre_fox_fwd_finite := by
  intro m ρ m' ρ' hpre hagree
  refine ⟨fun c => (Cert.AttIdeal.Gen.dats m 0 c).arrAt 4 Cert.AttIdeal.cfg0.N, fun c => (Cert.AttIdeal.Gen.dats m 0 c).arrAt 5 Cert.AttIdeal.cfg0.N,
    Cert.AttIdeal.Value.run_blocks (F := Ideal) m ρ, ?_⟩
  refine (θ_run Cert.AttRefIdeal.defs _ _).mono (fun r h c => ?_) (Cert.AttRefIdeal.Value.run (F := Ideal) m' ρ')
  obtain ⟨e0, e1, e2, e3⟩ := hagree c
  obtain ⟨D, R⟩ := reads_of_finite _ _ _ _ (hpre c)
  obtain ⟨h1, h2, hrest⟩ := h c
  refine ⟨h1.trans ?_, h2.trans ?_, hrest⟩
  · rw [Cert.AttRefIdeal.Read.val_main_v37_eq, e0, e1, e2, e3]
    exact (Cert.AttIdeal.Real.array_out R _ fun g d s => Cert.AttRefIdeal.Real.output R g d s).symm
  · rw [Cert.AttRefIdeal.Read.val_main_v44_eq, e0, e1, e3]
    exact (Cert.AttIdeal.Real.array_log R _ fun g s => Cert.AttRefIdeal.Real.logSums R g s).symm

end Cert.Proof.AttClaims
-- ==== Proof.lean ====
/-
  THE PROOF OF `Cert.Claim`: the facts of the printed programs, then the frames and values of the attention's backward call (Dkv),
  of the feed-forward layer's backward call (Ffn) and of its forward call (Fwd), and of the attention's forward call (Att).
-/
module

public import proofs.«01_k».proof.Defs
public import proofs.«01_k».proof.Proof.Gen.Dkv
public import proofs.«01_k».proof.Proof.Gen.Dkv.Skeleton
public import proofs.«01_k».proof.Proof.Gen.Dkv.Launch
public import proofs.«01_k».proof.Proof.Gen.Dkv.Points
public import proofs.«01_k».proof.Proof.Gen.Dkv.Frame
public import proofs.«01_k».proof.Proof.Gen.DkvIdeal
public import proofs.«01_k».proof.Proof.Gen.DkvIdeal.Skeleton
public import proofs.«01_k».proof.Proof.Gen.DkvIdeal.Launch
public import proofs.«01_k».proof.Proof.Gen.DkvIdeal.Points
public import proofs.«01_k».proof.Proof.Gen.DkvIdeal.Frame
public import proofs.«01_k».proof.Proof.Gen.DkvRefIdeal
public import proofs.«01_k».proof.Proof.Gen.DkvSavedIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_fox_dkv_finite
public import proofs.«01_k».proof.Proof.Gen.Pre_ffn_finite
public import proofs.«01_k».proof.Proof.Gen.DkvIdeal.Value
public import proofs.«01_k».proof.Proof.Gen.DkvRefIdeal.Run
public import proofs.«01_k».proof.Proof.Gen.DkvRefIdeal.Read
public import proofs.«01_k».proof.Proof.Gen.DkvSavedIdeal.Run
public import proofs.«01_k».proof.Proof.Gen.DkvSavedIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Fwd
public import proofs.«01_k».proof.Proof.Gen.FwdIdeal
public import proofs.«01_k».proof.Proof.Gen.FwdRefIdeal
public import proofs.«01_k».proof.Proof.Gen.Fwd.Frame
public import proofs.«01_k».proof.Proof.Gen.FwdIdeal.Frame
public import proofs.«01_k».proof.Proof.Gen.FwdIdeal.Value
public import proofs.«01_k».proof.Proof.Gen.FwdRefIdeal.Run
public import proofs.«01_k».proof.Proof.Gen.FwdRefIdeal.Read
public import proofs.«01_k».proof.Proof.Gen.Att
public import proofs.«01_k».proof.Proof.Gen.AttIdeal
public import proofs.«01_k».proof.Proof.Gen.AttRefIdeal
public import proofs.«01_k».proof.Proof.Gen.Pre_fox_fwd_finite
public import proofs.«01_k».proof.Proof.Gen.Att.Frame
public import proofs.«01_k».proof.Proof.Gen.AttIdeal.Frame
public import proofs.«01_k».proof.Proof.Gen.AttIdeal.Value
public import proofs.«01_k».proof.Proof.Gen.AttRefIdeal.Run
public import proofs.«01_k».proof.Proof.Gen.AttRefIdeal.Read
public import proofs.«01_k».proof.Proof.DkvClaims
public import proofs.«01_k».proof.Proof.FfnClaims
public import proofs.«01_k».proof.Proof.FwdClaims
public import proofs.«01_k».proof.Proof.AttClaims
public import Idealize.ShloMosaic.Adequacy
public import Idealize.ShloMosaic.Init

@[expose] public section

noncomputable section

namespace Cert.Proof

open Idealize.ShloMosaic Idealize.SL.Sem Cert.Dkv

/-- Everything that Defs.lean claims. -/
theorem claim : Cert.Claim := ⟨Cert.Dkv.Gen.facts, Cert.DkvIdeal.Gen.facts, Cert.DkvRefIdeal.Gen.facts, Cert.DkvSavedIdeal.Gen.facts,
  Cert.Ffn.Gen.facts, Cert.FfnIdeal.Gen.facts, Cert.FfnRefIdeal.Gen.facts,
  Cert.Fwd.Gen.facts, Cert.FwdIdeal.Gen.facts, Cert.FwdRefIdeal.Gen.facts,
  Cert.Att.Gen.facts, Cert.AttIdeal.Gen.facts, Cert.AttRefIdeal.Gen.facts,
  Cert.Pre_fox_dkv_finite.Gen.facts, Cert.Pre_ffn_finite.Gen.facts, Cert.Pre_fox_fwd_finite.Gen.facts,
  DkvClaims.frame_kernel, DkvClaims.frame_ideal, DkvClaims.frame_ideal_pre, DkvClaims.frame_ref, DkvClaims.frame_ref_pre, DkvClaims.frame_saved,
  FfnClaims.frame_kernel, FfnClaims.frame_ideal, FfnClaims.frame_ideal_pre, FfnClaims.frame_ref, FfnClaims.frame_ref_pre,
  FwdClaims.frame_kernel, FwdClaims.frame_ideal, FwdClaims.frame_ref,
  AttClaims.frame_kernel, AttClaims.frame_ideal, AttClaims.frame_ideal_pre, AttClaims.frame_ref, AttClaims.frame_ref_pre,
  DkvClaims.preserves, DkvClaims.algebraic, FfnClaims.preserves, FfnClaims.algebraic, FwdClaims.preserves, FwdClaims.algebraic,
  AttClaims.preserves, AttClaims.algebraic⟩

end Cert.Proof

end
